-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_ssq_nonneg [hPre_ssq_nonneg : Cert.Pre_ssq_nonneg.Facts] (m : (ℓ : Loc Cert.UpIdeal.nD Cert.UpIdeal.τ Cert.UpIdeal.sig) → Buf (Elt Ideal) ℓ) : Prop :=
  ∀ c : Dev Cert.UpIdeal.nD,
    (Cert.Pre_ssq_nonneg.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_ssq_nonneg [hPre_ssq_nonneg : Cert.Pre_ssq_nonneg.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_ssq_nonneg.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_qk_finite [hPre_qk_finite : Cert.Pre_qk_finite.Facts] (m : (ℓ : Loc Cert.FlashIdeal.nD Cert.FlashIdeal.τ Cert.FlashIdeal.sig) → Buf (Elt Ideal) ℓ) : Prop :=
  ∀ c : Dev Cert.FlashIdeal.nD,
    (Cert.Pre_qk_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3)) (m ((c.tc : Thread Cert.FlashIdeal.nD Cert.FlashIdeal.τ).loc Cert.FlashIdeal.main_arg4)) (m ((c.tc : Thread Cert.FlashIdeal.nD Cert.FlashIdeal.τ).loc Cert.FlashIdeal.main_arg5)) (m ((c.tc : Thread Cert.FlashIdeal.nD Cert.FlashIdeal.τ).loc Cert.FlashIdeal.main_arg6))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_qk_finite [hPre_qk_finite : Cert.Pre_qk_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_qk_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3)) (m ((c.tc : Thread Cert.FlashRefIdeal.nD Cert.FlashRefIdeal.τ).loc Cert.FlashRefIdeal.main_arg4)) (m ((c.tc : Thread Cert.FlashRefIdeal.nD Cert.FlashRefIdeal.τ).loc Cert.FlashRefIdeal.main_arg5)) (m ((c.tc : Thread Cert.FlashRefIdeal.nD Cert.FlashRefIdeal.τ).loc Cert.FlashRefIdeal.main_arg6))) = (fun _ => 1#1)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_ssq_nonneg [hUpIdeal : Cert.UpIdeal.Facts] [hPre_ssq_nonneg : Cert.Pre_ssq_nonneg.Facts] : Prop :=
  ∀ (m : (ℓ : Loc Cert.UpIdeal.nD Cert.UpIdeal.τ Cert.UpIdeal.sig) → Buf (Elt Ideal) ℓ) (g : Dev Cert.UpIdeal.nD → PrngReg), Pre_UpIdeal_ssq_nonneg m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_ssq_nonneg [hUpRefIdeal : Cert.UpRefIdeal.Facts] [hPre_ssq_nonneg : Cert.Pre_ssq_nonneg.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_ssq_nonneg m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3)
      ∧ r.2.mem ((c.tc : Thread Cert.Flash.nD Cert.Flash.τ).loc Cert.Flash.main_arg4) = m ((c.tc : Thread Cert.Flash.nD Cert.Flash.τ).loc Cert.Flash.main_arg4)
      ∧ r.2.mem ((c.tc : Thread Cert.Flash.nD Cert.Flash.τ).loc Cert.Flash.main_arg5) = m ((c.tc : Thread Cert.Flash.nD Cert.Flash.τ).loc Cert.Flash.main_arg5)
      ∧ r.2.mem ((c.tc : Thread Cert.Flash.nD Cert.Flash.τ).loc Cert.Flash.main_arg6) = m ((c.tc : Thread Cert.Flash.nD Cert.Flash.τ).loc Cert.Flash.main_arg6))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
      ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5)
      ∧ r.2.mem ((c.tc : Thread Cert.FlashIdeal.nD Cert.FlashIdeal.τ).loc Cert.FlashIdeal.main_arg6) = m ((c.tc : Thread Cert.FlashIdeal.nD Cert.FlashIdeal.τ).loc Cert.FlashIdeal.main_arg6))
      ∧ r.2.sem = fun _ => 0)

def quiescent_FlashIdeal_pre_qk_finite [hFlashIdeal : Cert.FlashIdeal.Facts] [hPre_qk_finite : Cert.Pre_qk_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_qk_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
      ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
      ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5)
      ∧ r.2.mem ((c.tc : Thread Cert.FlashIdeal.nD Cert.FlashIdeal.τ).loc Cert.FlashIdeal.main_arg6) = m ((c.tc : Thread Cert.FlashIdeal.nD Cert.FlashIdeal.τ).loc Cert.FlashIdeal.main_arg6))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3)
      ∧ r.2.mem ((c.tc : Thread Cert.FlashRefIdeal.nD Cert.FlashRefIdeal.τ).loc Cert.FlashRefIdeal.main_arg4) = m ((c.tc : Thread Cert.FlashRefIdeal.nD Cert.FlashRefIdeal.τ).loc Cert.FlashRefIdeal.main_arg4)
      ∧ r.2.mem ((c.tc : Thread Cert.FlashRefIdeal.nD Cert.FlashRefIdeal.τ).loc Cert.FlashRefIdeal.main_arg5) = m ((c.tc : Thread Cert.FlashRefIdeal.nD Cert.FlashRefIdeal.τ).loc Cert.FlashRefIdeal.main_arg5)
      ∧ r.2.mem ((c.tc : Thread Cert.FlashRefIdeal.nD Cert.FlashRefIdeal.τ).loc Cert.FlashRefIdeal.main_arg6) = m ((c.tc : Thread Cert.FlashRefIdeal.nD Cert.FlashRefIdeal.τ).loc Cert.FlashRefIdeal.main_arg6))
      ∧ r.2.sem = fun _ => 0)

def quiescent_FlashRefIdeal_pre_qk_finite [hFlashRefIdeal : Cert.FlashRefIdeal.Facts] [hPre_qk_finite : Cert.Pre_qk_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_qk_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3)
      ∧ r.2.mem ((c.tc : Thread Cert.FlashRefIdeal.nD Cert.FlashRefIdeal.τ).loc Cert.FlashRefIdeal.main_arg4) = m ((c.tc : Thread Cert.FlashRefIdeal.nD Cert.FlashRefIdeal.τ).loc Cert.FlashRefIdeal.main_arg4)
      ∧ r.2.mem ((c.tc : Thread Cert.FlashRefIdeal.nD Cert.FlashRefIdeal.τ).loc Cert.FlashRefIdeal.main_arg5) = m ((c.tc : Thread Cert.FlashRefIdeal.nD Cert.FlashRefIdeal.τ).loc Cert.FlashRefIdeal.main_arg5)
      ∧ r.2.mem ((c.tc : Thread Cert.FlashRefIdeal.nD Cert.FlashRefIdeal.τ).loc Cert.FlashRefIdeal.main_arg6) = m ((c.tc : Thread Cert.FlashRefIdeal.nD Cert.FlashRefIdeal.τ).loc Cert.FlashRefIdeal.main_arg6))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Up_UpIdeal : Prop :=
  True

def algebraic_UpIdeal_UpRefIdeal_pre_ssq_nonneg [hUpIdeal : Cert.UpIdeal.Facts] [hUpRefIdeal : Cert.UpRefIdeal.Facts] [hPre_ssq_nonneg : Cert.Pre_ssq_nonneg.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_ssq_nonneg m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v13) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v92) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v1_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v1_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v11) = v1 c
          ∧ r.2.mem ((c.tc : Thread Cert.OutRefIdeal.nD Cert.OutRefIdeal.τ).loc Cert.OutRefIdeal.main_v12) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_v15) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Flash_FlashIdeal : Prop :=
  True

def algebraic_FlashIdeal_FlashRefIdeal_pre_qk_finite [hFlashIdeal : Cert.FlashIdeal.Facts] [hFlashRefIdeal : Cert.FlashRefIdeal.Facts] [hPre_qk_finite : Cert.Pre_qk_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_qk_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)
      ∧ m' ((c.tc : Thread Cert.FlashRefIdeal.nD Cert.FlashRefIdeal.τ).loc Cert.FlashRefIdeal.main_arg4) = m ((c.tc : Thread Cert.FlashIdeal.nD Cert.FlashIdeal.τ).loc Cert.FlashIdeal.main_arg4)
      ∧ m' ((c.tc : Thread Cert.FlashRefIdeal.nD Cert.FlashRefIdeal.τ).loc Cert.FlashRefIdeal.main_arg5) = m ((c.tc : Thread Cert.FlashIdeal.nD Cert.FlashIdeal.τ).loc Cert.FlashIdeal.main_arg5)
      ∧ m' ((c.tc : Thread Cert.FlashRefIdeal.nD Cert.FlashRefIdeal.τ).loc Cert.FlashRefIdeal.main_arg6) = m ((c.tc : Thread Cert.FlashIdeal.nD Cert.FlashIdeal.τ).loc Cert.FlashIdeal.main_arg6)) →
    ∃ (v0 : (c : Dev Cert.FlashIdeal.nD) → Buf (Elt Ideal) ((c.tc : Thread Cert.FlashIdeal.nD Cert.FlashIdeal.τ).loc Cert.FlashIdeal.main_v29_0)) (v1 : (c : Dev Cert.FlashIdeal.nD) → Buf (Elt Ideal) ((c.tc : Thread Cert.FlashIdeal.nD Cert.FlashIdeal.τ).loc Cert.FlashIdeal.main_v29_1)) (v2 : (c : Dev Cert.FlashIdeal.nD) → Buf (Elt Ideal) ((c.tc : Thread Cert.FlashIdeal.nD Cert.FlashIdeal.τ).loc Cert.FlashIdeal.main_v29_2)) (v3 : (c : Dev Cert.FlashIdeal.nD) → Buf (Elt Ideal) ((c.tc : Thread Cert.FlashIdeal.nD Cert.FlashIdeal.τ).loc Cert.FlashIdeal.main_v29_3)) (v4 : (c : Dev Cert.FlashIdeal.nD) → Buf (Elt Ideal) ((c.tc : Thread Cert.FlashIdeal.nD Cert.FlashIdeal.τ).loc Cert.FlashIdeal.main_v29_4)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v29_0) = v0 c
          ∧ r.2.mem ((c.tc : Thread Cert.FlashIdeal.nD Cert.FlashIdeal.τ).loc Cert.FlashIdeal.main_v29_1) = v1 c
          ∧ r.2.mem ((c.tc : Thread Cert.FlashIdeal.nD Cert.FlashIdeal.τ).loc Cert.FlashIdeal.main_v29_2) = v2 c
          ∧ r.2.mem ((c.tc : Thread Cert.FlashIdeal.nD Cert.FlashIdeal.τ).loc Cert.FlashIdeal.main_v29_3) = v3 c
          ∧ r.2.mem ((c.tc : Thread Cert.FlashIdeal.nD Cert.FlashIdeal.τ).loc Cert.FlashIdeal.main_v29_4) = v4 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3)
          ∧ r.2.mem ((c.tc : Thread Cert.FlashIdeal.nD Cert.FlashIdeal.τ).loc Cert.FlashIdeal.main_arg4) = m ((c.tc : Thread Cert.FlashIdeal.nD Cert.FlashIdeal.τ).loc Cert.FlashIdeal.main_arg4)
          ∧ r.2.mem ((c.tc : Thread Cert.FlashIdeal.nD Cert.FlashIdeal.τ).loc Cert.FlashIdeal.main_arg5) = m ((c.tc : Thread Cert.FlashIdeal.nD Cert.FlashIdeal.τ).loc Cert.FlashIdeal.main_arg5)
          ∧ r.2.mem ((c.tc : Thread Cert.FlashIdeal.nD Cert.FlashIdeal.τ).loc Cert.FlashIdeal.main_arg6) = m ((c.tc : Thread Cert.FlashIdeal.nD Cert.FlashIdeal.τ).loc Cert.FlashIdeal.main_arg6))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v28) = v0 c
          ∧ r.2.mem ((c.tc : Thread Cert.FlashRefIdeal.nD Cert.FlashRefIdeal.τ).loc Cert.FlashRefIdeal.main_v30) = v1 c
          ∧ r.2.mem ((c.tc : Thread Cert.FlashRefIdeal.nD Cert.FlashRefIdeal.τ).loc Cert.FlashRefIdeal.main_v31) = v2 c
          ∧ r.2.mem ((c.tc : Thread Cert.FlashRefIdeal.nD Cert.FlashRefIdeal.τ).loc Cert.FlashRefIdeal.main_v32) = v3 c
          ∧ r.2.mem ((c.tc : Thread Cert.FlashRefIdeal.nD Cert.FlashRefIdeal.τ).loc Cert.FlashRefIdeal.main_v33) = v4 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3)
          ∧ r.2.mem ((c.tc : Thread Cert.FlashRefIdeal.nD Cert.FlashRefIdeal.τ).loc Cert.FlashRefIdeal.main_arg4) = m' ((c.tc : Thread Cert.FlashRefIdeal.nD Cert.FlashRefIdeal.τ).loc Cert.FlashRefIdeal.main_arg4)
          ∧ r.2.mem ((c.tc : Thread Cert.FlashRefIdeal.nD Cert.FlashRefIdeal.τ).loc Cert.FlashRefIdeal.main_arg5) = m' ((c.tc : Thread Cert.FlashRefIdeal.nD Cert.FlashRefIdeal.τ).loc Cert.FlashRefIdeal.main_arg5)
          ∧ r.2.mem ((c.tc : Thread Cert.FlashRefIdeal.nD Cert.FlashRefIdeal.τ).loc Cert.FlashRefIdeal.main_arg6) = m' ((c.tc : Thread Cert.FlashRefIdeal.nD Cert.FlashRefIdeal.τ).loc Cert.FlashRefIdeal.main_arg6))

def Claim : Prop :=
  ∃ (hInProj : Cert.InProj.Facts) (hInProjIdeal : Cert.InProjIdeal.Facts) (hInProjRefIdeal : Cert.InProjRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hHgrn : Cert.Hgrn.Facts) (hHgrnIdeal : Cert.HgrnIdeal.Facts) (hHgrnRefIdeal : Cert.HgrnRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hFlash : Cert.Flash.Facts) (hFlashIdeal : Cert.FlashIdeal.Facts) (hFlashRefIdeal : Cert.FlashRefIdeal.Facts) (hPre_ssq_nonneg : Cert.Pre_ssq_nonneg.Facts) (hPre_qk_finite : Cert.Pre_qk_finite.Facts),
    quiescent_InProj (hInProj := hInProj)
    ∧ quiescent_InProjIdeal (hInProjIdeal := hInProjIdeal)
    ∧ quiescent_InProjRefIdeal (hInProjRefIdeal := hInProjRefIdeal)
    ∧ quiescent_Up (hUp := hUp)
    ∧ quiescent_UpIdeal (hUpIdeal := hUpIdeal)
    ∧ quiescent_UpIdeal_pre_ssq_nonneg (hUpIdeal := hUpIdeal) (hPre_ssq_nonneg := hPre_ssq_nonneg)
    ∧ quiescent_UpRefIdeal (hUpRefIdeal := hUpRefIdeal)
    ∧ quiescent_UpRefIdeal_pre_ssq_nonneg (hUpRefIdeal := hUpRefIdeal) (hPre_ssq_nonneg := hPre_ssq_nonneg)
    ∧ quiescent_Down (hDown := hDown)
    ∧ quiescent_DownIdeal (hDownIdeal := hDownIdeal)
    ∧ quiescent_DownRefIdeal (hDownRefIdeal := hDownRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Flash (hFlash := hFlash)
    ∧ quiescent_FlashIdeal (hFlashIdeal := hFlashIdeal)
    ∧ quiescent_FlashIdeal_pre_qk_finite (hFlashIdeal := hFlashIdeal) (hPre_qk_finite := hPre_qk_finite)
    ∧ quiescent_FlashRefIdeal (hFlashRefIdeal := hFlashRefIdeal)
    ∧ quiescent_FlashRefIdeal_pre_qk_finite (hFlashRefIdeal := hFlashRefIdeal) (hPre_qk_finite := hPre_qk_finite)
    ∧ preserves_InProj_InProjIdeal
    ∧ algebraic_InProjIdeal_InProjRefIdeal (hInProjIdeal := hInProjIdeal) (hInProjRefIdeal := hInProjRefIdeal)
    ∧ preserves_Up_UpIdeal
    ∧ algebraic_UpIdeal_UpRefIdeal_pre_ssq_nonneg (hUpIdeal := hUpIdeal) (hUpRefIdeal := hUpRefIdeal) (hPre_ssq_nonneg := hPre_ssq_nonneg)
    ∧ preserves_Down_DownIdeal
    ∧ algebraic_DownIdeal_DownRefIdeal (hDownIdeal := hDownIdeal) (hDownRefIdeal := hDownRefIdeal)
    ∧ preserves_Hgrn_HgrnIdeal
    ∧ algebraic_HgrnIdeal_HgrnRefIdeal (hHgrnIdeal := hHgrnIdeal) (hHgrnRefIdeal := hHgrnRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Flash_FlashIdeal
    ∧ algebraic_FlashIdeal_FlashRefIdeal_pre_qk_finite (hFlashIdeal := hFlashIdeal) (hFlashRefIdeal := hFlashRefIdeal) (hPre_qk_finite := hPre_qk_finite)
-- ==== Pre_qk_finite.lean ====
abbrev S2x8192x16x192 : Shape := ⟨4, ![2, 8192, 16, 192]⟩
abbrev S2x8192x16x128 : Shape := ⟨4, ![2, 8192, 16, 128]⟩
abbrev S9536x4096 : Shape := ⟨2, ![9536, 4096]⟩
abbrev S4096x4096 : Shape := ⟨2, ![4096, 4096]⟩
abbrev S4096x16384 : Shape := ⟨2, ![4096, 16384]⟩
abbrev S16384x4096 : Shape := ⟨2, ![16384, 4096]⟩
abbrev S_ : Shape := ⟨0, ![]⟩

class Facts : Prop where
  bcast_S_S2x8192x16x192 : S_.BroadcastsInDim S2x8192x16x192 (![] : Fin 0 → Fin S2x8192x16x192.rank)

variable [Facts]

def fn {F : FTy → Type} [FloatOps F] (main_arg0 : FVec F S2x8192x16x192 .f32) (main_arg1 : FVec F S2x8192x16x192 .f32) (main_arg2 : FVec F S2x8192x16x128 .f32) (main_arg3 : FVec F S9536x4096 .f32) (main_arg4 : FVec F S4096x4096 .f32) (main_arg5 : FVec F S4096x16384 .f32) (main_arg6 : FVec F S16384x4096 .f32) : IVec S2x8192x16x192 1 :=
  let main_v0 : FVec F S2x8192x16x192 .f32 := Host.absf main_arg0
  let main_cst : FVec F S_ .f32 := constant S_ .f32 0x7F800000#32
  let main_v1 : FVec F S2x8192x16x192 .f32 := broadcastInDim S2x8192x16x192 ![] bcast_S_S2x8192x16x192 main_cst
  let main_v2 : IVec S2x8192x16x192 1 := cmpf .olt main_v0 main_v1
  let main_v3 : FVec F S2x8192x16x192 .f32 := Host.absf main_arg1
  let main_cst_0 : FVec F S_ .f32 := constant S_ .f32 0x7F800000#32
  let main_v4 : FVec F S2x8192x16x192 .f32 := broadcastInDim S2x8192x16x192 ![] bcast_S_S2x8192x16x192 main_cst_0
  let main_v5 : IVec S2x8192x16x192 1 := cmpf .olt main_v3 main_v4
  let main_v6 : IVec S2x8192x16x192 1 := andi main_v2 main_v5
  main_v6
-- ==== Pre_ssq_nonneg.lean ====
abbrev S16384x4096 : Shape := ⟨2, ![16384, 4096]⟩
abbrev S4096x16384 : Shape := ⟨2, ![4096, 16384]⟩
abbrev S16384x128 : Shape := ⟨2, ![16384, 128]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x4096 .bf16) (main_arg1 : FVec F S4096x16384 .bf16) (main_arg2 : FVec F S16384x128 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg2 main_v0
  main_v1
-- ==== InProj.lean ====
abbrev S16384x4096 : Shape := ⟨2, ![16384, 4096]⟩
abbrev S8192x4096 : Shape := ⟨2, ![8192, 4096]⟩
abbrev S16384x8192 : Shape := ⟨2, ![16384, 8192]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S8192x4096, .bf16⟩
  | .hbm, ⟨2, _⟩ => ⟨S16384x8192, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S16384x4096 : Shape := ⟨2, ![16384, 4096]⟩
abbrev S8192x4096 : Shape := ⟨2, ![8192, 4096]⟩
abbrev S4096x8192 : Shape := ⟨2, ![4096, 8192]⟩
abbrev S16384x8192 : Shape := ⟨2, ![16384, 8192]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S8192x4096, .bf16⟩
  | .hbm, ⟨2, _⟩ => ⟨S16384x4096, .f32⟩
  | .hbm, ⟨3, _⟩ => ⟨S8192x4096, .f32⟩
  | .hbm, ⟨4, _⟩ => ⟨S4096x8192, .f32⟩
  | .hbm, ⟨5, _⟩ => ⟨S16384x8192, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S16384x4096 : Shape := ⟨2, ![16384, 4096]⟩
abbrev S4096x16384 : Shape := ⟨2, ![4096, 16384]⟩
abbrev S16384x128 : Shape := ⟨2, ![16384, 128]⟩
abbrev S16384x16384 : Shape := ⟨2, ![16384, 16384]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x128, .f32⟩
  | .hbm, ⟨3, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S16384x4096 : Shape := ⟨2, ![16384, 4096]⟩
abbrev S4096x16384 : Shape := ⟨2, ![4096, 16384]⟩
abbrev S16384x128 : Shape := ⟨2, ![16384, 128]⟩
abbrev S16384x1 : Shape := ⟨2, ![16384, 1]⟩
abbrev S_ : Shape := ⟨0, ![]⟩
abbrev S16384x16384 : Shape := ⟨2, ![16384, 16384]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x128, .f32⟩
  | .hbm, ⟨3, _⟩ => ⟨S16384x1, .f32⟩
  | .hbm, ⟨4, _⟩ => ⟨S_, .f32⟩
  | .hbm, ⟨5, _⟩ => ⟨S16384x1, .f32⟩
  | .hbm, ⟨6, _⟩ => ⟨S16384x1, .f32⟩
  | .hbm, ⟨7, _⟩ => ⟨S16384x4096, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1, .f32⟩
  | .hbm, ⟨12, _⟩ => ⟨S16384x4096, .f32⟩
  | .hbm, ⟨13, _⟩ => ⟨S16384x4096, .f32⟩
  | .hbm, ⟨14, _⟩ => ⟨S4096x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Down.lean ====
abbrev S16384x16384 : Shape := ⟨2, ![16384, 16384]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x16384 : Shape := ⟨2, ![16384, 16384]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x16384, .f32⟩
  | .hbm, ⟨4, _⟩ => ⟨S16384x4096, .f32⟩
  | .hbm, ⟨5, _⟩ => ⟨S16384x4096, .f32⟩
  | .hbm, ⟨6, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Hgrn.lean ====
abbrev S16384x8192 : Shape := ⟨2, ![16384, 8192]⟩
abbrev S2x2048 : Shape := ⟨2, ![2, 2048]⟩
abbrev S128 : Shape := ⟨1, ![128]⟩
abbrev S1x128 : Shape := ⟨2, ![1, 128]⟩
abbrev S16384x2048 : Shape := ⟨2, ![16384, 2048]⟩
abbrev S512x1024 : Shape := ⟨2, ![512, 1024]⟩
abbrev S2x1024 : Shape := ⟨2, ![2, 1024]⟩
abbrev S8x128x128 : Shape := ⟨3, ![8, 128, 128]⟩
abbrev S1024 : Shape := ⟨1, ![1024]⟩
abbrev S1x1024 : Shape := ⟨2, ![1, 1024]⟩
abbrev S64x64 : Shape := ⟨2, ![64, 64]⟩
abbrev S64x1024 : Shape := ⟨2, ![64, 1024]⟩
abbrev S64x128 : Shape := ⟨2, ![64, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩

abbrev nBuf : Space → Nat
  | .hbm => 5
  | .vmem => 14
  | .smem => 0
  | _ => 0

abbrev bufTy : (tb : Table) → Fin (tcTables nBuf tb) → BufTy
  | .hbm, ⟨0, _⟩ => ⟨S16384x8192, .f32⟩
  | .hbm, ⟨1, _⟩ => ⟨S2x2048, .f32⟩
  | .hbm, ⟨2, _⟩ => ⟨S128, .f32⟩
  | .hbm, ⟨3, _⟩ => ⟨S1x128, .f32⟩
  | .hbm, ⟨4, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S2x1024, .f32⟩
  | .local _ .vmem, ⟨9, _⟩ => ⟨S2x1024, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S8x128x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 2, 16], ![false, false, false]⟩

@[reducible] def k0_t1_loop : Scf.Loop 32 :=
  let c0_i32_7 : BitVec 32 := 0#32
  let c8_i32 : BitVec 32 := 8#32
  let v22 : BitVec 32 := Scalar.addi c0_i32_7 c8_i32
  let c1_i32 : BitVec 32 := 1#32
  ⟨c0_i32_7, v22, c1_i32⟩
def k0_mult1 (k0_t1 : Fin k0_t1_loop.trips) : BitVec 32 :=
  let c0_i32_7 : BitVec 32 := 0#32
  let c1_i32 : BitVec 32 := 1#32
  let arg11 : BitVec 32 := Scf.iv c0_i32_7 c1_i32 k0_t1
  let c64_i32 : BitVec 32 := 64#32
  let v23 : BitVec 32 := Scalar.muli arg11 c64_i32
  v23
def k0_off1 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v23 : BitVec 32 := Scalar.muli arg11 c64_i32
  let v24 : BitVec 32 := v23
  let v25 : Index := Scalar.indexCast v24
  let c0_9 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== HgrnRefIdeal.lean ====
abbrev S16384x8192 : Shape := ⟨2, ![16384, 8192]⟩
abbrev S2x2048 : Shape := ⟨2, ![2, 2048]⟩
abbrev S128 : Shape := ⟨1, ![128]⟩
abbrev S_ : Shape := ⟨0, ![]⟩
abbrev S2048 : Shape := ⟨1, ![2048]⟩
abbrev S1x2048 : Shape := ⟨2, ![1, 2048]⟩
abbrev S2x8192x8192 : Shape := ⟨3, ![2, 8192, 8192]⟩
abbrev S2x8192x2048 : Shape := ⟨3, ![2, 8192, 2048]⟩
abbrev S1x1x2048 : Shape := ⟨3, ![1, 1, 2048]⟩
abbrev S2x128x64x16x128 : Shape := ⟨5, ![2, 128, 64, 16, 128]⟩
abbrev S2x16x128x64x128 : Shape := ⟨5, ![2, 16, 128, 64, 128]⟩
abbrev S2x16x128x1x128 : Shape := ⟨5, ![2, 16, 128, 1, 128]⟩
abbrev S2x16x128x128 : Shape := ⟨4, ![2, 16, 128, 128]⟩
abbrev S2x16x128x64x64 : Shape := ⟨5, ![2, 16, 128, 64, 64]⟩
abbrev S64x64 : Shape := ⟨2, ![64, 64]⟩
abbrev S128x2x16x64x128 : Shape := ⟨5, ![128, 2, 16, 64, 128]⟩
abbrev S128x2x16x128 : Shape := ⟨4, ![128, 2, 16, 128]⟩
abbrev S1x2x16x64x128 : Shape := ⟨5, ![1, 2, 16, 64, 128]⟩
abbrev S2x16x64x128 : Shape := ⟨4, ![2, 16, 64, 128]⟩
abbrev S1x2x16x128 : Shape := ⟨4, ![1, 2, 16, 128]⟩
abbrev S2x16x128 : Shape := ⟨3, ![2, 16, 128]⟩
abbrev S2x16x128x1 : Shape := ⟨4, ![2, 16, 128, 1]⟩
abbrev S2x8192x16x128 : Shape := ⟨4, ![2, 8192, 16, 128]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩
abbrev S16384x2048 : Shape := ⟨2, ![16384, 2048]⟩

abbrev nBuf : Space → Nat
  | .hbm => 187
  | .vmem => 0
  | .smem => 0
  | _ => 0

abbrev hbmTy0_0 (i : Nat) : BufTy := match i % 128 with
  | 0 => ⟨S16384x8192, .f32⟩
  | 1 => ⟨S2x2048, .f32⟩
  | 2 => ⟨S128, .f32⟩
  | 3 => ⟨S_, .f32⟩
  | 4 => ⟨S2048, .f32⟩
  | 5 => ⟨S_, .f32⟩
  | 6 => ⟨S2048, .f32⟩
  | 7 => ⟨S2048, .f32⟩
  | 8 => ⟨S1x2048, .f32⟩
  | 9 => ⟨S2x2048, .f32⟩
  | 10 => ⟨S2x2048, .f32⟩
  | 11 => ⟨S2x2048, .f32⟩
  | 12 => ⟨S_, .f32⟩
  | 13 => ⟨S2048, .f32⟩
  | 14 => ⟨S1x2048, .f32⟩
  | 15 => ⟨S2x2048, .f32⟩
  | 16 => ⟨S2x2048, .f32⟩
  | 17 => ⟨S_, .f32⟩
  | 18 => ⟨S_, .f32⟩
  | 19 => ⟨S2x2048, .f32⟩
  | 20 => ⟨S2x8192x8192, .f32⟩
  | 21 => ⟨S2x8192x2048, .f32⟩
  | 22 => ⟨S2x8192x2048, .f32⟩
  | 23 => ⟨S2x8192x2048, .f32⟩
  | 24 => ⟨S2x8192x2048, .f32⟩
  | 25 => ⟨S1x2048, .f32⟩
  | 26 => ⟨S2048, .f32⟩
  | 27 => ⟨S2x8192x2048, .f32⟩
  | 28 => ⟨S2x8192x2048, .f32⟩
  | 29 => ⟨S_, .f32⟩
  | 30 => ⟨S2x8192x2048, .f32⟩
  | 31 => ⟨S2x8192x2048, .f32⟩
  | 32 => ⟨S_, .f32⟩
  | 33 => ⟨S2x8192x2048, .f32⟩
  | 34 => ⟨S2x8192x2048, .f32⟩
  | 35 => ⟨S2x8192x2048, .f32⟩
  | 36 => ⟨S_, .f32⟩
  | 37 => ⟨S2048, .f32⟩
  | 38 => ⟨S2048, .f32⟩
  | 39 => ⟨S2x8192x2048, .f32⟩
  | 40 => ⟨S2x8192x2048, .f32⟩
  | 41 => ⟨S_, .f32⟩
  | 42 => ⟨S2x8192x2048, .f32⟩
  | 43 => ⟨S2x8192x2048, .f32⟩
  | 44 => ⟨S_, .f32⟩
  | 45 => ⟨S2x8192x2048, .f32⟩
  | 46 => ⟨S2x8192x2048, .f32⟩
  | 47 => ⟨S1x1x2048, .f32⟩
  | 48 => ⟨S2x8192x2048, .f32⟩
  | 49 => ⟨S2x8192x2048, .f32⟩
  | 50 => ⟨S1x1x2048, .f32⟩
  | 51 => ⟨S2x8192x2048, .f32⟩
  | 52 => ⟨S2x8192x2048, .f32⟩
  | 53 => ⟨S_, .f32⟩
  | 54 => ⟨S2x8192x2048, .f32⟩
  | 55 => ⟨S2x8192x2048, .f32⟩
  | 56 => ⟨S2x8192x2048, .f32⟩
  | 57 => ⟨S2x128x64x16x128, .f32⟩
  | 58 => ⟨S2x16x128x64x128, .f32⟩
  | 59 => ⟨S2x128x64x16x128, .f32⟩
  | 60 => ⟨S2x16x128x64x128, .f32⟩
  | 61 => ⟨S2x128x64x16x128, .f32⟩
  | 62 => ⟨S2x16x128x64x128, .f32⟩
  | 63 => ⟨S2x128x64x16x128, .f32⟩
  | 64 => ⟨S2x16x128x64x128, .f32⟩
  | 65 => ⟨S_, .f32⟩
  | 66 => ⟨S_, .f32⟩
  | 67 => ⟨S2x16x128x64x128, .f32⟩
  | 68 => ⟨S2x16x128x1x128, .f32⟩
  | 69 => ⟨S2x16x128x64x128, .f32⟩
  | 70 => ⟨S2x16x128x64x128, .f32⟩
  | 71 => ⟨S2x16x128x64x128, .f32⟩
  | 72 => ⟨S2x16x128x64x128, .f32⟩
  | 73 => ⟨S2x16x128x64x128, .f32⟩
  | 74 => ⟨S2x16x128x64x128, .f32⟩
  | 75 => ⟨S2x16x128x64x128, .f32⟩
  | 76 => ⟨S2x16x128x64x128, .f32⟩
  | 77 => ⟨S2x16x128x64x128, .f32⟩
  | 78 => ⟨S2x16x128x128, .f32⟩
  | 79 => ⟨S2x16x128x128, .f32⟩
  | 80 => ⟨S2x16x128x64x64, .f32⟩
  | 81 => ⟨S_, .i1⟩
  | 82 => ⟨S64x64, .i1⟩
  | 83 => ⟨S64x64, .i32⟩
  | 84 => ⟨S_, .i32⟩
  | 85 => ⟨S64x64, .i32⟩
  | 86 => ⟨S64x64, .i32⟩
  | 87 => ⟨S64x64, .i32⟩
  | 88 => ⟨S64x64, .i1⟩
  | 89 => ⟨S_, .i1⟩
  | 90 => ⟨S64x64, .i1⟩
  | 91 => ⟨S64x64, .i1⟩
  | 92 => ⟨S_, .f32⟩
  | 93 => ⟨S_, .f32⟩
  | 94 => ⟨S2x16x128x64x64, .i1⟩
  | 95 => ⟨S2x16x128x64x64, .f32⟩
  | 96 => ⟨S2x16x128x64x64, .f32⟩
  | 97 => ⟨S2x16x128x64x128, .f32⟩
  | 98 => ⟨S_, .f32⟩
  | 99 => ⟨S2x16x128x128, .f32⟩
  | 100 => ⟨S128x2x16x64x128, .f32⟩
  | 101 => ⟨S128x2x16x64x128, .f32⟩
  | 102 => ⟨S128x2x16x64x128, .f32⟩
  | 103 => ⟨S128x2x16x128, .f32⟩
  | 104 => ⟨S_, .f32⟩
  | 105 => ⟨S128x2x16x64x128, .f32⟩
  | 106 => ⟨S_, .i32⟩
  | 107 => ⟨S128x2x16x64x128, .f32⟩
  | 108 => ⟨S128x2x16x64x128, .f32⟩
  | 109 => ⟨S128x2x16x64x128, .f32⟩
  | 110 => ⟨S128x2x16x128, .f32⟩
  | 111 => ⟨S_, .i32⟩
  | 112 => ⟨S2x16x128x128, .f32⟩
  | 113 => ⟨S128x2x16x64x128, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S1x2x16x64x128, .f32⟩
  | 121 => ⟨S2x16x64x128, .f32⟩
  | 122 => ⟨S_, .i32⟩
  | 123 => ⟨S_, .i32⟩
  | 124 => ⟨S_, .i32⟩
  | 125 => ⟨S_, .i32⟩
  | 126 => ⟨S1x2x16x64x128, .f32⟩
  | 127 => ⟨S2x16x64x128, .f32⟩
  | _ => ⟨S16384x8192, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x2x16x64x128, .f32⟩
  | 5 => ⟨S2x16x64x128, .f32⟩
  | 6 => ⟨S_, .i32⟩
  | 7 => ⟨S_, .i32⟩
  | 8 => ⟨S_, .i32⟩
  | 9 => ⟨S1x2x16x128, .f32⟩
  | 10 => ⟨S2x16x128, .f32⟩
  | 11 => ⟨S2x16x64x128, .f32⟩
  | 12 => ⟨S2x16x128x1, .f32⟩
  | 13 => ⟨S2x16x128x128, .f32⟩
  | 14 => ⟨S2x16x128x128, .f32⟩
  | 15 => ⟨S2x16x128x128, .f32⟩
  | 16 => ⟨S2x16x128x128, .f32⟩
  | 17 => ⟨S1x2x16x64x128, .f32⟩
  | 18 => ⟨S_, .i32⟩
  | 19 => ⟨S_, .i32⟩
  | 20 => ⟨S_, .i32⟩
  | 21 => ⟨S_, .i32⟩
  | 22 => ⟨S128x2x16x64x128, .f32⟩
  | 23 => ⟨S_, .i32⟩
  | 24 => ⟨S_, .i32⟩
  | 25 => ⟨S2x16x128x64x128, .f32⟩
  | 26 => ⟨S2x16x128x64x128, .f32⟩
  | 27 => ⟨S2x128x64x16x128, .f32⟩
  | 28 => ⟨S2x8192x16x128, .f32⟩
  | 29 => ⟨S2x8192x16x128, .f32⟩
  | 30 => ⟨S_, .f32⟩
  | 31 => ⟨S2x8192x16, .f32⟩
  | 32 => ⟨S2x8192x16x1, .f32⟩
  | 33 => ⟨S_, .f32⟩
  | 34 => ⟨S2x8192x16x1, .f32⟩
  | 35 => ⟨S2x8192x16x1, .f32⟩
  | 36 => ⟨S_, .f32⟩
  | 37 => ⟨S2x8192x16x1, .f32⟩
  | 38 => ⟨S2x8192x16x1, .f32⟩
  | 39 => ⟨S2x8192x16x1, .f32⟩
  | 40 => ⟨S2x8192x16x128, .f32⟩
  | 41 => ⟨S2x8192x16x128, .f32⟩
  | 42 => ⟨S1x1x1x128, .f32⟩
  | 43 => ⟨S2x8192x16x128, .f32⟩
  | 44 => ⟨S2x8192x16x128, .f32⟩
  | 45 => ⟨S2x8192x2048, .f32⟩
  | 46 => ⟨S2x8192x2048, .f32⟩
  | 47 => ⟨S_, .f32⟩
  | 48 => ⟨S2x8192x2048, .f32⟩
  | 49 => ⟨S2x8192x2048, .f32⟩
  | 50 => ⟨S_, .f32⟩
  | 51 => ⟨S2x8192x2048, .f32⟩
  | 52 => ⟨S2x8192x2048, .f32⟩
  | 53 => ⟨S2x8192x2048, .f32⟩
  | 54 => ⟨S2x8192x16x128, .f32⟩
  | 55 => ⟨S2x8192x16x128, .f32⟩
  | 56 => ⟨S2x8192x2048, .f32⟩
  | 57 => ⟨S16384x2048, .f32⟩
  | 58 => ⟨S16384x2048, .bf16⟩
  | _ => ⟨S16384x8192, .f32⟩

abbrev hbmTy (i : Nat) : BufTy := match i / 128 with
  | 0 => hbmTy0_0 i
  | 1 => hbmTy0_1 i
  | _ => ⟨S16384x8192, .f32⟩

abbrev bufTy : (tb : Table) → Fin (tcTables nBuf tb) → BufTy
  | .hbm, ⟨i, _⟩ => hbmTy i
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call2_call0_cst : Ref sig .tc := ⟨.hbm, 65, rfl⟩
abbrev main_call2_call0_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c : Ref sig .tc := ⟨.hbm, 81, rfl⟩
abbrev main_v59 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_c_0 : Ref sig .tc := ⟨.hbm, 89, rfl⟩
abbrev main_call3_v5 : Ref sig .tc := ⟨.hbm, 90, rfl⟩
abbrev main_v60 : Ref sig .tc := ⟨.hbm, 91, rfl⟩
abbrev main_cst_6 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_v61 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_8 : Ref sig .tc := ⟨.hbm, 104, rfl⟩
abbrev main_v68 : Ref sig .tc := ⟨.hbm, 105, rfl⟩
abbrev main_c_9 : Ref sig .tc := ⟨.hbm, 106, rfl⟩
abbrev main_v69_0 : Ref sig .tc := ⟨.hbm, 107, rfl⟩
abbrev main_v69_1 : Ref sig .tc := ⟨.hbm, 108, rfl⟩
abbrev main_v69_2 : Ref sig .tc := ⟨.hbm, 109, rfl⟩
abbrev main_v69_3 : Ref sig .tc := ⟨.hbm, 110, rfl⟩
abbrev main_v69_4 : Ref sig .tc := ⟨.hbm, 111, rfl⟩
abbrev main_v69_5 : Ref sig .tc := ⟨.hbm, 112, rfl⟩
abbrev main_v69_6 : Ref sig .tc := ⟨.hbm, 113, rfl⟩
abbrev main_while0c_c_19 : Ref sig .tc := ⟨.hbm, 114, rfl⟩
abbrev main_while0c_v93 : Ref sig .tc := ⟨.hbm, 115, rfl⟩
abbrev main_while0b_call5_c : Ref sig .tc := ⟨.hbm, 116, rfl⟩
abbrev main_while0b_call5_c_0 : Ref sig .tc := ⟨.hbm, 117, rfl⟩
abbrev main_while0b_call5_c_1 : Ref sig .tc := ⟨.hbm, 118, rfl⟩
abbrev main_while0b_call5_c_2 : Ref sig .tc := ⟨.hbm, 119, rfl⟩
abbrev main_while0b_call5_v0 : Ref sig .tc := ⟨.hbm, 120, rfl⟩
abbrev main_while0b_v93 : Ref sig .tc := ⟨.hbm, 121, rfl⟩
abbrev main_while0b_call6_c : Ref sig .tc := ⟨.hbm, 122, rfl⟩
abbrev main_while0b_call6_c_0 : Ref sig .tc := ⟨.hbm, 123, rfl⟩
abbrev main_while0b_call6_c_1 : Ref sig .tc := ⟨.hbm, 124, rfl⟩
abbrev main_while0b_call6_c_2 : Ref sig .tc := ⟨.hbm, 125, rfl⟩
abbrev main_while0b_call6_v0 : Ref sig .tc := ⟨.hbm, 126, rfl⟩
abbrev main_while0b_v94 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_c_2 : Ref sig .tc := ⟨.hbm, 131, rfl⟩
abbrev main_while0b_call7_v0 : Ref sig .tc := ⟨.hbm, 132, rfl⟩
abbrev main_while0b_v95 : Ref sig .tc := ⟨.hbm, 133, rfl⟩
abbrev main_while0b_call8_c : Ref sig .tc := ⟨.hbm, 134, rfl⟩
abbrev main_while0b_call8_c_0 : Ref sig .tc := ⟨.hbm, 135, rfl⟩
abbrev main_while0b_call8_c_1 : Ref sig .tc := ⟨.hbm, 136, rfl⟩
abbrev main_while0b_call8_v0 : Ref sig .tc := ⟨.hbm, 137, rfl⟩
abbrev main_while0b_v96 : Ref sig .tc := ⟨.hbm, 138, rfl⟩
abbrev main_while0b_v97 : Ref sig .tc := ⟨.hbm, 139, rfl⟩
abbrev main_while0b_v98 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_v102 : Ref sig .tc := ⟨.hbm, 144, rfl⟩
abbrev main_while0b_call9_v0 : Ref sig .tc := ⟨.hbm, 145, rfl⟩
abbrev main_while0b_call9_c : Ref sig .tc := ⟨.hbm, 146, rfl⟩
abbrev main_while0b_call9_c_0 : Ref sig .tc := ⟨.hbm, 147, rfl⟩
abbrev main_while0b_call9_c_1 : Ref sig .tc := ⟨.hbm, 148, rfl⟩
abbrev main_while0b_call9_c_2 : Ref sig .tc := ⟨.hbm, 149, rfl⟩
abbrev main_while0b_v103 : Ref sig .tc := ⟨.hbm, 150, rfl⟩
abbrev main_while0b_c_19 : Ref sig .tc := ⟨.hbm, 151, rfl⟩
abbrev main_while0b_v104 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_cst_10 : Ref sig .tc := ⟨.hbm, 158, rfl⟩
abbrev main_v75 : Ref sig .tc := ⟨.hbm, 159, rfl⟩
abbrev main_v76 : Ref sig .tc := ⟨.hbm, 160, rfl⟩
abbrev main_cst_11 : Ref sig .tc := ⟨.hbm, 161, rfl⟩
abbrev main_v77 : Ref sig .tc := ⟨.hbm, 162, rfl⟩
abbrev main_v78 : Ref sig .tc := ⟨.hbm, 163, rfl⟩
abbrev main_cst_12 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_call10_v0 : Ref sig .tc := ⟨.hbm, 173, rfl⟩
abbrev main_call10_v1 : Ref sig .tc := ⟨.hbm, 174, rfl⟩
abbrev main_call10_cst : Ref sig .tc := ⟨.hbm, 175, rfl⟩
abbrev main_call10_v2 : Ref sig .tc := ⟨.hbm, 176, rfl⟩
abbrev main_call10_v3 : Ref sig .tc := ⟨.hbm, 177, rfl⟩
abbrev main_call10_cst_0 : Ref sig .tc := ⟨.hbm, 178, rfl⟩
abbrev main_call10_v4 : Ref sig .tc := ⟨.hbm, 179, rfl⟩
abbrev main_call10_v5 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩

abbrev nD : Nat := 1
abbrev τ : Topo := Topo.v7x

variable {F : FTy → Type} [FloatOps F]

abbrev main_while0_count : Scf.Loop 32 := ⟨0#32, 128#32, 1#32⟩
-- ==== Out.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S4096, .f32⟩
  | .hbm, ⟨5, _⟩ => ⟨S1x4096, .f32⟩
  | .hbm, ⟨6, _⟩ => ⟨S16384x4096, .f32⟩
  | .hbm, ⟨7, _⟩ => ⟨S16384x4096, .bf16⟩
  | .hbm, ⟨8, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 8, 1], ![false, false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_17 : BitVec 32 := 0#32
  let v23 : BitVec 1 := Scalar.cmpi .ne v22 c0_i32_17
  v23

def k0_cond2 (i : grid0.Coords) : BitVec 1 :=
  let arg1 : BitVec 32 := BitVec.ofNat 32 (i 1).val
  let c0_i32_18 : BitVec 32 := 0#32
  let v24 : BitVec 1 := Scalar.cmpi .sgt arg1 c0_i32_18
  let v25 : BitVec 32 := Scalar.extui v24
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== OutRefIdeal.lean ====
abbrev S16384x2048 : Shape := ⟨2, ![16384, 2048]⟩
abbrev S4096x4096 : Shape := ⟨2, ![4096, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S4096, .f32⟩
  | .hbm, ⟨5, _⟩ => ⟨S16384x4096, .bf16⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .bf16⟩
  | .hbm, ⟨18, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S4096x1408 : Shape := ⟨2, ![4096, 1408]⟩
abbrev S1x4096 : Shape := ⟨2, ![1, 4096]⟩
abbrev S16384x1408 : Shape := ⟨2, ![16384, 1408]⟩
abbrev S256x4096 : Shape := ⟨2, ![256, 4096]⟩
abbrev S256x1408 : Shape := ⟨2, ![256, 1408]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x1408, .bf16⟩
  | .hbm, ⟨3, _⟩ => ⟨S1x4096, .f32⟩
  | .hbm, ⟨4, _⟩ => ⟨S16384x4096, .bf16⟩
  | .hbm, ⟨5, _⟩ => ⟨S16384x1408, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x1408, .bf16⟩
  | .local _ .vmem, ⟨4, _⟩ => ⟨S256x4096, .bf16⟩
  | .local _ .vmem, ⟨5, _⟩ => ⟨S256x4096, .bf16⟩
  | .local _ .vmem, ⟨6, _⟩ => ⟨S256x1408, .f32⟩
  | .local _ .vmem, ⟨7, _⟩ => ⟨S256x1408, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x4096 : Shape := ⟨2, ![16384, 4096]⟩
abbrev S4096 : Shape := ⟨1, ![4096]⟩
abbrev S4096x1408 : Shape := ⟨2, ![4096, 1408]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x1408 : Shape := ⟨2, ![16384, 1408]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x1408, .bf16⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | .hbm, ⟨20, _⟩ => ⟨S4096x1408, .f32⟩
  | .hbm, ⟨21, _⟩ => ⟨S16384x1408, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Flash.lean ====
abbrev S2x8192x16x192 : Shape := ⟨4, ![2, 8192, 16, 192]⟩
abbrev S2x8192x16x128 : Shape := ⟨4, ![2, 8192, 16, 128]⟩
abbrev S9536x4096 : Shape := ⟨2, ![9536, 4096]⟩
abbrev S4096x4096 : Shape := ⟨2, ![4096, 4096]⟩
abbrev S4096x16384 : Shape := ⟨2, ![4096, 16384]⟩
abbrev S16384x4096 : Shape := ⟨2, ![16384, 4096]⟩
abbrev S_ : Shape := ⟨0, ![]⟩
abbrev S2x8192x16x64 : Shape := ⟨4, ![2, 8192, 16, 64]⟩
abbrev S2x8192x16x32 : Shape := ⟨4, ![2, 8192, 16, 32]⟩
abbrev S2x8192x16x256 : Shape := ⟨4, ![2, 8192, 16, 256]⟩
abbrev S2x16x256x8192 : Shape := ⟨4, ![2, 16, 256, 8192]⟩
abbrev S2x16x8192x256 : Shape := ⟨4, ![2, 16, 8192, 256]⟩
abbrev S2x16x128x8192 : Shape := ⟨4, ![2, 16, 128, 8192]⟩
abbrev S2x16x16x8192 : Shape := ⟨4, ![2, 16, 16, 8192]⟩
abbrev S2x16x144x8192 : Shape := ⟨4, ![2, 16, 144, 8192]⟩
abbrev S2x16x144x32x256 : Shape := ⟨5, ![2, 16, 144, 32, 256]⟩
abbrev S2x16x32x144x256 : Shape := ⟨5, ![2, 16, 32, 144, 256]⟩
abbrev S2x8192x2048 : Shape := ⟨3, ![2, 8192, 2048]⟩
abbrev S8192x4096 : Shape := ⟨2, ![8192, 4096]⟩
abbrev S1x1x256x1024 : Shape := ⟨4, ![1, 1, 256, 1024]⟩
abbrev S1x1x8192x256 : Shape := ⟨4, ![1, 1, 8192, 256]⟩
abbrev S1x1x32x144x256 : Shape := ⟨5, ![1, 1, 32, 144, 256]⟩
abbrev S32x4096 : Shape := ⟨2, ![32, 4096]⟩
abbrev S16x4096 : Shape := ⟨2, ![16, 4096]⟩
abbrev S16x16384 : Shape := ⟨2, ![16, 16384]⟩
abbrev S64x4096 : Shape := ⟨2, ![64, 4096]⟩
abbrev S1x1024x128 : Shape := ⟨3, ![1, 1024, 128]⟩
abbrev S144x1024 : Shape := ⟨2, ![144, 1024]⟩
abbrev S512x1024 : Shape := ⟨2, ![512, 1024]⟩
abbrev S1x1024 : Shape := ⟨2, ![1, 1024]⟩
abbrev S1x1x512x256 : Shape := ⟨4, ![1, 1, 512, 256]⟩
abbrev S512x256 : Shape := ⟨2, ![512, 256]⟩
abbrev S1x1x256x256 : Shape := ⟨4, ![1, 1, 256, 256]⟩
abbrev S256x256 : Shape := ⟨2, ![256, 256]⟩
abbrev S256 : Shape := ⟨1, ![256]⟩
abbrev S1x256 : Shape := ⟨2, ![1, 256]⟩
abbrev S1x1x1x144x256 : Shape := ⟨5, ![1, 1, 1, 144, 256]⟩
abbrev S144x256 : Shape := ⟨2, ![144, 256]⟩
abbrev S144x512 : Shape := ⟨2, ![144, 512]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 46
  | .vmem => 33
  | .smem => 0
  | _ => 0

abbrev bufTy : (tb : Table) → Fin (tcTables nBuf tb) → BufTy
  | .hbm, ⟨0, _⟩ => ⟨S2x8192x16x192, .f32⟩
  | .hbm, ⟨1, _⟩ => ⟨S2x8192x16x192, .f32⟩
  | .hbm, ⟨2, _⟩ => ⟨S2x8192x16x128, .f32⟩
  | .hbm, ⟨3, _⟩ => ⟨S9536x4096, .f32⟩
  | .hbm, ⟨4, _⟩ => ⟨S4096x4096, .f32⟩
  | .hbm, ⟨5, _⟩ => ⟨S4096x16384, .f32⟩
  | .hbm, ⟨6, _⟩ => ⟨S16384x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8192x16x128, .f32⟩
  | .hbm, ⟨13, _⟩ => ⟨S2x8192x16x64, .f32⟩
  | .hbm, ⟨14, _⟩ => ⟨S_, .f32⟩
  | .hbm, ⟨15, _⟩ => ⟨S2x8192x16x32, .f32⟩
  | .hbm, ⟨16, _⟩ => ⟨S2x8192x16x32, .f32⟩
  | .hbm, ⟨17, _⟩ => ⟨S2x8192x16x32, .f32⟩
  | .hbm, ⟨18, _⟩ => ⟨S2x8192x16x128, .f32⟩
  | .hbm, ⟨19, _⟩ => ⟨S2x8192x16x256, .f32⟩
  | .hbm, ⟨20, _⟩ => ⟨S2x8192x16x256, .f32⟩
  | .hbm, ⟨21, _⟩ => ⟨S2x8192x16x256, .f32⟩
  | .hbm, ⟨22, _⟩ => ⟨S2x16x256x8192, .f32⟩
  | .hbm, ⟨23, _⟩ => ⟨S2x16x256x8192, .bf16⟩
  | .hbm, ⟨24, _⟩ => ⟨S2x8192x16x128, .f32⟩
  | .hbm, ⟨25, _⟩ => ⟨S2x8192x16x64, .f32⟩
  | .hbm, ⟨26, _⟩ => ⟨S_, .f32⟩
  | .hbm, ⟨27, _⟩ => ⟨S2x8192x16x32, .f32⟩
  | .hbm, ⟨28, _⟩ => ⟨S2x8192x16x32, .f32⟩
  | .hbm, ⟨29, _⟩ => ⟨S2x8192x16x32, .f32⟩
  | .hbm, ⟨30, _⟩ => ⟨S2x8192x16x128, .f32⟩
  | .hbm, ⟨31, _⟩ => ⟨S2x8192x16x256, .f32⟩
  | .hbm, ⟨32, _⟩ => ⟨S2x16x8192x256, .f32⟩
  | .hbm, ⟨33, _⟩ => ⟨S2x16x8192x256, .bf16⟩
  | .hbm, ⟨34, _⟩ => ⟨S2x16x128x8192, .f32⟩
  | .hbm, ⟨35, _⟩ => ⟨S_, .f32⟩
  | .hbm, ⟨36, _⟩ => ⟨S2x16x16x8192, .f32⟩
  | .hbm, ⟨37, _⟩ => ⟨S2x16x144x8192, .f32⟩
  | .hbm, ⟨38, _⟩ => ⟨S2x16x144x32x256, .f32⟩
  | .hbm, ⟨39, _⟩ => ⟨S2x16x32x144x256, .f32⟩
  | .hbm, ⟨40, _⟩ => ⟨S2x16x32x144x256, .bf16⟩
  | .hbm, ⟨41, _⟩ => ⟨S2x8192x2048, .bf16⟩
  | .hbm, ⟨42, _⟩ => ⟨S8192x4096, .bf16⟩
  | .hbm, ⟨43, _⟩ => ⟨S4096x4096, .bf16⟩
  | .hbm, ⟨44, _⟩ => ⟨S4096x16384, .bf16⟩
  | .hbm, ⟨45, _⟩ => ⟨S16384x4096, .bf16⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x32x144x256, .bf16⟩
  | .local _ .vmem, ⟨5, _⟩ => ⟨S1x1x32x144x256, .bf16⟩
  | .local _ .vmem, ⟨6, _⟩ => ⟨S32x4096, .f32⟩
  | .local _ .vmem, ⟨7, _⟩ => ⟨S32x4096, .f32⟩
  | .local _ .vmem, ⟨8, _⟩ => ⟨S16x4096, .f32⟩
  | .local _ .vmem, ⟨9, _⟩ => ⟨S16x4096, .f32⟩
  | .local _ .vmem, ⟨10, _⟩ => ⟨S16x16384, .f32⟩
  | .local _ .vmem, ⟨11, _⟩ => ⟨S16x16384, .f32⟩
  | .local _ .vmem, ⟨12, _⟩ => ⟨S64x4096, .f32⟩
  | .local _ .vmem, ⟨13, _⟩ => ⟨S64x4096, .f32⟩
  | .local _ .vmem, ⟨14, _⟩ => ⟨S1x1024x128, .bf16⟩
  | .local _ .vmem, ⟨15, _⟩ => ⟨S1x1024x128, .bf16⟩
  | .local _ .vmem, ⟨16, _⟩ => ⟨S32x4096, .bf16⟩
  | .local _ .vmem, ⟨17, _⟩ => ⟨S32x4096, .bf16⟩
  | .local _ .vmem, ⟨18, _⟩ => ⟨S16x4096, .bf16⟩
  | .local _ .vmem, ⟨19, _⟩ => ⟨S16x4096, .bf16⟩
  | .local _ .vmem, ⟨20, _⟩ => ⟨S16x16384, .bf16⟩
  | .local _ .vmem, ⟨21, _⟩ => ⟨S16x16384, .bf16⟩
  | .local _ .vmem, ⟨22, _⟩ => ⟨S64x4096, .bf16⟩
  | .local _ .vmem, ⟨23, _⟩ => ⟨S64x4096, .bf16⟩
  | .local _ .vmem, ⟨24, _⟩ => ⟨S144x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | _, _ => ⟨S2x8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_v29_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 16, 8], ![false, false, false]⟩

def k0_mult1 : BitVec 32 :=
  let c0_i32 : BitVec 32 := 0#32
  c0_i32
def k0_mult2 : BitVec 32 :=
  let c0_i32_11 : BitVec 32 := 0#32
  c0_i32_11
def k0_mult3 : BitVec 32 :=
  let c0_i32_24 : BitVec 32 := 0#32
  c0_i32_24
def k0_mult4 : BitVec 32 :=
  let c0_i32_37 : BitVec 32 := 0#32
  c0_i32_37
@[reducible] def k0_t1_loop (i : grid0.Coords) : Scf.Loop 32 :=
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_78 : BitVec 32 := 1#32
  ⟨c0_i32_76, v91, c1_i32_78⟩
def k0_mult5 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c1_i32_436 : BitVec 32 := 1#32
  let v549 : BitVec 32 := Scalar.addi v548 c1_i32_436
  let c512_i32_439 : BitVec 32 := 512#32
  let v552 : BitVec 32 := Scalar.muli v549 c512_i32_439
  v552
def k0_off1 (i : grid0.Coords) (k0_t1 : Fin (k0_t1_loop i).trips) (c1_i32_436 : BitVec 32) : Fin 4 → Nat :=
  let c0_440 : Index := 0#32
  let c0_441 : Index := 0#32
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let v549 : BitVec 32 := Scalar.addi v548 c1_i32_436
  let c512_i32_439 : BitVec 32 := 512#32
  let v552 : BitVec 32 := Scalar.muli v549 c512_i32_439
  let v553 : BitVec 32 := v552
  let v554 : Index := Scalar.indexCast v553
  let c0_442 : Index := 0#32
  ![0, 0, v554.toNat, 0]
def k0_off2 (i : grid0.Coords) (k0_t1 : Fin (k0_t1_loop i).trips) (c0_i32_454 : BitVec 32) : Fin 5 → Nat :=
  let c0_455 : Index := 0#32
  let c0_456 : Index := 0#32
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c1_i32_437 : BitVec 32 := 1#32
  let v550 : BitVec 32 := Scalar.subi v548 c1_i32_437
  let c0_i32_438 : BitVec 32 := 0#32
  let v551 : BitVec 32 := Scalar.maxsi v550 c0_i32_438
  let c2_i32_453 : BitVec 32 := 2#32
  let v568 : BitVec 32 := Scalar.muli v551 c2_i32_453
  let v569 : BitVec 32 := Scalar.addi v568 c0_i32_454
  let v570 : Index := Scalar.indexCast v569
  let c0_457 : Index := 0#32
  let c0_458 : Index := 0#32
  ![0, 0, v570.toNat, 0, 0]
def k0_mult6 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c1_i32_436 : BitVec 32 := 1#32
  let v549 : BitVec 32 := Scalar.addi v548 c1_i32_436
  let c512_i32_482 : BitVec 32 := 512#32
  let v605 : BitVec 32 := Scalar.muli v549 c512_i32_482
  v605
def k0_mult7 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c1_i32_436 : BitVec 32 := 1#32
  let v549 : BitVec 32 := Scalar.addi v548 c1_i32_436
  let c512_i32_525 : BitVec 32 := 512#32
  let v658 : BitVec 32 := Scalar.muli v549 c512_i32_525
  v658
def k0_mult8 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c1_i32_436 : BitVec 32 := 1#32
  let v549 : BitVec 32 := Scalar.addi v548 c1_i32_436
  let c512_i32_568 : BitVec 32 := 512#32
  let v711 : BitVec 32 := Scalar.muli v549 c512_i32_568
  v711
def k0_mult9 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c2_i32_611 : BitVec 32 := 2#32
  let v765 : BitVec 32 := Scalar.addi v548 c2_i32_611
  let c512_i32_612 : BitVec 32 := 512#32
  let v766 : BitVec 32 := Scalar.muli v765 c512_i32_612
  v766
def k0_off3 (i : grid0.Coords) (k0_t1 : Fin (k0_t1_loop i).trips) (c0_i32_627 : BitVec 32) : Fin 5 → Nat :=
  let c0_628 : Index := 0#32
  let c0_629 : Index := 0#32
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c2_i32_626 : BitVec 32 := 2#32
  let v782 : BitVec 32 := Scalar.muli v548 c2_i32_626
  let v783 : BitVec 32 := Scalar.addi v782 c0_i32_627
  let v784 : Index := Scalar.indexCast v783
  let c0_630 : Index := 0#32
  let c0_631 : Index := 0#32
  ![0, 0, v784.toNat, 0, 0]
def k0_mult10 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c2_i32_611 : BitVec 32 := 2#32
  let v765 : BitVec 32 := Scalar.addi v548 c2_i32_611
  let c512_i32_655 : BitVec 32 := 512#32
  let v819 : BitVec 32 := Scalar.muli v765 c512_i32_655
  v819
def k0_mult11 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c2_i32_611 : BitVec 32 := 2#32
  let v765 : BitVec 32 := Scalar.addi v548 c2_i32_611
  let c512_i32_698 : BitVec 32 := 512#32
  let v872 : BitVec 32 := Scalar.muli v765 c512_i32_698
  v872
def k0_mult12 (i : grid0.Coords) (k0_t1 : Fin (k0_t1_loop i).trips) : BitVec 32 :=
  let c2_i32_435 : BitVec 32 := 2#32
  let c0_i32_76 : BitVec 32 := 0#32
  let c1_i32_78 : BitVec 32 := 1#32
  let arg24 : BitVec 32 := Scf.iv c0_i32_76 c1_i32_78 k0_t1
  let v548 : BitVec 32 := Scalar.muli c2_i32_435 arg24
  let c2_i32_611 : BitVec 32 := 2#32
  let v765 : BitVec 32 := Scalar.addi v548 c2_i32_611
  let c512_i32_741 : BitVec 32 := 512#32
  let v925 : BitVec 32 := Scalar.muli v765 c512_i32_741
  v925
@[reducible] def k0_t2_loop (i : grid0.Coords) : Scf.Loop 32 :=
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let v88 : BitVec 32 := Scalar.addi c0_i32_76 v87
  let c1_i32_79 : BitVec 32 := 1#32
  ⟨v91, v88, c1_i32_79⟩
def k0_mult13 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c1_i32_436 : BitVec 32 := 1#32
  let v549 : BitVec 32 := Scalar.addi v548 c1_i32_436
  let c512_i32_439 : BitVec 32 := 512#32
  let v552 : BitVec 32 := Scalar.muli v549 c512_i32_439
  v552
def k0_off4 (i : grid0.Coords) (k0_t2 : Fin (k0_t2_loop i).trips) (c1_i32_436 : BitVec 32) : Fin 4 → Nat :=
  let c0_440 : Index := 0#32
  let c0_441 : Index := 0#32
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let v549 : BitVec 32 := Scalar.addi v548 c1_i32_436
  let c512_i32_439 : BitVec 32 := 512#32
  let v552 : BitVec 32 := Scalar.muli v549 c512_i32_439
  let v553 : BitVec 32 := v552
  let v554 : Index := Scalar.indexCast v553
  let c0_442 : Index := 0#32
  ![0, 0, v554.toNat, 0]
def k0_off5 (i : grid0.Coords) (k0_t2 : Fin (k0_t2_loop i).trips) (c0_i32_454 : BitVec 32) : Fin 5 → Nat :=
  let c0_455 : Index := 0#32
  let c0_456 : Index := 0#32
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c1_i32_437 : BitVec 32 := 1#32
  let v550 : BitVec 32 := Scalar.subi v548 c1_i32_437
  let c0_i32_438 : BitVec 32 := 0#32
  let v551 : BitVec 32 := Scalar.maxsi v550 c0_i32_438
  let c2_i32_453 : BitVec 32 := 2#32
  let v568 : BitVec 32 := Scalar.muli v551 c2_i32_453
  let v569 : BitVec 32 := Scalar.addi v568 c0_i32_454
  let v570 : Index := Scalar.indexCast v569
  let c0_457 : Index := 0#32
  let c0_458 : Index := 0#32
  ![0, 0, v570.toNat, 0, 0]
def k0_mult14 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c1_i32_436 : BitVec 32 := 1#32
  let v549 : BitVec 32 := Scalar.addi v548 c1_i32_436
  let c512_i32_482 : BitVec 32 := 512#32
  let v605 : BitVec 32 := Scalar.muli v549 c512_i32_482
  v605
def k0_mult15 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c1_i32_436 : BitVec 32 := 1#32
  let v549 : BitVec 32 := Scalar.addi v548 c1_i32_436
  let c512_i32_525 : BitVec 32 := 512#32
  let v658 : BitVec 32 := Scalar.muli v549 c512_i32_525
  v658
def k0_mult16 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c1_i32_436 : BitVec 32 := 1#32
  let v549 : BitVec 32 := Scalar.addi v548 c1_i32_436
  let c512_i32_568 : BitVec 32 := 512#32
  let v711 : BitVec 32 := Scalar.muli v549 c512_i32_568
  v711
def k0_mult17 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c2_i32_611 : BitVec 32 := 2#32
  let v765 : BitVec 32 := Scalar.addi v548 c2_i32_611
  let c512_i32_612 : BitVec 32 := 512#32
  let v766 : BitVec 32 := Scalar.muli v765 c512_i32_612
  v766
def k0_off6 (i : grid0.Coords) (k0_t2 : Fin (k0_t2_loop i).trips) (c0_i32_627 : BitVec 32) : Fin 5 → Nat :=
  let c0_628 : Index := 0#32
  let c0_629 : Index := 0#32
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c2_i32_626 : BitVec 32 := 2#32
  let v782 : BitVec 32 := Scalar.muli v548 c2_i32_626
  let v783 : BitVec 32 := Scalar.addi v782 c0_i32_627
  let v784 : Index := Scalar.indexCast v783
  let c0_630 : Index := 0#32
  let c0_631 : Index := 0#32
  ![0, 0, v784.toNat, 0, 0]
def k0_mult18 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c2_i32_611 : BitVec 32 := 2#32
  let v765 : BitVec 32 := Scalar.addi v548 c2_i32_611
  let c512_i32_655 : BitVec 32 := 512#32
  let v819 : BitVec 32 := Scalar.muli v765 c512_i32_655
  v819
def k0_mult19 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c2_i32_611 : BitVec 32 := 2#32
  let v765 : BitVec 32 := Scalar.addi v548 c2_i32_611
  let c512_i32_698 : BitVec 32 := 512#32
  let v872 : BitVec 32 := Scalar.muli v765 c512_i32_698
  v872
def k0_mult20 (i : grid0.Coords) (k0_t2 : Fin (k0_t2_loop i).trips) : BitVec 32 :=
  let c2_i32_435 : BitVec 32 := 2#32
  let c0_i32_76 : BitVec 32 := 0#32
  let c1_i32 : BitVec 32 := 1#32
  let arg2 : BitVec 32 := BitVec.ofNat 32 (i 2).val
  let v0 : BitVec 32 := Scalar.muli c1_i32 arg2
  let v87 : BitVec 32 := Scalar.subi v0 c0_i32_76
  let c1_i32_77 : BitVec 32 := 1#32
  let v89 : BitVec 32 := Scalar.divsi v87 c1_i32_77
  let v90 : BitVec 32 := Scalar.muli v89 c1_i32_77
  let v91 : BitVec 32 := Scalar.addi c0_i32_76 v90
  let c1_i32_79 : BitVec 32 := 1#32
  let arg24 : BitVec 32 := Scf.iv v91 c1_i32_79 k0_t2
  let v548 : BitVec 32 := Scalar.muli c2_i32_435 arg24
  let c2_i32_611 : BitVec 32 := 2#32
  let v765 : BitVec 32 := Scalar.addi v548 c2_i32_611
  let c512_i32_741 : BitVec 32 := 512#32
  let v925 : BitVec 32 := Scalar.muli v765 c512_i32_741
  v925
def k0_off7 (i : grid0.Coords) (c0_i32_92 : BitVec 32) : Fin 5 → Nat :=
  let c0_93 : Index := 0#32
  let c0_94 : Index := 0#32
  let c2_i32 : BitVec 32 := 2#32
  let c1_i32 : BitVec 32 := 1#32
  let arg2 : BitVec 32 := BitVec.ofNat 32 (i 2).val
  let v0 : BitVec 32 := Scalar.muli c1_i32 arg2
  let v1 : BitVec 32 := Scalar.muli c2_i32 v0
  let c1_i32_89 : BitVec 32 := 1#32
  let v115 : BitVec 32 := Scalar.subi v1 c1_i32_89
  let c0_i32_90 : BitVec 32 := 0#32
  let v116 : BitVec 32 := Scalar.maxsi v115 c0_i32_90
  let c2_i32_91 : BitVec 32 := 2#32
  let v117 : BitVec 32 := Scalar.muli v116 c2_i32_91
  let v118 : BitVec 32 := Scalar.addi v117 c0_i32_92
  let v119 : Index := Scalar.indexCast v118
  let c0_95 : Index := 0#32
  let c0_96 : Index := 0#32
  ![0, 0, v119.toNat, 0, 0]
def k0_off8 (i : grid0.Coords) (c0_i32_120 : BitVec 32) (c0_i32_122 : BitVec 32) : Fin 5 → Nat :=
  let c0_123 : Index := 0#32
  let c0_124 : Index := 0#32
  let c2_i32 : BitVec 32 := 2#32
  let c1_i32 : BitVec 32 := 1#32
  let arg2 : BitVec 32 := BitVec.ofNat 32 (i 2).val
  let v0 : BitVec 32 := Scalar.muli c1_i32 arg2
  let v1 : BitVec 32 := Scalar.muli c2_i32 v0
  let v154 : BitVec 32 := Scalar.addi v1 c0_i32_120
  let c2_i32_121 : BitVec 32 := 2#32
  let v155 : BitVec 32 := Scalar.muli v154 c2_i32_121
  let v156 : BitVec 32 := Scalar.addi v155 c0_i32_122
  let v157 : Index := Scalar.indexCast v156
  let c0_125 : Index := 0#32
  let c0_126 : Index := 0#32
  ![0, 0, v157.toNat, 0, 0]
def k0_mult21 (i : grid0.Coords) : BitVec 32 :=
  let c2_i32 : BitVec 32 := 2#32
  let c1_i32 : BitVec 32 := 1#32
  let arg2 : BitVec 32 := BitVec.ofNat 32 (i 2).val
  let v0 : BitVec 32 := Scalar.muli c1_i32 arg2
  let v1 : BitVec 32 := Scalar.muli c2_i32 v0
  let c1_i32_218 : BitVec 32 := 1#32
  let v276 : BitVec 32 := Scalar.addi v1 c1_i32_218
  let c512_i32_219 : BitVec 32 := 512#32
  let v277 : BitVec 32 := Scalar.muli v276 c512_i32_219
  v277
def k0_off9 (i : grid0.Coords) : Fin 4 → Nat :=
  let c0_220 : Index := 0#32
  let c0_221 : Index := 0#32
  let c2_i32 : BitVec 32 := 2#32
  let c1_i32 : BitVec 32 := 1#32
  let arg2 : BitVec 32 := BitVec.ofNat 32 (i 2).val
  let v0 : BitVec 32 := Scalar.muli c1_i32 arg2
  let v1 : BitVec 32 := Scalar.muli c2_i32 v0
  let c1_i32_218 : BitVec 32 := 1#32
  let v276 : BitVec 32 := Scalar.addi v1 c1_i32_218
  let c512_i32_219 : BitVec 32 := 512#32
  let v277 : BitVec 32 := Scalar.muli v276 c512_i32_219
  let v278 : BitVec 32 := v277
  let v279 : Index := Scalar.indexCast v278
  let c0_222 : Index := 0#32
  ![0, 0, v279.toNat, 0]
def k0_mult22 (i : grid0.Coords) : BitVec 32 :=
  let c2_i32 : BitVec 32 := 2#32
  let c1_i32 : BitVec 32 := 1#32
  let arg2 : BitVec 32 := BitVec.ofNat 32 (i 2).val
  let v0 : BitVec 32 := Scalar.muli c1_i32 arg2
  let v1 : BitVec 32 := Scalar.muli c2_i32 v0
  let c1_i32_327 : BitVec 32 := 1#32
  let v412 : BitVec 32 := Scalar.addi v1 c1_i32_327
  let c512_i32_328 : BitVec 32 := 512#32
  let v413 : BitVec 32 := Scalar.muli v412 c512_i32_328
  v413
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S16x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S16x16384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S64x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== FlashRefIdeal.lean ====
abbrev S2x8192x16x192 : Shape := ⟨4, ![2, 8192, 16, 192]⟩
abbrev S2x8192x16x128 : Shape := ⟨4, ![2, 8192, 16, 128]⟩
abbrev S9536x4096 : Shape := ⟨2, ![9536, 4096]⟩
abbrev S4096x4096 : Shape := ⟨2, ![4096, 4096]⟩
abbrev S4096x16384 : Shape := ⟨2, ![4096, 16384]⟩
abbrev S16384x4096 : Shape := ⟨2, ![16384, 4096]⟩
abbrev S2x16x8192x192 : Shape := ⟨4, ![2, 16, 8192, 192]⟩
abbrev S2x16x8192x128 : Shape := ⟨4, ![2, 16, 8192, 128]⟩
abbrev S2x16x8192x8192 : Shape := ⟨4, ![2, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x8192 : Shape := ⟨3, ![2, 16, 8192]⟩
abbrev S2x16x8192x1 : Shape := ⟨4, ![2, 16, 8192, 1]⟩
abbrev S2x8192x2048 : Shape := ⟨3, ![2, 8192, 2048]⟩
abbrev S8192x4096 : Shape := ⟨2, ![8192, 4096]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x16x192, .f32⟩
  | .hbm, ⟨1, _⟩ => ⟨S2x8192x16x192, .f32⟩
  | .hbm, ⟨2, _⟩ => ⟨S2x8192x16x128, .f32⟩
  | .hbm, ⟨3, _⟩ => ⟨S9536x4096, .f32⟩
  | .hbm, ⟨4, _⟩ => ⟨S4096x4096, .f32⟩
  | .hbm, ⟨5, _⟩ => ⟨S4096x16384, .f32⟩
  | .hbm, ⟨6, _⟩ => ⟨S16384x4096, .f32⟩
  | .hbm, ⟨7, _⟩ => ⟨S2x16x8192x192, .f32⟩
  | .hbm, ⟨8, _⟩ => ⟨S2x16x8192x192, .f32⟩
  | .hbm, ⟨9, _⟩ => ⟨S2x16x8192x128, .f32⟩
  | .hbm, ⟨10, _⟩ => ⟨S2x16x8192x8192, .f32⟩
  | .hbm, ⟨11, _⟩ => ⟨S_, .f32⟩
  | .hbm, ⟨12, _⟩ => ⟨S_, .f32⟩
  | .hbm, ⟨13, _⟩ => ⟨S2x16x8192x8192, .f32⟩
  | .hbm, ⟨14, _⟩ => ⟨S2x16x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S2x16x8192x8192, .i1⟩
  | .hbm, ⟨24, _⟩ => ⟨S2x16x8192x8192, .f32⟩
  | .hbm, ⟨25, _⟩ => ⟨S2x16x8192x8192, .f32⟩
  | .hbm, ⟨26, _⟩ => ⟨S_, .f32⟩
  | .hbm, ⟨27, _⟩ => ⟨S2x16x8192, .f32⟩
  | .hbm, ⟨28, _⟩ => ⟨S_, .f32⟩
  | .hbm, ⟨29, _⟩ => ⟨S2x16x8192, .f32⟩
  | .hbm, ⟨30, _⟩ => ⟨S2x16x8192, .f32⟩
  | .hbm, ⟨31, _⟩ => ⟨S2x16x8192x1, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S_, .f32⟩
  | .hbm, ⟨36, _⟩ => ⟨S2x16x8192, .f32⟩
  | .hbm, ⟨37, _⟩ => ⟨S2x16x8192x1, .f32⟩
  | .hbm, ⟨38, _⟩ => ⟨S2x16x8192x8192, .f32⟩
  | .hbm, ⟨39, _⟩ => ⟨S2x16x8192x8192, .f32⟩
  | .hbm, ⟨40, _⟩ => ⟨S2x16x8192x128, .f32⟩
  | .hbm, ⟨41, _⟩ => ⟨S2x8192x16x128, .f32⟩
  | .hbm, ⟨42, _⟩ => ⟨S2x8192x2048, .f32⟩
  | .hbm, ⟨43, _⟩ => ⟨S2x8192x2048, .bf16⟩
  | .hbm, ⟨44, _⟩ => ⟨S8192x4096, .f32⟩
  | .hbm, ⟨45, _⟩ => ⟨S8192x4096, .bf16⟩
  | .hbm, ⟨46, _⟩ => ⟨S4096x4096, .bf16⟩
  | .hbm, ⟨47, _⟩ => ⟨S4096x16384, .bf16⟩
  | .hbm, ⟨48, _⟩ => ⟨S16384x4096, .bf16⟩
  | _, _ => ⟨S2x8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.InProjValue.lean ====
/-
  The projection onto the recurrence's columns: the kernel's result array is `n1 · w_hg_tᵀ`, index by index.
  Each of the 16 × 8 grid points writes one 1024 × 1024 block, with all 4096 terms of its sums in one product.
-/
module

public import proofs.«01_k».proof.Proof.Gen.InProjIdeal.Value
public import proofs.«01_k».proof.Proof.Gen.InProjRefIdeal.Run
public import proofs.«01_k».proof.Defs
public import Idealize.ShloMosaic.Lib.Pointwise
public import Idealize.ShloMosaic.Lib.Quiescent
public import Idealize.ShloMosaic.Lib.Pipeline.Value

@[expose] public section

set_option maxRecDepth 16384

noncomputable section

namespace Cert.InProjIdeal.Val

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The product as one function of its two operands. -/
def prod (x : S16384x4096.Idx → EReal) (w : S8192x4096.Idx → EReal) (i : S16384x8192.Idx) : EReal :=
  ∑ k : Fin 4096, x (ix2 (i 0) k) * w (ix2 (i 1) k)

theorem hz : (![0, 0] : Fin 2 → Nat) = fun _ => 0 := funext fun a => by fin_cases a <;> rfl

/-- The block indices of the three windows at a point: row block `t / 8`, column block `t % 8`. -/
theorem idx_facts : ∀ t : Fin grid0.N, win0_0.index t 0 = t.val / 8 ∧ win0_0.index t 1 = 0
    ∧ win0_1.index t 0 = t.val % 8 ∧ win0_1.index t 1 = 0
    ∧ win0_2.index t 0 = t.val / 8 ∧ win0_2.index t 1 = t.val % 8 := by decide +kernel

/-- The left operand's block at a point, read off the argument. -/
theorem iblk0_apply (c : Dev nD) (t : Fin cfg0.N) (r : Fin 1024) (k : Fin 4096) (h : t.val / 8 * 1024 + r.val < 16384) :
    iblk m c 0 t (ix2 r k) = m ((c : Thread nD τ).loc main_arg0) (ix2 ⟨t.val / 8 * 1024 + r.val, h⟩ k) := by
  obtain ⟨h0, h1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 8 * 1024 + r.val; rw [h0]; omega
  | ⟨1, _⟩ => show win0_0.index t 1 * 4096 + 1 * k.val = k.val; rw [h1]; omega

/-- The right operand's block at a point, read off the argument. -/
theorem iblk1_apply (c : Dev nD) (t : Fin cfg0.N) (r : Fin 1024) (k : Fin 4096) (h : t.val % 8 * 1024 + r.val < 8192) :
    iblk m c 1 t (ix2 r k) = m ((c : Thread nD τ).loc main_arg1) (ix2 ⟨t.val % 8 * 1024 + r.val, h⟩ k) := by
  obtain ⟨-, -, h0, h1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 1024 + 1 * r.val = t.val % 8 * 1024 + r.val; rw [h0]; omega
  | ⟨1, _⟩ => show win0_1.index t 1 * 4096 + 1 * k.val = k.val; rw [h1]; omega

/-- One point's payload at an index: the row of the left block times the row of the right block. -/
theorem pay_apply (x w : Vec Ideal S1024x4096 .bf16) (r s : Fin 1024) :
    k0_pay1 x w (ix2 r s) = ∑ k : Fin 4096, x (ix2 r k) * w (ix2 s k) := by
  pointwise [k0_pay1]

/-- The result as contents of the kernel's result array. -/
abbrev result (c : Dev nD) : Buf (Elt Ideal) ((c : Thread nD τ).loc main_v0) :=
  prod (m ((c : Thread nD τ).loc main_arg0)) (m ((c : Thread nD τ).loc main_arg1))

/-- What each point writes back is its block of the product. -/
theorem flushed_eq (c : Dev nD) (t : Fin cfg0.N) :
    (dats m 0 c).flushed 2 t = ((cfg0.win 2).blk t).view.read (Elt Ideal) (result m c) := by
  obtain ⟨-, -, -, -, h0, h1⟩ := idx_facts t
  have ht : t.val < 128 := lt_of_lt_of_eq t.isLt Gen.N_0
  rw [Value.flushed2]
  unfold out0_2
  unfold r0_1 r0_0
  rw [View.canon_unit_zero hz, View.ld_unit_zero (S := S1024x4096) hz, View.ld_unit_zero (S := S1024x4096) hz]
  funext j
  obtain ⟨r, s, rfl⟩ : ∃ (r s : Fin 1024), j = ix2 r s := ⟨j 0, j 1, by funext a; fin_cases a <;> rfl⟩
  have e0 : t.val / 8 * 1024 + r.val < 16384 := by omega
  have e1 : t.val % 8 * 1024 + s.val < 8192 := by omega
  have hi : ((cfg0.win 2).blk t).view.read (Elt Ideal) (result m c) (ix2 r s) = result m c (ix2 (n0 := 16384) (n1 := 8192) ⟨_, e0⟩ ⟨_, e1⟩) := by
    rw [View.read_apply]
    show result m c _ = _
    congr 1
    funext a
    apply Fin.ext
    match a with
    | ⟨0, _⟩ => show win0_2.index t 0 * 1024 + 1 * r.val = t.val / 8 * 1024 + r.val; rw [h0]; omega
    | ⟨1, _⟩ => show win0_2.index t 1 * 1024 + 1 * s.val = t.val % 8 * 1024 + s.val; rw [h1]; omega
  rw [hi]
  show (k0_pay1 (iblk m c 0 t) (iblk m c 1 t) (ix2 r s) : EReal) = _
  rw [pay_apply]
  exact Finset.sum_congr rfl fun k _ => by rw [iblk0_apply m c t r k e0, iblk1_apply m c t s k e1]; rfl

/-- The point whose block holds an index. -/
theorem cover (c : Dev nD) (i : S16384x8192.Idx) : ∃ t : Fin cfg0.N, (cfg0.win 2).flush t = true ∧ i ∈ ((cfg0.win 2).blk t).view.set := by
  have h0 : (i 0).val < 16384 := (i 0).isLt
  have h1 : (i 1).val < 8192 := (i 1).isLt
  let t : Fin grid0.N := ⟨(i 0).val / 1024 * 8 + (i 1).val / 1024, by show _ < grid0.N; rw [Gen.N_0]; omega⟩
  obtain ⟨-, -, -, -, g0, g1⟩ := idx_facts t
  refine ⟨t, flush0_2 t, ?_⟩
  show i ∈ ((View.whole main_v0).slice (win0_2.rect t)).set
  rw [View.set_slice_whole, Rect.mem_set_unit]
  have ht : t.val = (i 0).val / 1024 * 8 + (i 1).val / 1024 := rfl
  intro a
  match a with
  | ⟨0, _⟩ => show win0_2.index t 0 * 1024 ≤ (i 0 : Nat) ∧ (i 0 : Nat) < win0_2.index t 0 * 1024 + 1024
              rw [g0]; omega
  | ⟨1, _⟩ => show win0_2.index t 1 * 1024 ≤ (i 1 : Nat) ∧ (i 1 : Nat) < win0_2.index t 1 * 1024 + 1024
              rw [g1]; omega

/-- The kernel's result array after the run. -/
theorem final (c : Dev nD) : (dats m 0 c).arrAt 2 cfg0.N = result m c :=
  (dats m 0 c).arrAt_eq_of_cover 2 (result m c) (fun t _ => flushed_eq m c t) (cover c)

/-- The reference's product is the same function. -/
theorem ref_eq (x : FVec Ideal Cert.InProjRefIdeal.S16384x4096 .bf16) (w : FVec Ideal Cert.InProjRefIdeal.S8192x4096 .bf16) :
    Host.dotGeneral (F := Ideal) Cert.InProjRefIdeal.dot_S16384x4096_S4096x8192_S16384x8192_1_0_0_1_n_n none
      (extf .f32 x Cert.InProjRefIdeal.Facts₀.bitsLt_bf16_f32)
      (transpose Cert.InProjRefIdeal.S4096x8192 [1, 0] (extf .f32 w Cert.InProjRefIdeal.Facts₀.bitsLt_bf16_f32)
        Cert.InProjRefIdeal.Facts₀.transposes_S8192x4096_S4096x8192_1_0) = prod x w := by
  funext j
  obtain ⟨r, s, rfl⟩ : ∃ (r : Fin 16384) (s : Fin 8192), j = ix2 r s := ⟨j 0, j 1, by funext a; fin_cases a <;> rfl⟩
  pointwise
  rfl

/-- The reference's arguments end unchanged and its counters at zero: it declares no semaphore. -/
theorem frame_ref : Cert.quiescent_InProjRefIdeal := fun m ρ _ =>
  (θ_run _ _ _).mono (fun r h => ⟨fun c => (h c).2, sem_eq_zero_of_no_sems (by decide) r.2⟩) (Cert.InProjRefIdeal.Value.run m ρ)

/-- Kernel and reference end with the same array. -/
theorem algebraic : Cert.algebraic_InProjIdeal_InProjRefIdeal := fun m ρ m' ρ' _ hag =>
  ⟨fun c => result m c,
   (θ_run _ _ _).mono (fun _ h c => ⟨(h c).1.trans (final m c), (h c).2⟩) (Value.run_blocks m ρ),
   (θ_run _ _ _).mono (fun _ h c => ⟨(h c).1.trans (by rw [(hag c).1, (hag c).2]; exact ref_eq _ _), (h c).2⟩)
     (Cert.InProjRefIdeal.Value.run m' ρ')⟩

end Cert.InProjIdeal.Val
-- ==== Proof.Algebra.lean ====
/-
  Extended-real facts used by several of the proofs: a finite factor that is not negative moves through a sum,
  and the reciprocal root of a positive number is such a factor.
-/
module

public import Idealize.ShloMosaic.PureOps.Ideal
public import Idealize.ShloMosaic.PureOps.Ideal.Laws

@[expose] public section

noncomputable section

namespace Cert.Algebra

open Idealize.ShloMosaic

/-- A factor `r` with `0 ≤ r < ⊤` moves into a finite sum, whatever the summands are. -/
theorem mul_sum {ι : Type*} (s : Finset ι) (f : ι → EReal) {r : EReal} (h0 : 0 ≤ r) (ht : r ≠ ⊤) :
    r * ∑ k ∈ s, f k = ∑ k ∈ s, r * f k := by
  classical
  induction s using Finset.induction_on with
  | empty => simp
  | insert a s ha ih => rw [Finset.sum_insert ha, Finset.sum_insert ha, EReal.left_distrib_of_nonneg_of_ne_top h0 ht, ih]

/-- The reciprocal root of `a + e`, for `a` not negative and `e` a positive number, is not negative and finite. -/
theorem rsqrt_add (a : EReal) (e : ℝ) (ha : 0 ≤ a) (he : 0 < e) :
    0 ≤ Ideal.rsqrt (a + (e : EReal)) ∧ Ideal.rsqrt (a + (e : EReal)) ≠ ⊤ := by
  induction a with
  | bot => simp at ha
  | top => simp
  | coe a =>
    have ha' : 0 ≤ a := by exact_mod_cast ha
    rw [← EReal.coe_add, Ideal.rsqrt_coe, if_neg (by linarith), if_neg (by linarith)]
    exact ⟨by exact_mod_cast inv_nonneg.2 (Real.sqrt_nonneg _), EReal.coe_ne_top _⟩

/-- The constant `1e-6` in single precision is a positive number. -/
theorem eps_pos : ∃ e : ℝ, 0 < e ∧ Ideal.ofBits .f32 0x358637BD#32 = (e : EReal) :=
  ⟨8796093 / 8796093022208, by norm_num, by simp [Ideal.ofBits, Ideal.ieee, -EReal.coe_mul]; norm_num⟩

/-- Dividing by 4096 is multiplying by its reciprocal, which single precision holds exactly. -/
theorem div_4096 (x : EReal) : Ideal.div x (Ideal.ofBits .f32 0x45800000#32) = x * Ideal.ofBits .f32 0x39800000#32 := by
  have h1 : Ideal.ofBits .f32 0x45800000#32 = ((4096 : ℝ) : EReal) := by simp [Ideal.ofBits, Ideal.ieee, -EReal.coe_mul]; norm_num
  have h2 : Ideal.ofBits .f32 0x39800000#32 = ((1 / 4096 : ℝ) : EReal) := by simp [Ideal.ofBits, Ideal.ieee, -EReal.coe_mul]; norm_num
  rw [h1, h2, Ideal.div_coe (by norm_num)]

/-- … and it keeps a number that is not negative so. -/
theorem mul_4096_nonneg {x : EReal} (h : 0 ≤ x) : 0 ≤ x * Ideal.ofBits .f32 0x39800000#32 := by
  have h2 : Ideal.ofBits .f32 0x39800000#32 = ((1 / 4096 : ℝ) : EReal) := by simp [Ideal.ofBits, Ideal.ieee, -EReal.coe_mul]; norm_num
  rw [h2]
  exact mul_nonneg h (by exact_mod_cast (by norm_num : (0 : ℝ) ≤ 1 / 4096))

end Cert.Algebra
-- ==== Proof.UpValue.lean ====
/-
  The MLP's first product: the kernel's result array is `(relu (h · w) · r)²` with `r` the row's reciprocal root mean
  square, taken out of the sum; the reference scales each row of `h` by `r` before the product. The two agree because
  `r` is finite and not negative where the row's sum of squares is not negative.
  Each of the 16 × 16 grid points writes one 1024 × 1024 block, with all 4096 terms of its sums in one product.
-/
module

public import proofs.«01_k».proof.Proof.Gen.UpIdeal.Value
public import proofs.«01_k».proof.Proof.Gen.UpRefIdeal.Run
public import proofs.«01_k».proof.Proof.Gen.Pre_ssq_nonneg
public import proofs.«01_k».proof.Proof.Algebra
public import proofs.«01_k».proof.Defs
public import Idealize.ShloMosaic.Lib.Pointwise
public import Idealize.ShloMosaic.Lib.Quiescent
public import Idealize.ShloMosaic.Lib.Pipeline.Value

@[expose] public section

set_option maxRecDepth 16384

noncomputable section

namespace Cert.UpIdeal.Val

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A row's reciprocal root mean square, from its sum of squares. -/
def rms (s : EReal) : EReal := Ideal.rsqrt (s * Ideal.ofBits .f32 0x39800000#32 + Ideal.ofBits .f32 0x358637BD#32)

/-- The squared relu of a number. -/
def relu2 (x : EReal) : EReal := max x 0 * max x 0

/-- The hidden activations as one function of the three operands. -/
def hidden (x : S16384x4096.Idx → EReal) (w : S4096x16384.Idx → EReal) (q : S16384x128.Idx → EReal) (i : S16384x16384.Idx) : EReal :=
  relu2 ((∑ k : Fin 4096, x (ix2 (i 0) k) * w (ix2 k (i 1))) * rms (q (ix2 (i 0) 0)))

theorem hz : (![0, 0] : Fin 2 → Nat) = fun _ => 0 := funext fun a => by fin_cases a <;> rfl

/-- The block indices of the four windows at a point: row block `t / 16`, column block `t % 16`. -/
theorem idx_facts : ∀ t : Fin grid0.N, win0_0.index t 0 = t.val / 16 ∧ win0_0.index t 1 = 0
    ∧ win0_1.index t 0 = 0 ∧ win0_1.index t 1 = t.val % 16
    ∧ win0_2.index t 0 = t.val / 16 ∧ win0_2.index t 1 = 0
    ∧ win0_3.index t 0 = t.val / 16 ∧ win0_3.index t 1 = t.val % 16 := by decide +kernel

/-- The left operand's block at a point, read off the argument. -/
theorem iblk0_apply (c : Dev nD) (t : Fin cfg0.N) (r : Fin 1024) (k : Fin 4096) (h : t.val / 16 * 1024 + r.val < 16384) :
    iblk m c 0 t (ix2 r k) = m ((c : Thread nD τ).loc main_arg0) (ix2 ⟨t.val / 16 * 1024 + r.val, h⟩ k) := by
  obtain ⟨h0, h1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 16 * 1024 + r.val; rw [h0]; omega
  | ⟨1, _⟩ => show win0_0.index t 1 * 4096 + 1 * k.val = k.val; rw [h1]; omega

/-- The right operand's block at a point, read off the argument. -/
theorem iblk1_apply (c : Dev nD) (t : Fin cfg0.N) (k : Fin 4096) (s : Fin 1024) (h : t.val % 16 * 1024 + s.val < 16384) :
    iblk m c 1 t (ix2 k s) = m ((c : Thread nD τ).loc main_arg1) (ix2 k ⟨t.val % 16 * 1024 + s.val, h⟩) := by
  obtain ⟨-, -, h0, h1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 4096 + 1 * k.val = k.val; rw [h0]; omega
  | ⟨1, _⟩ => show win0_1.index t 1 * 1024 + 1 * s.val = t.val % 16 * 1024 + s.val; rw [h1]; omega

/-- The block of row sums of squares at a point, read off the argument. -/
theorem iblk2_apply (c : Dev nD) (t : Fin cfg0.N) (r : Fin 1024) (k : Fin 128) (h : t.val / 16 * 1024 + r.val < 16384) :
    iblk m c 2 t (ix2 r k) = m ((c : Thread nD τ).loc main_arg2) (ix2 ⟨t.val / 16 * 1024 + r.val, h⟩ k) := by
  obtain ⟨-, -, -, -, h0, h1, -⟩ := idx_facts t
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val / 16 * 1024 + r.val; rw [h0]; omega
  | ⟨1, _⟩ => show win0_2.index t 1 * 128 + 1 * k.val = k.val; rw [h1]; omega

/-- One point's payload at an index. -/
theorem pay_apply (x : Vec Ideal S1024x4096 .bf16) (w : Vec Ideal S4096x1024 .bf16) (q : Vec Ideal S1024x1 .f32) (r s : Fin 1024) :
    k0_pay1 x w q (ix2 r s) = relu2 ((∑ k : Fin 4096, x (ix2 r k) * w (ix2 k s)) * rms (q (ix2 r 0))) := by
  pointwise [k0_pay1, relu2, rms]

/-- The result as contents of the kernel's result array. -/
abbrev result (c : Dev nD) : Buf (Elt Ideal) ((c : Thread nD τ).loc main_v0) :=
  hidden (m ((c : Thread nD τ).loc main_arg0)) (m ((c : Thread nD τ).loc main_arg1)) (m ((c : Thread nD τ).loc main_arg2))

/-- What each point writes back is its block of the activations. -/
theorem flushed_eq (c : Dev nD) (t : Fin cfg0.N) :
    (dats m 0 c).flushed 3 t = ((cfg0.win 3).blk t).view.read (Elt Ideal) (result m c) := by
  obtain ⟨-, -, -, -, -, -, h0, h1⟩ := idx_facts t
  have ht : t.val < 256 := lt_of_lt_of_eq t.isLt Gen.N_0
  rw [Value.flushed3]
  unfold out0_3 r0_3 r0_1 r0_0
  rw [View.canon_unit_zero hz, View.ld_unit_zero (S := S1024x4096) hz, View.ld_unit_zero (S := S4096x1024) hz]
  funext j
  obtain ⟨r, s, rfl⟩ : ∃ (r s : Fin 1024), j = ix2 r s := ⟨j 0, j 1, by funext a; fin_cases a <;> rfl⟩
  have e0 : t.val / 16 * 1024 + r.val < 16384 := by omega
  have e1 : t.val % 16 * 1024 + s.val < 16384 := by omega
  have hi : ((cfg0.win 3).blk t).view.read (Elt Ideal) (result m c) (ix2 r s) = result m c (ix2 (n0 := 16384) (n1 := 16384) ⟨_, e0⟩ ⟨_, e1⟩) := by
    rw [View.read_apply]
    show result m c _ = _
    congr 1
    funext a
    apply Fin.ext
    match a with
    | ⟨0, _⟩ => show win0_3.index t 0 * 1024 + 1 * r.val = t.val / 16 * 1024 + r.val; rw [h0]; omega
    | ⟨1, _⟩ => show win0_3.index t 1 * 1024 + 1 * s.val = t.val % 16 * 1024 + s.val; rw [h1]; omega
  rw [hi]
  show (k0_pay1 (iblk m c 0 t) (iblk m c 1 t) (View.ld (iblk m c 2 t) r0_2) (ix2 r s) : EReal) = _
  rw [pay_apply]
  have hq : View.ld (iblk m c 2 t) r0_2 (ix2 r 0) = m ((c : Thread nD τ).loc main_arg2) (ix2 ⟨t.val / 16 * 1024 + r.val, e0⟩ 0) := by
    rw [← iblk2_apply m c t r 0 e0]
    show iblk m c 2 t _ = _
    congr 1
    funext a
    apply Fin.ext
    match a with
    | ⟨0, _⟩ => show 0 + 1 * r.val = r.val; omega
    | ⟨1, _⟩ => rfl
  show relu2 (_ * rms _) = relu2 (_ * rms _)
  rw [hq]
  congr 2
  exact Finset.sum_congr rfl fun k _ => by rw [iblk0_apply m c t r k e0, iblk1_apply m c t k s e1]; rfl

/-- The point whose block holds an index. -/
theorem cover (c : Dev nD) (i : S16384x16384.Idx) : ∃ t : Fin cfg0.N, (cfg0.win 3).flush t = true ∧ i ∈ ((cfg0.win 3).blk t).view.set := by
  have h0 : (i 0).val < 16384 := (i 0).isLt
  have h1 : (i 1).val < 16384 := (i 1).isLt
  let t : Fin grid0.N := ⟨(i 0).val / 1024 * 16 + (i 1).val / 1024, by show _ < grid0.N; rw [Gen.N_0]; omega⟩
  obtain ⟨-, -, -, -, -, -, g0, g1⟩ := idx_facts t
  refine ⟨t, flush0_3 t, ?_⟩
  show i ∈ ((View.whole main_v0).slice (win0_3.rect t)).set
  rw [View.set_slice_whole, Rect.mem_set_unit]
  have ht : t.val = (i 0).val / 1024 * 16 + (i 1).val / 1024 := rfl
  intro a
  match a with
  | ⟨0, _⟩ => show win0_3.index t 0 * 1024 ≤ (i 0 : Nat) ∧ (i 0 : Nat) < win0_3.index t 0 * 1024 + 1024
              rw [g0]; omega
  | ⟨1, _⟩ => show win0_3.index t 1 * 1024 ≤ (i 1 : Nat) ∧ (i 1 : Nat) < win0_3.index t 1 * 1024 + 1024
              rw [g1]; omega

/-- The kernel's result array after the run. -/
theorem final (c : Dev nD) : (dats m 0 c).arrAt 3 cfg0.N = result m c :=
  (dats m 0 c).arrAt_eq_of_cover 3 (result m c) (fun t _ => flushed_eq m c t) (cover c)

section Reference

open Cert.UpRefIdeal.Facts₀ hiding bitsLt_bf16_f32

/-- The reference's result as a term of its arguments. -/
def ref (x : FVec Ideal Cert.UpRefIdeal.S16384x4096 .bf16) (w : FVec Ideal Cert.UpRefIdeal.S4096x16384 .bf16)
    (q : FVec Ideal Cert.UpRefIdeal.S16384x128 .f32) : FVec Ideal Cert.UpRefIdeal.S16384x16384 .bf16 :=
  have a : FVec Ideal Cert.UpRefIdeal.S16384x16384 .f32 := maximumf (Host.dotGeneral Cert.UpRefIdeal.dot_S16384x4096_S4096x16384_S16384x16384_1_0_0_1_n_n none (mulf (extf .f32 x bitsLt_bf16_f32) (broadcastInDim Cert.UpRefIdeal.S16384x4096 ![0, 1] bcast_S16384x1_S16384x4096_0_1 (Host.rsqrt (addf (Host.divf (extractStridedSlice Cert.UpRefIdeal.S16384x1 ![0, 0] q slices_S16384x128_S16384x1_0_0) (broadcastInDim Cert.UpRefIdeal.S16384x1 ![] bcast_S_S16384x1 (constant Cert.UpRefIdeal.S_ .f32 0x45800000#32))) (broadcastInDim Cert.UpRefIdeal.S16384x1 ![] bcast_S_S16384x1 (constant Cert.UpRefIdeal.S_ .f32 0x358637BD#32)))))) (extf .f32 w bitsLt_bf16_f32)) (broadcastInDim Cert.UpRefIdeal.S16384x16384 ![] bcast_S_S16384x16384 (constant Cert.UpRefIdeal.S_ .f32 0x00000000#32))
  truncf .bf16 (mulf a a) bitsLt_bf16_f32

/-- Where the sums of squares are not negative, the reference's activations are the same function. -/
theorem ref_eq (x : FVec Ideal Cert.UpRefIdeal.S16384x4096 .bf16) (w : FVec Ideal Cert.UpRefIdeal.S4096x16384 .bf16)
    (q : FVec Ideal Cert.UpRefIdeal.S16384x128 .f32) (hq : ∀ i, (0 : EReal) ≤ q i) : ref x w q = hidden x w q := by
  funext j
  obtain ⟨r, s, rfl⟩ : ∃ (r s : Fin 16384), j = ix2 r s := ⟨j 0, j 1, by funext a; fin_cases a <;> rfl⟩
  pointwise [ref]
  simp only [Cert.Algebra.div_4096]
  show relu2 (∑ k : Fin 4096, x (ix2 r k) * rms (q (ix2 r 0)) * w (ix2 k s))
    = relu2 ((∑ k : Fin 4096, x (ix2 r k) * w (ix2 k s)) * rms (q (ix2 r 0)))
  congr 1
  obtain ⟨e, he, hee⟩ := Cert.Algebra.eps_pos
  have hr := Cert.Algebra.rsqrt_add (q (ix2 r 0) * Ideal.ofBits .f32 0x39800000#32) e (Cert.Algebra.mul_4096_nonneg (hq _)) he
  rw [← hee] at hr
  change 0 ≤ rms _ ∧ rms _ ≠ ⊤ at hr
  rw [mul_comm _ (rms _), Cert.Algebra.mul_sum _ _ hr.1 hr.2]
  refine Finset.sum_congr rfl fun k _ => ?_
  rw [← mul_assoc, mul_comm (rms _)]

end Reference

/-- The precondition, read at an index: a sum of squares is not negative. -/
theorem pre_apply (x : FVec Ideal Cert.Pre_ssq_nonneg.S16384x4096 .bf16) (w : FVec Ideal Cert.Pre_ssq_nonneg.S4096x16384 .bf16)
    (q : FVec Ideal Cert.Pre_ssq_nonneg.S16384x128 .f32) (h : Cert.Pre_ssq_nonneg.fn x w q = fun _ => 1#1)
    (i : Cert.Pre_ssq_nonneg.S16384x128.Idx) : (0 : EReal) ≤ q i := by
  have h1 := congrFun h i
  pointwise [Cert.Pre_ssq_nonneg.fn] at h1
  by_contra hn
  rw [decide_eq_false hn] at h1
  exact absurd h1 (by decide)

/-- The reference's arguments end unchanged and its counters at zero: it declares no semaphore. -/
theorem frame_ref : Cert.quiescent_UpRefIdeal := fun m ρ _ =>
  (θ_run _ _ _).mono (fun r h => ⟨fun c => (h c).2, sem_eq_zero_of_no_sems (by decide) r.2⟩) (Cert.UpRefIdeal.Value.run m ρ)

/-- Kernel and reference end with the same array. -/
theorem algebraic : Cert.algebraic_UpIdeal_UpRefIdeal_pre_ssq_nonneg := fun m ρ m' ρ' hp hag =>
  ⟨fun c => result m c,
   (θ_run _ _ _).mono (fun _ h c => ⟨(h c).1.trans (final m c), (h c).2⟩) (Value.run_blocks m ρ),
   (θ_run _ _ _).mono (fun _ h c => ⟨(h c).1.trans (by
      rw [(hag c).1, (hag c).2.1, (hag c).2.2]
      exact ref_eq _ _ _ (pre_apply _ _ _ (hp c))), (h c).2⟩)
     (Cert.UpRefIdeal.Value.run m' ρ')⟩

end Cert.UpIdeal.Val
-- ==== Proof.DownValue.lean ====
/-
  The MLP's second product and the residual: the kernel's result array is `h + hid · w`, index by index.
  Each 1024 × 1024 block of the result is summed over four grid points, 4096 of the 16384 terms at each: the first adds
  the residual, the three after it add to what the point before left.
-/
module

public import proofs.«01_k».proof.Proof.Gen.DownIdeal.Value
public import proofs.«01_k».proof.Proof.Gen.DownRefIdeal.Run
public import proofs.«01_k».proof.Defs
public import Idealize.ShloMosaic.Lib.Pointwise
public import Idealize.ShloMosaic.Lib.Quiescent
public import Idealize.ShloMosaic.Lib.Pipeline.Value
public import Idealize.ShloMosaic.Lib.Tactic

@[expose] public section

set_option maxRecDepth 16384

noncomputable section

namespace Cert.DownIdeal.Val

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The sum over one of the four stretches of 4096 terms. -/
def part (x : S16384x16384.Idx → EReal) (w : S16384x4096.Idx → EReal) (i : S16384x4096.Idx) (b : Fin 4) : EReal :=
  ∑ k : Fin 4096, x (ix2 (i 0) ⟨b.val * 4096 + k.val, by omega⟩) * w (ix2 ⟨b.val * 4096 + k.val, by omega⟩ (i 1))

/-- The residual plus the product, as one function of the three operands. -/
def down (x : S16384x16384.Idx → EReal) (w : S16384x4096.Idx → EReal) (h : S16384x4096.Idx → EReal) (i : S16384x4096.Idx) : EReal :=
  h i + ∑ k : Fin 16384, x (ix2 (i 0) k) * w (ix2 k (i 1))

/-- The running sum over the stretches up to stretch `b`. -/
def upto (x : S16384x16384.Idx → EReal) (w : S16384x4096.Idx → EReal) (h : S16384x4096.Idx → EReal) (i : S16384x4096.Idx) : (b : ℕ) → b < 4 → EReal
  | 0, hb => part x w i ⟨0, hb⟩ + h i
  | b + 1, hb => upto x w h i b (by omega) + part x w i ⟨b + 1, hb⟩

/-- After the fourth stretch the running sum is whole. -/
theorem upto_last (x : S16384x16384.Idx → EReal) (w : S16384x4096.Idx → EReal) (h : S16384x4096.Idx → EReal) (i : S16384x4096.Idx) :
    upto x w h i 3 (by omega) = down x w h i := by
  unfold down
  rw [Fin.sum_univ_tiles 4 4096 rfl, Fin.sum_univ_four]
  simp only [upto, part]
  ac_rfl

theorem hz : (![0, 0] : Fin 2 → Nat) = fun _ => 0 := funext fun a => by fin_cases a <;> rfl

/-- The block indices of the four windows at a point: row block `t / 16`, column block `t / 4 % 4`, stretch `t % 4`. -/
theorem idx_facts : ∀ t : Fin grid0.N, win0_0.index t 0 = t.val / 16 ∧ win0_0.index t 1 = t.val % 4
    ∧ win0_1.index t 0 = t.val % 4 ∧ win0_1.index t 1 = t.val / 4 % 4
    ∧ win0_2.index t 0 = t.val / 16 ∧ win0_2.index t 1 = t.val / 4 % 4
    ∧ win0_3.index t 0 = t.val / 16 ∧ win0_3.index t 1 = t.val / 4 % 4 := by decide +kernel

/-- The left operand's block at a point, read off the argument. -/
theorem iblk0_apply (c : Dev nD) (t : Fin cfg0.N) (r : Fin 1024) (k : Fin 4096) (h : t.val / 16 * 1024 + r.val < 16384)
    (h' : t.val % 4 * 4096 + k.val < 16384) :
    iblk m c 0 t (ix2 r k) = m ((c : Thread nD τ).loc main_arg0) (ix2 ⟨t.val / 16 * 1024 + r.val, h⟩ ⟨t.val % 4 * 4096 + k.val, h'⟩) := by
  obtain ⟨h0, h1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 16 * 1024 + r.val; rw [h0]; omega
  | ⟨1, _⟩ => show win0_0.index t 1 * 4096 + 1 * k.val = t.val % 4 * 4096 + k.val; rw [h1]; omega

/-- The right operand's block at a point, read off the argument. -/
theorem iblk1_apply (c : Dev nD) (t : Fin cfg0.N) (k : Fin 4096) (s : Fin 1024) (h : t.val % 4 * 4096 + k.val < 16384)
    (h' : t.val / 4 % 4 * 1024 + s.val < 4096) :
    iblk m c 1 t (ix2 k s) = m ((c : Thread nD τ).loc main_arg1) (ix2 ⟨t.val % 4 * 4096 + k.val, h⟩ ⟨t.val / 4 % 4 * 1024 + s.val, h'⟩) := by
  obtain ⟨-, -, h0, h1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 4096 + 1 * k.val = t.val % 4 * 4096 + k.val; rw [h0]; omega
  | ⟨1, _⟩ => show win0_1.index t 1 * 1024 + 1 * s.val = t.val / 4 % 4 * 1024 + s.val; rw [h1]; omega

/-- The residual's block at a point, read off the argument. -/
theorem iblk2_apply (c : Dev nD) (t : Fin cfg0.N) (r s : Fin 1024) (h : t.val / 16 * 1024 + r.val < 16384)
    (h' : t.val / 4 % 4 * 1024 + s.val < 4096) :
    iblk m c 2 t (ix2 r s) = m ((c : Thread nD τ).loc main_arg2) (ix2 ⟨t.val / 16 * 1024 + r.val, h⟩ ⟨t.val / 4 % 4 * 1024 + s.val, h'⟩) := by
  obtain ⟨-, -, -, -, h0, h1, -⟩ := idx_facts t
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val / 16 * 1024 + r.val; rw [h0]; omega
  | ⟨1, _⟩ => show win0_2.index t 1 * 1024 + 1 * s.val = t.val / 4 % 4 * 1024 + s.val; rw [h1]; omega

/-- A first point's payload at an index: the stretch's sum plus the residual. -/
theorem pay1_apply (x : Vec Ideal S1024x4096 .bf16) (w : Vec Ideal S4096x1024 .bf16) (h : Vec Ideal S1024x1024 .f32) (r s : Fin 1024) :
    k0_pay1 x w h (ix2 r s) = (∑ k : Fin 4096, x (ix2 r k) * w (ix2 k s)) + h (ix2 r s) := by
  pointwise [k0_pay1]

/-- A later point's payload at an index: what the buffer held plus the stretch's sum. -/
theorem pay2_apply (x : Vec Ideal S1024x4096 .bf16) (w : Vec Ideal S4096x1024 .bf16) (h : Vec Ideal S1024x1024 .f32) (r s : Fin 1024) :
    k0_pay2 h x w (ix2 r s) = h (ix2 r s) + ∑ k : Fin 4096, x (ix2 r k) * w (ix2 k s) := by
  pointwise [k0_pay2]

/-- A first point leaves its payload of the input blocks in the result's buffer. -/
theorem out_A (c : Dev nD) (i : grid0.Coords) (arg3 : Memref sig .tc .vmem S1024x4096 .bf16) (h3 : arg3.IsWhole)
    (arg4 : Memref sig .tc .vmem S4096x1024 .bf16) (h4 : arg4.IsWhole) (arg5 : Memref sig .tc .vmem S1024x1024 .f32) (h5 : arg5.IsWhole)
    (arg6 : Memref sig .tc .vmem S1024x1024 .f32) (h6 : arg6.IsWhole) (hc0 : cond0_0 i) (hc1 : ¬cond0_1 i)
    (x0 : Vec Ideal S1024x4096 .bf16) (x1 : Vec Ideal S4096x1024 .bf16) (x2 : Vec Ideal S1024x1024 .f32) :
    out0_A_3 c i arg3 h3 arg4 h4 arg5 h5 arg6 h6 hc0 hc1 x0 x1 x2 = k0_pay1 x0 x1 x2 := by
  unfold out0_A_3
  rw [View.read_writes_eq_canon _ _ _ (cover0_A_3 c i arg3 h3 arg4 h4 arg5 h5 arg6 h6 hc0 hc1 x0 x1 x2)]
  unfold kernelRun0_A
  dsimp only
  rw [View.canon_unit_zero hz]
  simp only [View.readAt_eq_ld, h3.read_unread, h4.read_unread, h5.read_unread, View.ld_unit_zero (S := S1024x4096) hz,
    View.ld_unit_zero (S := S4096x1024) hz, View.ld_unit_zero (S := S1024x1024) hz]

/-- A later point leaves its payload of the input blocks and of what the buffer held. -/
theorem out_B (c : Dev nD) (i : grid0.Coords) (arg3 : Memref sig .tc .vmem S1024x4096 .bf16) (h3 : arg3.IsWhole)
    (arg4 : Memref sig .tc .vmem S4096x1024 .bf16) (h4 : arg4.IsWhole) (arg5 : Memref sig .tc .vmem S1024x1024 .f32) (h5 : arg5.IsWhole)
    (arg6 : Memref sig .tc .vmem S1024x1024 .f32) (h6 : arg6.IsWhole) (hc0 : ¬cond0_0 i) (hc1 : cond0_1 i)
    (x0 : Vec Ideal S1024x4096 .bf16) (x1 : Vec Ideal S4096x1024 .bf16) (x2 : Vec Ideal S1024x1024 .f32) (xo : Vec Ideal S1024x1024 .f32) :
    out0_B_3 c i arg3 h3 arg4 h4 arg5 h5 arg6 h6 hc0 hc1 x0 x1 x2 xo = k0_pay2 xo x0 x1 := by
  unfold out0_B_3
  rw [View.read_writes_eq_canon _ _ _ (cover0_B_3 c i arg3 h3 arg4 h4 arg5 h5 arg6 h6 hc0 hc1 x0 x1 x2 xo)]
  unfold kernelRun0_B
  dsimp only
  rw [View.canon_unit_zero hz]
  simp only [View.readAt_eq_ld, h3.read_unread, h4.read_unread, h6.read_unread, View.ld_unit_zero (S := S1024x4096) hz,
    View.ld_unit_zero (S := S4096x1024) hz, View.ld_unit_zero (S := S1024x1024) hz]

/-- The index of the result that a point's block holds at `(r, s)`. -/
def at_ (t : ℕ) (ht : t < 256) (r s : Fin 1024) : S16384x4096.Idx :=
  ix2 (n0 := 16384) (n1 := 4096) ⟨t / 16 * 1024 + r.val, by omega⟩ ⟨t / 4 % 4 * 1024 + s.val, by omega⟩

/-- The sum a point adds is its stretch of the whole sum. -/
theorem point_sum (c : Dev nD) (t : Fin cfg0.N) (ht : t.val < 256) (r s : Fin 1024) (b : Fin 4) (hb : t.val % 4 = b.val) :
    (∑ k : Fin 4096, (show EReal from iblk m c 0 t (ix2 r k)) * (show EReal from iblk m c 1 t (ix2 k s)))
      = part (m ((c : Thread nD τ).loc main_arg0)) (m ((c : Thread nD τ).loc main_arg1)) (at_ t.val ht r s) b := by
  refine Finset.sum_congr rfl fun k _ => ?_
  rw [iblk0_apply m c t r k (by omega) (by omega), iblk1_apply m c t k s (by omega) (by omega)]
  simp only [hb]
  rfl

/-- The result's buffer after point `t` holds the running sum up to the point's stretch. -/
theorem outs_eq (c : Dev nD) (n : ℕ) : ∀ (h : n < cfg0.N) (hn : n < 256) (r s : Fin 1024),
    outsAt0 m c n h (ix2 r s) = upto (m ((c : Thread nD τ).loc main_arg0)) (m ((c : Thread nD τ).loc main_arg1))
      (m ((c : Thread nD τ).loc main_arg2)) (at_ n hn r s) (n % 4) (Nat.mod_lt _ (by omega)) := by
  induction n with
  | zero =>
    intro h hn r s
    rw [outsAt0_A m c ⟨0, h⟩ rfl (by simp), out_A, pay1_apply, point_sum m c ⟨0, h⟩ hn r s 0 rfl,
      iblk2_apply m c ⟨0, h⟩ r s (by simp; omega) (by simp; omega)]
    rfl
  | succ n ih =>
    intro h hn r s
    by_cases h0 : (n + 1) % 4 = 0
    · rw [outsAt0_A m c ⟨n + 1, h⟩ h0 (by simp [h0]), out_A, pay1_apply, point_sum m c ⟨n + 1, h⟩ hn r s 0 h0,
        iblk2_apply m c ⟨n + 1, h⟩ r s (by show (n + 1) / 16 * 1024 + _ < _; omega) (by show (n + 1) / 4 % 4 * 1024 + _ < _; omega)]
      simp only [h0]
      rfl
    · have hb : (n + 1) % 4 = n % 4 + 1 := by omega
      rw [outsAt0_B m c ⟨n + 1, h⟩ h0 (by show 1 ≤ (n + 1) % 4; omega), out_B, pay2_apply,
        point_sum m c ⟨n + 1, h⟩ hn r s ⟨n % 4 + 1, by omega⟩ hb]
      have hi : at_ (n + 1) hn r s = at_ n (by omega) r s := by
        unfold at_
        have e1 : (n + 1) / 16 = n / 16 := by omega
        have e2 : (n + 1) / 4 % 4 = n / 4 % 4 := by omega
        simp only [e1, e2]
      show outsAt0 m c n _ (ix2 r s) + _ = _
      rw [ih _ (by omega), hi]
      simp only [hb]
      rfl

/-- The result as contents of the kernel's result array. -/
abbrev result (c : Dev nD) : Buf (Elt Ideal) ((c : Thread nD τ).loc main_v0) :=
  down (m ((c : Thread nD τ).loc main_arg0)) (m ((c : Thread nD τ).loc main_arg1)) (m ((c : Thread nD τ).loc main_arg2))

/-- What a block's last point writes back is its block of the result. -/
theorem flushed_eq (c : Dev nD) (t : Fin cfg0.N) (hf : (cfg0.win 3).flush t = true) :
    (dats m 0 c).flushed 3 t = ((cfg0.win 3).blk t).view.read (Elt Ideal) (result m c) := by
  obtain ⟨-, -, -, -, -, -, h0, h1⟩ := idx_facts t
  have ht : t.val < 256 := lt_of_lt_of_eq t.isLt Gen.N_0
  have h3 : t.val % 4 = 3 := (flush0_3 t).mp hf
  rw [Value.flushed3]
  funext j
  obtain ⟨r, s, rfl⟩ : ∃ (r s : Fin 1024), j = ix2 r s := ⟨j 0, j 1, by funext a; fin_cases a <;> rfl⟩
  have hi : ((cfg0.win 3).blk t).view.read (Elt Ideal) (result m c) (ix2 r s) = result m c (at_ t.val ht r s) := by
    rw [View.read_apply]
    show result m c _ = _
    congr 1
    funext a
    apply Fin.ext
    match a with
    | ⟨0, _⟩ => show win0_3.index t 0 * 1024 + 1 * r.val = t.val / 16 * 1024 + r.val; rw [h0]; omega
    | ⟨1, _⟩ => show win0_3.index t 1 * 1024 + 1 * s.val = t.val / 4 % 4 * 1024 + s.val; rw [h1]; omega
  rw [hi]
  show outsAt0 m c t.val t.isLt (ix2 r s) = _
  rw [outs_eq m c t.val t.isLt ht r s]
  simp only [h3]
  exact upto_last _ _ _ _

/-- The last point of the block that holds an index. -/
theorem cover (c : Dev nD) (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  let t : Fin grid0.N := ⟨(i 0).val / 1024 * 16 + (i 1).val / 1024 * 4 + 3, by show _ < grid0.N; rw [Gen.N_0]; omega⟩
  obtain ⟨-, -, -, -, -, -, g0, g1⟩ := idx_facts t
  have ht : t.val = (i 0).val / 1024 * 16 + (i 1).val / 1024 * 4 + 3 := rfl
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t 0 * 1024 ≤ (i 0 : Nat) ∧ (i 0 : Nat) < win0_3.index t 0 * 1024 + 1024
              rw [g0]; omega
  | ⟨1, _⟩ => show win0_3.index t 1 * 1024 ≤ (i 1 : Nat) ∧ (i 1 : Nat) < win0_3.index t 1 * 1024 + 1024
              rw [g1]; omega

/-- The kernel's result array after the run. -/
theorem final (c : Dev nD) : (dats m 0 c).arrAt 3 cfg0.N = result m c :=
  (dats m 0 c).arrAt_eq_of_cover 3 (result m c) (flushed_eq m c) (cover c)

/-- The reference's sum is the same function. -/
theorem ref_eq (x : FVec Ideal Cert.DownRefIdeal.S16384x16384 .bf16) (w : FVec Ideal Cert.DownRefIdeal.S16384x4096 .bf16)
    (h : FVec Ideal Cert.DownRefIdeal.S16384x4096 .f32) :
    addf h (Host.dotGeneral (F := Ideal) Cert.DownRefIdeal.dot_S16384x16384_S16384x4096_S16384x4096_1_0_0_1_n_n none
      (extf .f32 x Cert.DownRefIdeal.Facts₀.bitsLt_bf16_f32) (extf .f32 w Cert.DownRefIdeal.Facts₀.bitsLt_bf16_f32)) = down x w h := by
  funext j
  obtain ⟨r, s, rfl⟩ : ∃ (r : Fin 16384) (s : Fin 4096), j = ix2 r s := ⟨j 0, j 1, by funext a; fin_cases a <;> rfl⟩
  pointwise
  rfl

/-- The reference's arguments end unchanged and its counters at zero: it declares no semaphore. -/
theorem frame_ref : Cert.quiescent_DownRefIdeal := fun m ρ _ =>
  (θ_run _ _ _).mono (fun r h => ⟨fun c => (h c).2, sem_eq_zero_of_no_sems (by decide) r.2⟩) (Cert.DownRefIdeal.Value.run m ρ)

/-- Kernel and reference end with the same array. -/
theorem algebraic : Cert.algebraic_DownIdeal_DownRefIdeal := fun m ρ m' ρ' _ hag =>
  ⟨fun c => result m c,
   (θ_run _ _ _).mono (fun _ h c => ⟨(h c).1.trans (final m c), (h c).2⟩) (Value.run_blocks m ρ),
   (θ_run _ _ _).mono (fun _ h c => ⟨(h c).1.trans (by
      rw [(hag c).1, (hag c).2.1, (hag c).2.2]; exact ref_eq _ _ _), (h c).2⟩)
     (Cert.DownRefIdeal.Value.run m' ρ')⟩

end Cert.DownIdeal.Val
-- ==== Proof.OutValue.lean ====
/-
  The mixers' output projection with the residual, and what the next norm needs of it: three results.
  The first is `h + [o_hg, o_mla] · w`, the second its product with the norm's gain, the third the sum of squares of each
  of its rows. A grid point computes a 1024 × 512 block; the sum of squares of a row is summed over the eight blocks of
  the row, the first point of a row block setting it and the seven after it adding to what the point before left.
-/
module

public import proofs.«01_k».proof.Proof.Gen.OutIdeal.Value
public import proofs.«01_k».proof.Proof.Gen.OutRefIdeal.Run
public import proofs.«01_k».proof.Defs
public import Idealize.ShloMosaic.Lib.Pointwise
public import Idealize.ShloMosaic.Lib.Quiescent
public import Idealize.ShloMosaic.Lib.Pipeline.Value
public import Idealize.ShloMosaic.Lib.Tactic

@[expose] public section

set_option maxRecDepth 16384

noncomputable section

namespace Cert.OutIdeal.Val

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The two mixers' halves of the product, plus the residual. -/
def proj (x y : S16384x2048.Idx → EReal) (w : S4096x4096.Idx → EReal) (h : S16384x4096.Idx → EReal) (i : S16384x4096.Idx) : EReal :=
  (∑ k : Fin 2048, x (ix2 (i 0) k) * w (ix2 ⟨k.val, by omega⟩ (i 1)))
    + (∑ k : Fin 2048, y (ix2 (i 0) k) * w (ix2 ⟨2048 + k.val, by omega⟩ (i 1))) + h i

/-- The projection with the next norm's gain on it. -/
def gained (f : S16384x4096.Idx → EReal) (g : S4096.Idx → EReal) (i : S16384x4096.Idx) : EReal := f i * g (ix1 (i 1))

/-- The sum of squares of 512 neighbours in a row. -/
def part (f : S16384x4096.Idx → EReal) (r : Fin 16384) (b : Fin 8) : EReal :=
  ∑ k : Fin 512, f (ix2 r ⟨b.val * 512 + k.val, by omega⟩) * f (ix2 r ⟨b.val * 512 + k.val, by omega⟩)

/-- The running sum of squares over a row's blocks up to block `b`. -/
def upto (f : S16384x4096.Idx → EReal) (r : Fin 16384) : (b : ℕ) → b < 8 → EReal
  | 0, hb => part f r ⟨0, hb⟩
  | b + 1, hb => upto f r b (by omega) + part f r ⟨b + 1, hb⟩

/-- The sum of squares of a whole row, the same in each of the 128 columns. -/
def rowsq (f : S16384x4096.Idx → EReal) (i : S16384x128.Idx) : EReal :=
  ∑ k : Fin 4096, f (ix2 (i 0) k) * f (ix2 (i 0) k)

/-- After the eighth block the running sum is whole. -/
theorem upto_last (f : S16384x4096.Idx → EReal) (i : S16384x128.Idx) : upto f (i 0) 7 (by omega) = rowsq f i := by
  unfold rowsq
  rw [Fin.sum_univ_tiles 8 512 rfl, Fin.sum_univ_eight]
  rfl

theorem hz : (![0, 0] : Fin 2 → Nat) = fun _ => 0 := funext fun a => by fin_cases a <;> rfl

/-- The block indices of the windows at a point: row block `t / 8`, column block `t % 8`. -/
theorem idx_facts : ∀ t : Fin grid0.N, (win0_0.index t 0 = t.val / 8 ∧ win0_0.index t 1 = 0)
    ∧ (win0_1.index t 0 = t.val / 8 ∧ win0_1.index t 1 = 0) ∧ (win0_2.index t 0 = 0 ∧ win0_2.index t 1 = t.val % 8)
    ∧ (win0_3.index t 0 = 1 ∧ win0_3.index t 1 = t.val % 8) ∧ (win0_4.index t 0 = t.val / 8 ∧ win0_4.index t 1 = t.val % 8)
    ∧ (win0_5.index t 0 = 0 ∧ win0_5.index t 1 = t.val % 8) ∧ (win0_6.index t 0 = t.val / 8 ∧ win0_6.index t 1 = t.val % 8)
    ∧ (win0_7.index t 0 = t.val / 8 ∧ win0_7.index t 1 = t.val % 8) ∧ (win0_8.index t 0 = t.val / 8 ∧ win0_8.index t 1 = 0) := by
  decide +kernel

/-- The recurrence's output, a block of it. -/
theorem iblk0_apply (c : Dev nD) (t : Fin cfg0.N) (r : Fin 1024) (k : Fin 2048) (h : t.val / 8 * 1024 + r.val < 16384) :
    iblk m c 0 t (ix2 r k) = m ((c : Thread nD τ).loc main_arg0) (ix2 ⟨t.val / 8 * 1024 + r.val, h⟩ k) := by
  obtain ⟨⟨h0, h1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val / 8 * 1024 + r.val; rw [h0]; omega
  | ⟨1, _⟩ => show win0_0.index t 1 * 2048 + 1 * k.val = k.val; rw [h1]; omega

/-- The attention's output, a block of it. -/
theorem iblk1_apply (c : Dev nD) (t : Fin cfg0.N) (r : Fin 1024) (k : Fin 2048) (h : t.val / 8 * 1024 + r.val < 16384) :
    iblk m c 1 t (ix2 r k) = m ((c : Thread nD τ).loc main_arg1) (ix2 ⟨t.val / 8 * 1024 + r.val, h⟩ k) := by
  obtain ⟨-, ⟨h0, h1⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * r.val = t.val / 8 * 1024 + r.val; rw [h0]; omega
  | ⟨1, _⟩ => show win0_1.index t 1 * 2048 + 1 * k.val = k.val; rw [h1]; omega

/-- The weight's upper half, a block of its columns. -/
theorem iblk2_apply (c : Dev nD) (t : Fin cfg0.N) (k : Fin 2048) (s : Fin 512) (h : t.val % 8 * 512 + s.val < 4096) :
    iblk m c 2 t (ix2 k s) = m ((c : Thread nD τ).loc main_arg2) (ix2 ⟨k.val, by omega⟩ ⟨t.val % 8 * 512 + s.val, h⟩) := by
  obtain ⟨-, -, ⟨h0, h1⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 2048 + 1 * k.val = k.val; rw [h0]; omega
  | ⟨1, _⟩ => show win0_2.index t 1 * 512 + 1 * s.val = t.val % 8 * 512 + s.val; rw [h1]; omega

/-- The weight's lower half, a block of its columns. -/
theorem iblk3_apply (c : Dev nD) (t : Fin cfg0.N) (k : Fin 2048) (s : Fin 512) (h : t.val % 8 * 512 + s.val < 4096) :
    iblk m c 3 t (ix2 k s) = m ((c : Thread nD τ).loc main_arg2) (ix2 ⟨2048 + k.val, by omega⟩ ⟨t.val % 8 * 512 + s.val, h⟩) := by
  obtain ⟨-, -, -, ⟨h0, h1⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_3.index t 0 * 2048 + 1 * k.val = 2048 + k.val; rw [h0]; omega
  | ⟨1, _⟩ => show win0_3.index t 1 * 512 + 1 * s.val = t.val % 8 * 512 + s.val; rw [h1]; omega

/-- The residual, a block of it. -/
theorem iblk4_apply (c : Dev nD) (t : Fin cfg0.N) (r : Fin 1024) (s : Fin 512) (h : t.val / 8 * 1024 + r.val < 16384)
    (h' : t.val % 8 * 512 + s.val < 4096) :
    iblk m c 4 t (ix2 r s) = m ((c : Thread nD τ).loc main_arg3) (ix2 ⟨t.val / 8 * 1024 + r.val, h⟩ ⟨t.val % 8 * 512 + s.val, h'⟩) := by
  obtain ⟨-, -, -, -, ⟨h0, h1⟩, -⟩ := idx_facts t
  unfold iblk
  rw [View.read_apply]
  show V m c main_arg3 _ = m (c.tc.loc main_arg3) _
  rw [V_main_arg3]
  congr 1
  funext a
  apply Fin.ext
  match a with
  | ⟨0, _⟩ => show win0_4.index t 0 * 1024 + 1 * r.val = t.val / 8 * 1024 + r.val; rw [h0]; omega
  | ⟨1, _⟩ => show win0_4.index t 1 * 512 + 1 * s.val = t.val % 8 * 512 + s.val; rw [h1]; omega

/-- The norm's gain as one row: the host's reshape of the argument. -/
theorem V_row (c : Dev nD) (q : Fin 4096) : V m c main_v0 (ix2 (0 : Fin 1) q) = m ((c : Thread nD τ).loc main_arg4) (ix1 q) := by
  entry_read
  pointwise

/-- The gain, a block of it. -/
theorem iblk5_apply (c : Dev nD) (t : Fin cfg0.N) (s : Fin 512) (h : t.val % 8 * 512 + s.val < 4096) :
    iblk m c 5 t (ix2 (0 : Fin 1) s) = m ((c : Thread nD τ).loc main_arg4) (ix1 ⟨t.val % 8 * 512 + s.val, h⟩) := by
  obtain ⟨-, -, -, -, -, ⟨h0, h1⟩, -⟩ := idx_facts t
  unfold iblk
  rw [View.read_apply]
  show V m c main_v0 _ = m (c.tc.loc main_arg4) _
  rw [← V_row m c]
  congr 1
  funext a
  apply Fin.ext
  match a with
  | ⟨0, _⟩ => show win0_5.index t 0 * 1 + 1 * 0 = 0; rw [h0]
  | ⟨1, _⟩ => show win0_5.index t 1 * 512 + 1 * s.val = t.val % 8 * 512 + s.val; rw [h1]; omega

/-- The projection as contents of the kernel's first result array. -/
abbrev res6 (c : Dev nD) : Buf (Elt Ideal) ((c : Thread nD τ).loc main_v1_0) :=
  proj (m ((c : Thread nD τ).loc main_arg0)) (m ((c : Thread nD τ).loc main_arg1)) (m ((c : Thread nD τ).loc main_arg2))
    (m ((c : Thread nD τ).loc main_arg3))

/-- The projection with the gain, as contents of the second. -/
abbrev res7 (c : Dev nD) : Buf (Elt Ideal) ((c : Thread nD τ).loc main_v1_1) :=
  gained (res6 m c) (m ((c : Thread nD τ).loc main_arg4))

/-- The rows' sums of squares, as contents of the third. -/
abbrev res8 (c : Dev nD) : Buf (Elt Ideal) ((c : Thread nD τ).loc main_v1_2) := rowsq (res6 m c)

/-- The index of the result that a point's block holds at `(r, s)`. -/
def at_ (t : ℕ) (ht : t < 128) (r : Fin 1024) (s : Fin 512) : S16384x4096.Idx :=
  ix2 (n0 := 16384) (n1 := 4096) ⟨t / 8 * 1024 + r.val, by omega⟩ ⟨t % 8 * 512 + s.val, by omega⟩

/-- The payload that is stored in the first result's block: the projection at the block's indices. -/
theorem pay1_apply (c : Dev nD) (t : Fin cfg0.N) (ht : t.val < 128) (r : Fin 1024) (s : Fin 512) :
    k0_pay1 (iblk m c 0 t) (iblk m c 2 t) (iblk m c 1 t) (iblk m c 3 t) (iblk m c 4 t) (ix2 r s) = res6 m c (at_ t.val ht r s) := by
  pointwise [k0_pay1]
  rw [iblk4_apply m c t r s (by omega) (by omega)]
  refine congrArg₂ (· + ·) (congrArg₂ (· + ·) (Finset.sum_congr rfl fun k _ => ?_) (Finset.sum_congr rfl fun k _ => ?_)) rfl
  · rw [iblk0_apply m c t r k (by omega), iblk2_apply m c t k s (by omega)]; rfl
  · rw [iblk1_apply m c t r k (by omega), iblk3_apply m c t k s (by omega)]; rfl

/-- … the second's: the projection with its gain. -/
theorem pay2_apply (c : Dev nD) (t : Fin cfg0.N) (ht : t.val < 128) (r : Fin 1024) (s : Fin 512) :
    k0_pay2 (iblk m c 0 t) (iblk m c 2 t) (iblk m c 1 t) (iblk m c 3 t) (iblk m c 4 t) (iblk m c 5 t) (ix2 r s)
      = res7 m c (at_ t.val ht r s) := by
  have h := pay1_apply m c t ht r s
  have hg := iblk5_apply m c t s (by omega)
  unfold res7 gained
  rw [← h]
  pointwise [k0_pay2]
  rw [hg]
  rfl

/-- … and what is added to the third's: the block's share of the row's sum of squares. -/
theorem pay3_apply (c : Dev nD) (t : Fin cfg0.N) (ht : t.val < 128) (r : Fin 1024) (l : Fin 128) (b : Fin 8) (hb : t.val % 8 = b.val) :
    k0_pay3 (iblk m c 0 t) (iblk m c 2 t) (iblk m c 1 t) (iblk m c 3 t) (iblk m c 4 t) (ix2 r l)
      = part (res6 m c) ⟨t.val / 8 * 1024 + r.val, by omega⟩ b := by
  have e : k0_pay3 (iblk m c 0 t) (iblk m c 2 t) (iblk m c 1 t) (iblk m c 3 t) (iblk m c 4 t) (ix2 r l)
      = ∑ s : Fin 512, (show EReal from res6 m c (at_ t.val ht r s)) * (show EReal from res6 m c (at_ t.val ht r s)) := by
    simp only [← pay1_apply m c t ht r]
    pointwise [k0_pay3]
  rw [e]
  simp only [at_, hb]
  rfl

/-- What a row block's first point leaves in the three buffers. -/
theorem outs_A (c : Dev nD) (t : Fin cfg0.N) (h0 : t.val % 8 = 0) : outsAt0 m c t.val t.isLt
    = (k0_pay1 (iblk m c 0 t) (iblk m c 2 t) (iblk m c 1 t) (iblk m c 3 t) (iblk m c 4 t),
       k0_pay2 (iblk m c 0 t) (iblk m c 2 t) (iblk m c 1 t) (iblk m c 3 t) (iblk m c 4 t) (iblk m c 5 t),
       k0_pay3 (iblk m c 0 t) (iblk m c 2 t) (iblk m c 1 t) (iblk m c 3 t) (iblk m c 4 t)) := by
  rw [outsAt0_A m c t h0 (by omega)]
  refine Prod.ext ?_ (Prod.ext ?_ ?_)
  · dsimp only
    unfold out0_A_6
    rw [View.read_writes_eq_canon _ _ _ (fun _ => cover0_A_6 ..)]
    unfold kernelRun0_A
    dsimp only
    rw [View.canon_unit_zero hz]
    simp only [View.readAt_eq_ld, (hs0_0 t).read_unread, (hs0_1 t).read_unread, (hs0_2 t).read_unread, (hs0_3 t).read_unread,
      (hs0_4 t).read_unread, View.ld_unit_zero (S := S1024x2048) hz, View.ld_unit_zero (S := S2048x512) hz,
      View.ld_unit_zero (S := S1024x512) hz]
  · dsimp only
    unfold out0_A_7
    rw [View.read_writes_eq_canon _ _ _ (fun _ => cover0_A_7 ..)]
    unfold kernelRun0_A
    dsimp only
    rw [View.canon_unit_zero hz]
    simp only [View.readAt_eq_ld, (hs0_0 t).read_unread, (hs0_1 t).read_unread, (hs0_2 t).read_unread, (hs0_3 t).read_unread,
      (hs0_4 t).read_unread, (hs0_5 t).read_unread, View.ld_unit_zero (S := S1024x2048) hz, View.ld_unit_zero (S := S2048x512) hz,
      View.ld_unit_zero (S := S1024x512) hz, View.ld_unit_zero (S := S1x512) hz]
  · dsimp only
    unfold out0_A_8
    rw [View.read_writes_eq_canon _ _ _ (fun _ => cover0_A_8 ..)]
    unfold kernelRun0_A
    dsimp only
    rw [View.canon_unit_zero hz]
    simp only [View.readAt_eq_ld, (hs0_0 t).read_unread, (hs0_1 t).read_unread, (hs0_2 t).read_unread, (hs0_3 t).read_unread,
      (hs0_4 t).read_unread, View.ld_unit_zero (S := S1024x2048) hz, View.ld_unit_zero (S := S2048x512) hz,
      View.ld_unit_zero (S := S1024x512) hz]

/-- What a later point leaves in them, the third over what the point before left. -/
theorem outs_B (c : Dev nD) (t : Fin cfg0.N) (h0 : ¬t.val % 8 = 0) : outsAt0 m c t.val t.isLt
    = (k0_pay1 (iblk m c 0 t) (iblk m c 2 t) (iblk m c 1 t) (iblk m c 3 t) (iblk m c 4 t),
       k0_pay2 (iblk m c 0 t) (iblk m c 2 t) (iblk m c 1 t) (iblk m c 3 t) (iblk m c 4 t) (iblk m c 5 t),
       k0_pay4 (iblk m c 0 t) (iblk m c 2 t) (iblk m c 1 t) (iblk m c 3 t) (iblk m c 4 t)
         (outsAt0 m c (t.val - 1) (Nat.lt_of_le_of_lt (Nat.sub_le _ _) t.isLt)).2.2) := by
  rw [outsAt0_B m c t h0 (by omega)]
  refine Prod.ext ?_ (Prod.ext ?_ ?_)
  · dsimp only
    unfold out0_B_6
    rw [View.read_writes_eq_canon _ _ _ (fun _ => cover0_B_6 ..)]
    unfold kernelRun0_B
    dsimp only
    rw [View.canon_unit_zero hz]
    simp only [View.readAt_eq_ld, (hs0_0 t).read_unread, (hs0_1 t).read_unread, (hs0_2 t).read_unread, (hs0_3 t).read_unread,
      (hs0_4 t).read_unread, View.ld_unit_zero (S := S1024x2048) hz, View.ld_unit_zero (S := S2048x512) hz,
      View.ld_unit_zero (S := S1024x512) hz]
  · dsimp only
    unfold out0_B_7
    rw [View.read_writes_eq_canon _ _ _ (fun _ => cover0_B_7 ..)]
    unfold kernelRun0_B
    dsimp only
    rw [View.canon_unit_zero hz]
    simp only [View.readAt_eq_ld, (hs0_0 t).read_unread, (hs0_1 t).read_unread, (hs0_2 t).read_unread, (hs0_3 t).read_unread,
      (hs0_4 t).read_unread, (hs0_5 t).read_unread, View.ld_unit_zero (S := S1024x2048) hz, View.ld_unit_zero (S := S2048x512) hz,
      View.ld_unit_zero (S := S1024x512) hz, View.ld_unit_zero (S := S1x512) hz]
  · dsimp only
    unfold out0_B_8
    rw [View.read_writes_eq_canon _ _ _ (fun _ => cover0_B_8 ..)]
    unfold kernelRun0_B
    dsimp only
    rw [View.canon_unit_zero hz]
    simp only [View.readAt_eq_ld, (hs0_0 t).read_unread, (hs0_1 t).read_unread, (hs0_2 t).read_unread, (hs0_3 t).read_unread,
      (hs0_4 t).read_unread, (hs0_8 t).read_unread, View.ld_unit_zero (S := S1024x2048) hz, View.ld_unit_zero (S := S2048x512) hz,
      View.ld_unit_zero (S := S1024x512) hz, View.ld_unit_zero (S := S1024x128) hz]

/-- At every point the first two buffers hold their payloads. -/
theorem outs_12 (c : Dev nD) (t : Fin cfg0.N) :
    (outsAt0 m c t.val t.isLt).1 = k0_pay1 (iblk m c 0 t) (iblk m c 2 t) (iblk m c 1 t) (iblk m c 3 t) (iblk m c 4 t)
    ∧ (outsAt0 m c t.val t.isLt).2.1
      = k0_pay2 (iblk m c 0 t) (iblk m c 2 t) (iblk m c 1 t) (iblk m c 3 t) (iblk m c 4 t) (iblk m c 5 t) := by
  by_cases h0 : t.val % 8 = 0
  · rw [outs_A m c t h0]; exact ⟨rfl, rfl⟩
  · rw [outs_B m c t h0]; exact ⟨rfl, rfl⟩

/-- The third buffer after point `t` holds the running sum of squares up to the point's block. -/
theorem outs_3 (c : Dev nD) (n : ℕ) : ∀ (h : n < cfg0.N) (hn : n < 128) (r : Fin 1024) (l : Fin 128),
    (outsAt0 m c n h).2.2 (ix2 r l) = upto (res6 m c) ⟨n / 8 * 1024 + r.val, by omega⟩ (n % 8) (Nat.mod_lt _ (by omega)) := by
  induction n with
  | zero =>
    intro h hn r l
    rw [outs_A m c ⟨0, h⟩ rfl]
    exact pay3_apply m c ⟨0, h⟩ hn r l 0 rfl
  | succ n ih =>
    intro h hn r l
    by_cases h0 : (n + 1) % 8 = 0
    · rw [outs_A m c ⟨n + 1, h⟩ h0]
      refine (pay3_apply m c ⟨n + 1, h⟩ hn r l 0 h0).trans ?_
      simp only [h0]
      rfl
    · have hb : (n + 1) % 8 = n % 8 + 1 := by omega
      have hr : (n + 1) / 8 = n / 8 := by omega
      rw [outs_B m c ⟨n + 1, h⟩ h0]
      have e := pay3_apply m c ⟨n + 1, h⟩ hn r l ⟨n % 8 + 1, by omega⟩ hb
      dsimp only
      pointwise [k0_pay4]
      rw [e]
      show (outsAt0 m c n _).2.2 (ix2 r l) + _ = _
      rw [ih _ (by omega)]
      simp only [hb, hr]
      rfl

/-- What a point writes back to the first array is its block of the result. -/
theorem flushed6 (c : Dev nD) (t : Fin cfg0.N) :
    (dats m 0 c).flushed 6 t = ((cfg0.win 6).blk t).view.read (Elt Ideal) (res6 m c) := by
  obtain ⟨-, -, -, -, -, -, ⟨h0, h1⟩, -⟩ := idx_facts t
  have ht : t.val < 128 := lt_of_lt_of_eq t.isLt Gen.N_0
  rw [Value.flushed6, (outs_12 m c t).1]
  funext j
  obtain ⟨r, s, rfl⟩ : ∃ (r : Fin 1024) (s : Fin 512), j = ix2 r s := ⟨j 0, j 1, by funext a; fin_cases a <;> rfl⟩
  refine (pay1_apply m c t ht r s).trans ?_
  rw [View.read_apply]
  show res6 m c _ = res6 m c _
  congr 1
  funext a
  apply Fin.ext
  match a with
  | ⟨0, _⟩ => show t.val / 8 * 1024 + r.val = win0_6.index t 0 * 1024 + 1 * r.val; rw [h0]; omega
  | ⟨1, _⟩ => show t.val % 8 * 512 + s.val = win0_6.index t 1 * 512 + 1 * s.val; rw [h1]; omega

/-- … to the second array. -/
theorem flushed7 (c : Dev nD) (t : Fin cfg0.N) :
    (dats m 0 c).flushed 7 t = ((cfg0.win 7).blk t).view.read (Elt Ideal) (res7 m c) := by
  obtain ⟨-, -, -, -, -, -, -, ⟨h0, h1⟩, -⟩ := idx_facts t
  have ht : t.val < 128 := lt_of_lt_of_eq t.isLt Gen.N_0
  rw [Value.flushed7, (outs_12 m c t).2]
  funext j
  obtain ⟨r, s, rfl⟩ : ∃ (r : Fin 1024) (s : Fin 512), j = ix2 r s := ⟨j 0, j 1, by funext a; fin_cases a <;> rfl⟩
  refine (pay2_apply m c t ht r s).trans ?_
  rw [View.read_apply]
  show res7 m c _ = res7 m c _
  congr 1
  funext a
  apply Fin.ext
  match a with
  | ⟨0, _⟩ => show t.val / 8 * 1024 + r.val = win0_7.index t 0 * 1024 + 1 * r.val; rw [h0]; omega
  | ⟨1, _⟩ => show t.val % 8 * 512 + s.val = win0_7.index t 1 * 512 + 1 * s.val; rw [h1]; omega

/-- What a row block's last point writes back to the third array is its block of the result. -/
theorem flushed8 (c : Dev nD) (t : Fin cfg0.N) (hf : (cfg0.win 8).flush t = true) :
    (dats m 0 c).flushed 8 t = ((cfg0.win 8).blk t).view.read (Elt Ideal) (res8 m c) := by
  obtain ⟨-, -, -, -, -, -, -, -, ⟨h0, h1⟩⟩ := idx_facts t
  have ht : t.val < 128 := lt_of_lt_of_eq t.isLt Gen.N_0
  have h7 : t.val % 8 = 7 := (flush0_8 t).mp hf
  rw [Value.flushed8]
  funext j
  obtain ⟨r, l, rfl⟩ : ∃ (r : Fin 1024) (l : Fin 128), j = ix2 r l := ⟨j 0, j 1, by funext a; fin_cases a <;> rfl⟩
  refine (outs_3 m c t.val t.isLt ht r l).trans ?_
  rw [View.read_apply]
  simp only [h7]
  refine (upto_last (res6 m c) (ix2 (n0 := 16384) (n1 := 128) ⟨t.val / 8 * 1024 + r.val, by omega⟩ l)).trans ?_
  show res8 m c _ = res8 m c _
  congr 1
  funext a
  apply Fin.ext
  match a with
  | ⟨0, _⟩ => show t.val / 8 * 1024 + r.val = win0_8.index t 0 * 1024 + 1 * r.val; rw [h0]; omega
  | ⟨1, _⟩ => show l.val = win0_8.index t 1 * 128 + 1 * l.val; rw [h1]; omega

/-- The point whose block of the first array holds an index. -/
theorem cover6 (c : Dev nD) (i : S16384x4096.Idx) : ∃ t : Fin cfg0.N, (cfg0.win 6).flush t = true ∧ i ∈ ((cfg0.win 6).blk t).view.set := by
  have h0 : (i 0).val < 16384 := (i 0).isLt
  have h1 : (i 1).val < 4096 := (i 1).isLt
  let t : Fin grid0.N := ⟨(i 0).val / 1024 * 8 + (i 1).val / 512, by show _ < grid0.N; rw [Gen.N_0]; omega⟩
  obtain ⟨-, -, -, -, -, -, ⟨g0, g1⟩, -⟩ := idx_facts t
  have ht : t.val = (i 0).val / 1024 * 8 + (i 1).val / 512 := rfl
  refine ⟨t, flush0_6 t, ?_⟩
  show i ∈ ((View.whole main_v1_0).slice (win0_6.rect t)).set
  rw [View.set_slice_whole, Rect.mem_set_unit]
  intro a
  match a with
  | ⟨0, _⟩ => show win0_6.index t 0 * 1024 ≤ (i 0 : Nat) ∧ (i 0 : Nat) < win0_6.index t 0 * 1024 + 1024
              rw [g0]; omega
  | ⟨1, _⟩ => show win0_6.index t 1 * 512 ≤ (i 1 : Nat) ∧ (i 1 : Nat) < win0_6.index t 1 * 512 + 512
              rw [g1]; omega

/-- … of the second. -/
theorem cover7 (c : Dev nD) (i : S16384x4096.Idx) : ∃ t : Fin cfg0.N, (cfg0.win 7).flush t = true ∧ i ∈ ((cfg0.win 7).blk t).view.set := by
  have h0 : (i 0).val < 16384 := (i 0).isLt
  have h1 : (i 1).val < 4096 := (i 1).isLt
  let t : Fin grid0.N := ⟨(i 0).val / 1024 * 8 + (i 1).val / 512, by show _ < grid0.N; rw [Gen.N_0]; omega⟩
  obtain ⟨-, -, -, -, -, -, -, ⟨g0, g1⟩, -⟩ := idx_facts t
  have ht : t.val = (i 0).val / 1024 * 8 + (i 1).val / 512 := rfl
  refine ⟨t, flush0_7 t, ?_⟩
  show i ∈ ((View.whole main_v1_1).slice (win0_7.rect t)).set
  rw [View.set_slice_whole, Rect.mem_set_unit]
  intro a
  match a with
  | ⟨0, _⟩ => show win0_7.index t 0 * 1024 ≤ (i 0 : Nat) ∧ (i 0 : Nat) < win0_7.index t 0 * 1024 + 1024
              rw [g0]; omega
  | ⟨1, _⟩ => show win0_7.index t 1 * 512 ≤ (i 1 : Nat) ∧ (i 1 : Nat) < win0_7.index t 1 * 512 + 512
              rw [g1]; omega

/-- The last point of the row block of the third array that holds an index. -/
theorem cover8 (c : Dev nD) (i : S16384x128.Idx) : ∃ t : Fin cfg0.N, (cfg0.win 8).flush t = true ∧ i ∈ ((cfg0.win 8).blk t).view.set := by
  have h0 : (i 0).val < 16384 := (i 0).isLt
  have h1 : (i 1).val < 128 := (i 1).isLt
  let t : Fin grid0.N := ⟨(i 0).val / 1024 * 8 + 7, by show _ < grid0.N; rw [Gen.N_0]; omega⟩
  obtain ⟨-, -, -, -, -, -, -, -, ⟨g0, g1⟩⟩ := idx_facts t
  have ht : t.val = (i 0).val / 1024 * 8 + 7 := rfl
  refine ⟨t, (flush0_8 t).mpr (by omega), ?_⟩
  show i ∈ ((View.whole main_v1_2).slice (win0_8.rect t)).set
  rw [View.set_slice_whole, Rect.mem_set_unit]
  intro a
  match a with
  | ⟨0, _⟩ => show win0_8.index t 0 * 1024 ≤ (i 0 : Nat) ∧ (i 0 : Nat) < win0_8.index t 0 * 1024 + 1024
              rw [g0]; omega
  | ⟨1, _⟩ => show win0_8.index t 1 * 128 ≤ (i 1 : Nat) ∧ (i 1 : Nat) < win0_8.index t 1 * 128 + 128
              rw [g1]; omega

/-- The three result arrays after the run. -/
theorem final6 (c : Dev nD) : (dats m 0 c).arrAt 6 cfg0.N = res6 m c :=
  (dats m 0 c).arrAt_eq_of_cover 6 (res6 m c) (fun t _ => flushed6 m c t) (cover6 c)
theorem final7 (c : Dev nD) : (dats m 0 c).arrAt 7 cfg0.N = res7 m c :=
  (dats m 0 c).arrAt_eq_of_cover 7 (res7 m c) (fun t _ => flushed7 m c t) (cover7 c)
theorem final8 (c : Dev nD) : (dats m 0 c).arrAt 8 cfg0.N = res8 m c :=
  (dats m 0 c).arrAt_eq_of_cover 8 (res8 m c) (flushed8 m c) (cover8 c)

/-- The reference's first result is the same function: its product over the joined columns is the two halves' sum. -/
theorem ref6 (x y : FVec Ideal Cert.OutRefIdeal.S16384x2048 .bf16) (w : FVec Ideal Cert.OutRefIdeal.S4096x4096 .bf16)
    (h : FVec Ideal Cert.OutRefIdeal.S16384x4096 .f32) :
    addf h (Host.dotGeneral (F := Ideal) Cert.OutRefIdeal.dot_S16384x4096_S4096x4096_S16384x4096_1_0_0_1_n_n none
      (extf .f32 (concatenate Cert.OutRefIdeal.S16384x4096 1 [⟨Cert.OutRefIdeal.S16384x2048, x⟩, ⟨Cert.OutRefIdeal.S16384x2048, y⟩]
        Cert.OutRefIdeal.Facts₀.concatenates_S16384x2048_S16384x2048_S16384x4096_d1) Cert.OutRefIdeal.Facts₀.bitsLt_bf16_f32)
      (extf .f32 w Cert.OutRefIdeal.Facts₀.bitsLt_bf16_f32)) = proj x y w h := by
  funext j
  obtain ⟨r, s, rfl⟩ : ∃ (r : Fin 16384) (s : Fin 4096), j = ix2 r s := ⟨j 0, j 1, by funext a; fin_cases a <;> rfl⟩
  pointwise
  exact add_comm _ _

/-- … its second result the gain times the first. -/
theorem ref7 (f : FVec Ideal Cert.OutRefIdeal.S16384x4096 .f32) (g : FVec Ideal Cert.OutRefIdeal.S4096 .f32) :
    truncf .bf16 (mulf f (broadcastInDim Cert.OutRefIdeal.S16384x4096 ![0, 1] Cert.OutRefIdeal.Facts₀.bcast_S1x4096_S16384x4096_0_1
      (broadcastInDim Cert.OutRefIdeal.S1x4096 ![1] Cert.OutRefIdeal.Facts₀.bcast_S4096_S1x4096_1 g)))
      Cert.OutRefIdeal.Facts₀.bitsLt_bf16_f32 = gained f g := by
  funext j
  obtain ⟨r, s, rfl⟩ : ∃ (r : Fin 16384) (s : Fin 4096), j = ix2 r s := ⟨j 0, j 1, by funext a; fin_cases a <;> rfl⟩
  pointwise
  rfl

/-- … its third the sum of squares of the first's rows. -/
theorem ref8 (f : FVec Ideal Cert.OutRefIdeal.S16384x4096 .f32) :
    broadcastInDim Cert.OutRefIdeal.S16384x128 ![0, 1] Cert.OutRefIdeal.Facts₀.bcast_S16384x1_S16384x128_0_1
      (broadcastInDim Cert.OutRefIdeal.S16384x1 ![0] Cert.OutRefIdeal.Facts₀.bcast_S16384_S16384x1_0
        (Host.reduceAdd (mulf f f) (constant (F := Ideal) Cert.OutRefIdeal.S_ .f32 0x00000000#32)
          Cert.OutRefIdeal.Facts₀.reducesTo_S16384x4096_S16384_d1 Cert.OutRefIdeal.Facts₀.h_S_)) = rowsq f := by
  funext j
  obtain ⟨r, l, rfl⟩ : ∃ (r : Fin 16384) (l : Fin 128), j = ix2 r l := ⟨j 0, j 1, by funext a; fin_cases a <;> rfl⟩
  pointwise
  rfl

/-- The reference's arguments end unchanged and its counters at zero: it declares no semaphore. -/
theorem frame_ref : Cert.quiescent_OutRefIdeal := fun m ρ _ =>
  (θ_run _ _ _).mono (fun r h => ⟨fun c => (h c).2.2.2, sem_eq_zero_of_no_sems (by decide) r.2⟩) (Cert.OutRefIdeal.Value.run m ρ)

/-- Kernel and reference end with the same three arrays. -/
theorem algebraic : Cert.algebraic_OutIdeal_OutRefIdeal := fun m ρ m' ρ' _ hag =>
  ⟨fun c => res6 m c, fun c => res7 m c, fun c => res8 m c,
   (θ_run _ _ _).mono (fun _ h c => ⟨(h c).1.trans (final6 m c), (h c).2.1.trans (final7 m c), (h c).2.2.1.trans (final8 m c),
      (h c).2.2.2⟩) (Value.run_blocks m ρ),
   (θ_run _ _ _).mono (fun _ h c => by
      obtain ⟨h6, h7, h8, hk⟩ := h c
      obtain ⟨a0, a1, a2, a3, a4⟩ := hag c
      rw [a0, a1, a2, a3] at h6 h7 h8
      rw [a4] at h7
      have e := ref6 (m (c.tc.loc main_arg0)) (m (c.tc.loc main_arg1)) (m (c.tc.loc main_arg2)) (m (c.tc.loc main_arg3))
      exact ⟨h6.trans e, h7.trans ((ref7 _ _).trans (congrArg (gained · _) e)), h8.trans ((ref8 _).trans (congrArg rowsq e)), hk⟩)
     (Cert.OutRefIdeal.Value.run m' ρ')⟩

end Cert.OutIdeal.Val
-- ==== Proof.NormValue.lean ====
/-
  The first norm and the product that follows it: two results. The first is each row scaled by its reciprocal root mean
  square and by the gain, the second the product of the first with a weight. Each of the 64 grid points writes 256 rows of
  both, so each row's mean and each sum of the product are whole at one point.
-/
module

public import proofs.«01_k».proof.Proof.Gen.NormIdeal.Value
public import proofs.«01_k».proof.Proof.Gen.NormRefIdeal.Run
public import proofs.«01_k».proof.Defs
public import Idealize.ShloMosaic.Lib.Pointwise
public import Idealize.ShloMosaic.Lib.Quiescent
public import Idealize.ShloMosaic.Lib.Pipeline.Value
public import Idealize.ShloMosaic.Lib.Tactic

@[expose] public section

set_option maxRecDepth 16384

noncomputable section

namespace Cert.NormIdeal.Val

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A row's reciprocal root mean square. -/
def scale (x : Fin 4096 → EReal) : EReal :=
  Ideal.rsqrt (Ideal.div (∑ k, x k * x k) (Ideal.ofBits .f32 0x45800000#32) + Ideal.ofBits .f32 0x358637BD#32)

/-- The normed rows. -/
def normed (x : S16384x4096.Idx → EReal) (g : S4096.Idx → EReal) (i : S16384x4096.Idx) : EReal :=
  x i * scale (fun k => x (ix2 (i 0) k)) * g (ix1 (i 1))

/-- Their product with the weight. -/
def projected (f : S16384x4096.Idx → EReal) (w : S4096x1408.Idx → EReal) (i : S16384x1408.Idx) : EReal :=
  ∑ k : Fin 4096, f (ix2 (i 0) k) * w (ix2 k (i 1))

theorem hz : (![0, 0] : Fin 2 → Nat) = fun _ => 0 := funext fun a => by fin_cases a <;> rfl

/-- The block indices of the windows at a point: row block `t`, or the whole array. -/
theorem idx_facts : ∀ t : Fin grid0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0) := by
  decide +kernel

/-- A block of 256 rows. -/
theorem iblk0_apply (c : Dev nD) (t : Fin cfg0.N) (r : Fin 256) (k : Fin 4096) (h : t.val * 256 + r.val < 16384) :
    iblk m c 0 t (ix2 r k) = m ((c : Thread nD τ).loc main_arg0) (ix2 ⟨t.val * 256 + r.val, h⟩ k) := by
  obtain ⟨⟨h0, h1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val * 256 + r.val; rw [h0]; omega
  | ⟨1, _⟩ => show win0_0.index t 1 * 4096 + 1 * k.val = k.val; rw [h1]; omega

/-- The gain as one row: the host's reshape of the argument. -/
theorem V_row (c : Dev nD) (q : Fin 4096) : V m c main_v0 (ix2 (0 : Fin 1) q) = m ((c : Thread nD τ).loc main_arg1) (ix1 q) := by
  entry_read
  pointwise

/-- The gain, the same at every point. -/
theorem iblk1_apply (c : Dev nD) (t : Fin cfg0.N) (s : Fin 4096) :
    iblk m c 1 t (ix2 (0 : Fin 1) s) = m ((c : Thread nD τ).loc main_arg1) (ix1 s) := by
  obtain ⟨-, ⟨h0, h1⟩, -⟩ := idx_facts t
  unfold iblk
  rw [View.read_apply]
  show V m c main_v0 _ = m (c.tc.loc main_arg1) _
  rw [← V_row m c]
  congr 1
  funext a
  apply Fin.ext
  match a with
  | ⟨0, _⟩ => show win0_1.index t 0 * 1 + 1 * 0 = 0; rw [h0]
  | ⟨1, _⟩ => show win0_1.index t 1 * 4096 + 1 * s.val = s.val; rw [h1]; omega

/-- The weight, the same at every point. -/
theorem iblk2_apply (c : Dev nD) (t : Fin cfg0.N) (k : Fin 4096) (s : Fin 1408) :
    iblk m c 2 t (ix2 k s) = m ((c : Thread nD τ).loc main_arg2) (ix2 k s) := by
  obtain ⟨-, -, ⟨h0, h1⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 4096 + 1 * k.val = k.val; rw [h0]; omega
  | ⟨1, _⟩ => show win0_2.index t 1 * 1408 + 1 * s.val = s.val; rw [h1]; omega

/-- The normed rows as contents of the kernel's first result array. -/
abbrev res3 (c : Dev nD) : Buf (Elt Ideal) ((c : Thread nD τ).loc main_v1_0) :=
  normed (m ((c : Thread nD τ).loc main_arg0)) (m ((c : Thread nD τ).loc main_arg1))

/-- The product as contents of the second. -/
abbrev res4 (c : Dev nD) : Buf (Elt Ideal) ((c : Thread nD τ).loc main_v1_1) :=
  projected (res3 m c) (m ((c : Thread nD τ).loc main_arg2))

/-- The payload that is stored in the first result's block: the normed rows at the block's indices. -/
theorem pay1_apply (c : Dev nD) (t : Fin cfg0.N) (r : Fin 256) (s : Fin 4096) (h : t.val * 256 + r.val < 16384) :
    k0_pay1 (iblk m c 0 t) (iblk m c 1 t) (ix2 r s) = res3 m c (ix2 (n0 := 16384) (n1 := 4096) ⟨t.val * 256 + r.val, h⟩ s) := by
  pointwise [k0_pay1]
  rw [iblk1_apply m c t s]
  simp only [iblk0_apply m c t r _ h]
  rfl

/-- … and the second's. -/
theorem pay2_apply (c : Dev nD) (t : Fin cfg0.N) (r : Fin 256) (s : Fin 1408) (h : t.val * 256 + r.val < 16384) :
    k0_pay2 (iblk m c 0 t) (iblk m c 1 t) (iblk m c 2 t) (ix2 r s)
      = res4 m c (ix2 (n0 := 16384) (n1 := 1408) ⟨t.val * 256 + r.val, h⟩ s) := by
  have e : k0_pay2 (iblk m c 0 t) (iblk m c 1 t) (iblk m c 2 t) (ix2 r s)
      = ∑ k : Fin 4096, (show EReal from k0_pay1 (iblk m c 0 t) (iblk m c 1 t) (ix2 r k)) * (show EReal from iblk m c 2 t (ix2 k s)) := by
    pointwise [k0_pay2]
  rw [e]
  refine Finset.sum_congr rfl fun k _ => ?_
  rw [pay1_apply m c t r k h, iblk2_apply m c t k s]
  rfl

/-- What a point writes back to the first array is its block of the result. -/
theorem flushed3 (c : Dev nD) (t : Fin cfg0.N) :
    (dats m 0 c).flushed 3 t = ((cfg0.win 3).blk t).view.read (Elt Ideal) (res3 m c) := by
  obtain ⟨-, -, -, ⟨h0, h1⟩, -⟩ := idx_facts t
  have ht : t.val < 64 := lt_of_lt_of_eq t.isLt Gen.N_0
  rw [Value.flushed3]
  unfold out0_3 r0_0 r0_1
  rw [View.canon_unit_zero hz, View.ld_unit_zero (S := S256x4096) hz, View.ld_unit_zero (S := S1x4096) hz]
  funext j
  obtain ⟨r, s, rfl⟩ : ∃ (r : Fin 256) (s : Fin 4096), j = ix2 r s := ⟨j 0, j 1, by funext a; fin_cases a <;> rfl⟩
  refine (pay1_apply m c t r s (by omega)).trans ?_
  rw [View.read_apply]
  show res3 m c _ = res3 m c _
  congr 1
  funext a
  apply Fin.ext
  match a with
  | ⟨0, _⟩ => show t.val * 256 + r.val = win0_3.index t 0 * 256 + 1 * r.val; rw [h0]; omega
  | ⟨1, _⟩ => show s.val = win0_3.index t 1 * 4096 + 1 * s.val; rw [h1]; omega

/-- … to the second array. -/
theorem flushed4 (c : Dev nD) (t : Fin cfg0.N) :
    (dats m 0 c).flushed 4 t = ((cfg0.win 4).blk t).view.read (Elt Ideal) (res4 m c) := by
  obtain ⟨-, -, -, -, ⟨h0, h1⟩⟩ := idx_facts t
  have ht : t.val < 64 := lt_of_lt_of_eq t.isLt Gen.N_0
  rw [Value.flushed4]
  unfold out0_4 r0_0 r0_1 r0_2 r0_3
  rw [View.canon_unit_zero hz, View.ld_unit_zero (S := S256x4096) hz, View.ld_unit_zero (S := S1x4096) hz,
    View.ld_unit_zero (S := S4096x1408) hz]
  funext j
  obtain ⟨r, s, rfl⟩ : ∃ (r : Fin 256) (s : Fin 1408), j = ix2 r s := ⟨j 0, j 1, by funext a; fin_cases a <;> rfl⟩
  refine (pay2_apply m c t r s (by omega)).trans ?_
  rw [View.read_apply]
  show res4 m c _ = res4 m c _
  congr 1
  funext a
  apply Fin.ext
  match a with
  | ⟨0, _⟩ => show t.val * 256 + r.val = win0_4.index t 0 * 256 + 1 * r.val; rw [h0]; omega
  | ⟨1, _⟩ => show s.val = win0_4.index t 1 * 1408 + 1 * s.val; rw [h1]; omega

/-- The point whose block of the first array holds an index. -/
theorem cover3 (c : Dev nD) (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  let t : Fin grid0.N := ⟨(i 0).val / 256, by show _ < grid0.N; rw [Gen.N_0]; omega⟩
  obtain ⟨-, -, -, ⟨g0, g1⟩, -⟩ := idx_facts t
  have ht : t.val = (i 0).val / 256 := rfl
  refine ⟨t, flush0_3 t, ?_⟩
  show i ∈ ((View.whole main_v1_0).slice (win0_3.rect t)).set
  rw [View.set_slice_whole, Rect.mem_set_unit]
  intro a
  match a with
  | ⟨0, _⟩ => show win0_3.index t 0 * 256 ≤ (i 0 : Nat) ∧ (i 0 : Nat) < win0_3.index t 0 * 256 + 256
              rw [g0]; omega
  | ⟨1, _⟩ => show win0_3.index t 1 * 4096 ≤ (i 1 : Nat) ∧ (i 1 : Nat) < win0_3.index t 1 * 4096 + 4096
              rw [g1]; omega

/-- … of the second. -/
theorem cover4 (c : Dev nD) (i : S16384x1408.Idx) : ∃ t : Fin cfg0.N, (cfg0.win 4).flush t = true ∧ i ∈ ((cfg0.win 4).blk t).view.set := by
  have h0 : (i 0).val < 16384 := (i 0).isLt
  have h1 : (i 1).val < 1408 := (i 1).isLt
  let t : Fin grid0.N := ⟨(i 0).val / 256, by show _ < grid0.N; rw [Gen.N_0]; omega⟩
  obtain ⟨-, -, -, -, ⟨g0, g1⟩⟩ := idx_facts t
  have ht : t.val = (i 0).val / 256 := rfl
  refine ⟨t, flush0_4 t, ?_⟩
  show i ∈ ((View.whole main_v1_1).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256
              rw [g0]; omega
  | ⟨1, _⟩ => show win0_4.index t 1 * 1408 ≤ (i 1 : Nat) ∧ (i 1 : Nat) < win0_4.index t 1 * 1408 + 1408
              rw [g1]; omega

/-- The two result arrays after the run. -/
theorem final3 (c : Dev nD) : (dats m 0 c).arrAt 3 cfg0.N = res3 m c :=
  (dats m 0 c).arrAt_eq_of_cover 3 (res3 m c) (fun t _ => flushed3 m c t) (cover3 c)
theorem final4 (c : Dev nD) : (dats m 0 c).arrAt 4 cfg0.N = res4 m c :=
  (dats m 0 c).arrAt_eq_of_cover 4 (res4 m c) (fun t _ => flushed4 m c t) (cover4 c)

section Reference

open Cert.NormRefIdeal.Facts₀ hiding bitsLt_bf16_f32

/-- The reference's normed rows as a term of its arguments. -/
def ref (x : FVec Ideal Cert.NormRefIdeal.S16384x4096 .f32) (g : FVec Ideal Cert.NormRefIdeal.S4096 .f32) :
    FVec Ideal Cert.NormRefIdeal.S16384x4096 .f32 :=
  mulf (mulf x (broadcastInDim Cert.NormRefIdeal.S16384x4096 ![0, 1] bcast_S16384x1_S16384x4096_0_1 (Host.rsqrt (addf (Host.divf (broadcastInDim Cert.NormRefIdeal.S16384x1 ![0] bcast_S16384_S16384x1_0 (Host.reduceAdd (mulf x x) (constant Cert.NormRefIdeal.S_ .f32 0x00000000#32) reducesTo_S16384x4096_S16384_d1 h_S_)) (broadcastInDim Cert.NormRefIdeal.S16384x1 ![] bcast_S_S16384x1 (constant Cert.NormRefIdeal.S_ .f32 0x45800000#32))) (broadcastInDim Cert.NormRefIdeal.S16384x1 ![] bcast_S_S16384x1 (constant Cert.NormRefIdeal.S_ .f32 0x358637BD#32)))))) (broadcastInDim Cert.NormRefIdeal.S16384x4096 ![0, 1] bcast_S1x4096_S16384x4096_0_1 (broadcastInDim Cert.NormRefIdeal.S1x4096 ![1] bcast_S4096_S1x4096_1 g))

/-- They are the same function. -/
theorem ref_eq (x : FVec Ideal Cert.NormRefIdeal.S16384x4096 .f32) (g : FVec Ideal Cert.NormRefIdeal.S4096 .f32) :
    ref x g = normed x g := by
  funext j
  obtain ⟨r, s, rfl⟩ : ∃ (r : Fin 16384) (s : Fin 4096), j = ix2 r s := ⟨j 0, j 1, by funext a; fin_cases a <;> rfl⟩
  pointwise [ref]
  rfl

/-- The product of given rows with the weight. -/
theorem ref_proj (f : FVec Ideal Cert.NormRefIdeal.S16384x4096 .f32) (w : FVec Ideal Cert.NormRefIdeal.S4096x1408 .bf16) :
    Host.dotGeneral (F := Ideal) Cert.NormRefIdeal.dot_S16384x4096_S4096x1408_S16384x1408_1_0_0_1_n_n none f
      (extf .f32 w bitsLt_bf16_f32) = projected f w := by
  funext j
  obtain ⟨r, s, rfl⟩ : ∃ (r : Fin 16384) (s : Fin 1408), j = ix2 r s := ⟨j 0, j 1, by funext a; fin_cases a <;> rfl⟩
  pointwise
  rfl

end Reference

/-- The reference's arguments end unchanged and its counters at zero: it declares no semaphore. -/
theorem frame_ref : Cert.quiescent_NormRefIdeal := fun m ρ _ =>
  (θ_run _ _ _).mono (fun r h => ⟨fun c => (h c).2.2, sem_eq_zero_of_no_sems (by decide) r.2⟩) (Cert.NormRefIdeal.Value.run m ρ)

/-- Kernel and reference end with the same two arrays. -/
theorem algebraic : Cert.algebraic_NormIdeal_NormRefIdeal := fun m ρ m' ρ' _ hag =>
  ⟨fun c => res3 m c, fun c => res4 m c,
   (θ_run _ _ _).mono (fun _ h c => ⟨(h c).1.trans (final3 m c), (h c).2.1.trans (final4 m c), (h c).2.2⟩) (Value.run_blocks m ρ),
   (θ_run _ _ _).mono (fun _ h c => by
      obtain ⟨h3, h4, hk⟩ := h c
      obtain ⟨a0, a1, a2⟩ := hag c
      rw [a0, a1] at h3 h4
      rw [a2] at h4
      have e := ref_eq (m (c.tc.loc main_arg0)) (m (c.tc.loc main_arg1))
      exact ⟨h3.trans e, h4.trans ((ref_proj _ _).trans (congrArg (projected · _) e)), hk⟩)
     (Cert.NormRefIdeal.Value.run m' ρ')⟩

end Cert.NormIdeal.Val
-- ==== Proof.HgrnChunk.lean ====
/- One chunk of 64 tokens of the gated linear recurrence kernel, for any float values: what a trip of the
   kernel's loop computes from its rows of the four projections and from the eight heads' states, as the kernel's own
   terms head by head; that a trip stores exactly that; and, over the eight trips, what the loop leaves in the block of
   the result and in the carried states. -/
module

public import proofs.«01_k».proof.Proof.Gen.HgrnIdeal.Loops
public import Idealize.ShloMosaic.Lib.WritesUnit
public import Idealize.ShloMosaic.Lib.Pointwise.Index

@[expose] public section

noncomputable section

namespace Cert.HgrnIdeal.Val

open Cert.HgrnIdeal Cert.HgrnIdeal.Gen Idealize.ShloMosaic Idealize.ShloMosaic.TcCoe Idealize.SL.Sem

variable {F : FTy → Type} [FloatOps F]

/-! ## What a chunk computes -/

/-- Rows `64·k ‥ 64·k + 63` of a block of 512 rows. -/
def rows (x : Vec F S512x1024 .f32) (k : Fin k0_t1_loop.trips) : Vec F S64x1024 .f32 :=
  fun y => x ((Rect.unit (s := S512x1024) (k0_off1 k) S64x1024.size (k0_off1_inb k)).emb y)

/-- Head `j`'s state out of the eight heads' states. -/
theorem slab_inb (j : Fin 8) : ∀ a, (![j.val, 0, 0] : Fin 3 → ℕ) a + S1x128x128.size a ≤ S8x128x128.size a := by
  revert j; decide

def slab (s : Vec F S8x128x128 .f32) (j : Fin 8) : Vec F S1x128x128 .f32 :=
  fun y => s ((Rect.unit (s := S8x128x128) ![j.val, 0, 0] S1x128x128.size (slab_inb j)).emb y)

section Chunk

variable (lb : Vec F S2x1024 .f32) (nw : Vec F S1x128 .f32) (q f v g : Vec F S64x1024 .f32) (s : Vec F S8x128x128 .f32)

/-- The decayed queries, the chunk's decay, the keys with the decay divided out, the keys decayed to the chunk's end,
    and the values. -/
def qd : FVec F S64x1024 .bf16 := k0_pay9 (k0_pay2 lb) k0_pay5 q f
def dec : FVec F S1x1024 .f32 := k0_pay10 (k0_pay2 lb) k0_pay5 f
def ki : FVec F S64x1024 .bf16 := k0_pay12 (k0_pay2 lb) k0_pay5 f
def kt : FVec F S64x1024 .bf16 := k0_pay13 (k0_pay2 lb) k0_pay5 f
def vb : FVec F S64x1024 .bf16 := k0_pay14 v

/-- Head `j`'s masked products of queries and keys within the chunk. -/
def att : Fin 8 → FVec F S64x64 .bf16
  | 0 => k0_pay17 k0_pay4 (qd lb q f) (ki lb f)
  | 1 => k0_pay18 k0_pay4 (qd lb q f) (ki lb f)
  | 2 => k0_pay19 k0_pay4 (qd lb q f) (ki lb f)
  | 3 => k0_pay20 k0_pay4 (qd lb q f) (ki lb f)
  | 4 => k0_pay21 k0_pay4 (qd lb q f) (ki lb f)
  | 5 => k0_pay22 k0_pay4 (qd lb q f) (ki lb f)
  | 6 => k0_pay23 k0_pay4 (k0_pay15 (qd lb q f) (ki lb f)) (Scalar.ofBits .f32 0x00000000#32)
  | 7 => k0_pay24 k0_pay4 (k0_pay16 (qd lb q f) (ki lb f))

/-- Head `j`'s rows before the norm: what the chunk itself gives and what the carried state gives. -/
def heads : Fin 8 → FVec F S64x128 .f32
  | 0 => k0_pay33 (qd lb q f) (vb v) (att lb q f 0) (slab s 0)
  | 1 => k0_pay37 (k0_pay34 (vb v) (att lb q f 1)) (k0_pay35 (qd lb q f)) (k0_pay36 (slab s 1))
  | 2 => k0_pay38 (qd lb q f) (vb v) (att lb q f 2) (k0_pay27 (slab s 2))
  | 3 => k0_pay39 (qd lb q f) (vb v) (att lb q f 3) (k0_pay28 (slab s 3))
  | 4 => k0_pay40 (qd lb q f) (vb v) (att lb q f 4) (k0_pay29 (slab s 4))
  | 5 => k0_pay41 (qd lb q f) (vb v) (att lb q f 5) (k0_pay30 (slab s 5))
  | 6 => k0_pay42 (qd lb q f) (vb v) (att lb q f 6) (k0_pay31 (slab s 6))
  | 7 => k0_pay43 (qd lb q f) (vb v) (att lb q f 7) (k0_pay32 (slab s 7))

/-- Head `j`'s state after the chunk. -/
def upd : Fin 8 → FVec F S1x128x128 .f32
  | 0 => k0_pay51 (dec lb f) (k0_pay25 (slab s 0)) (k0_pay44 (kt lb f) (vb v))
  | 1 => k0_pay52 (dec lb f) (k0_pay26 (slab s 1)) (k0_pay45 (kt lb f) (vb v))
  | 2 => k0_pay53 (dec lb f) (kt lb f) (k0_pay27 (slab s 2)) (k0_pay46 (vb v))
  | 3 => k0_pay55 (k0_pay54 (dec lb f) (kt lb f) (vb v) (k0_pay28 (slab s 3)))
  | 4 => k0_pay56 (dec lb f) (k0_pay29 (slab s 4)) (k0_pay47 (kt lb f) (vb v))
  | 5 => k0_pay57 (dec lb f) (k0_pay30 (slab s 5)) (k0_pay48 (kt lb f) (vb v))
  | 6 => k0_pay58 (dec lb f) (k0_pay31 (slab s 6)) (k0_pay49 (kt lb f) (vb v))
  | 7 => k0_pay59 (dec lb f) (k0_pay32 (slab s 7)) (k0_pay50 (kt lb f) (vb v))

/-- A head's rows normed. -/
def normed (o : FVec F S64x128 .f32) : Fin 8 → FVec F S64x128 .f32
  | 0 => k0_pay62 (k0_pay3 nw) o (k0_pay60 o) k0_pay61
  | 1 => k0_pay63 (k0_pay3 nw) o
  | 2 => k0_pay64 (k0_pay3 nw) o
  | 3 => k0_pay65 (k0_pay3 nw) o
  | 4 => k0_pay68 (k0_pay3 nw) o (k0_pay66 o) k0_pay67
  | 5 => k0_pay69 (k0_pay3 nw) o
  | 6 => k0_pay70 (k0_pay3 nw) o
  | 7 => k0_pay71 (k0_pay3 nw) o

/-- The chunk's rows of the result: the heads side by side, gated. -/
def res : FVec F S64x1024 .bf16 :=
  k0_pay6 (normed nw (heads lb q f v s 0) 0) (normed nw (heads lb q f v s 1) 1) (normed nw (heads lb q f v s 2) 2)
    (normed nw (heads lb q f v s 3) 3) (normed nw (heads lb q f v s 4) 4) (normed nw (heads lb q f v s 5) 5)
    (normed nw (heads lb q f v s 6) 6) (normed nw (heads lb q f v s 7) 7) g (k0_pay72 g) k0_pay73

/-- The eight states after the chunk. -/
def nextS : Vec F S8x128x128 .f32 := fun y => upd lb f v s (y 0) (ix3 0 (y 1) (y 2))

end Chunk

/-! ## The loop over the eight chunks -/

theorem trips_eq : k0_t1_loop.trips = 8 := by decide

section Loop

variable (x0 x1 x2 x3 : Vec F S512x1024 .f32) (lb : Vec F S2x1024 .f32) (nw : Vec F S1x128 .f32) (s : Vec F S8x128x128 .f32)

/-- The states before chunk `k` of a block, from those before the block. -/
def stateAt : ℕ → Vec F S8x128x128 .f32
  | 0 => s
  | k + 1 => if h : k < k0_t1_loop.trips then nextS lb (rows x1 ⟨k, h⟩) (rows x2 ⟨k, h⟩) (stateAt k) else stateAt k

theorem stateAt_succ (k : Fin k0_t1_loop.trips) :
    stateAt x1 x2 lb s (k.val + 1) = nextS lb (rows x1 k) (rows x2 k) (stateAt x1 x2 lb s k.val) := by
  rw [stateAt, dif_pos k.isLt]

/-- Chunk `k`'s rows of the result. -/
def chunkRes (k : Fin k0_t1_loop.trips) : FVec F S64x1024 .bf16 :=
  res lb nw (rows x0 k) (rows x1 k) (rows x2 k) (rows x3 k) (stateAt x1 x2 lb s k.val)

/-- The block of the result. -/
def blockRes : Vec F S512x1024 .bf16 := fun y =>
  chunkRes x0 x1 x2 x3 lb nw s ⟨(y 0).val / 64, by have h : (y 0).val < 512 := (y 0).isLt; rw [trips_eq]; omega⟩
    (ix2 ⟨(y 0).val % 64, by omega⟩ (y 1))

end Loop

/-! ## What a trip stores -/

section Trip

variable (c : Dev nD) (i : grid0.Coords) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S2x1024 .f32) (harg7 : arg7.IsWhole)
  (arg8 : Memref sig .tc .vmem S1x128 .f32) (harg8 : arg8.IsWhole) (arg9 : Memref sig .tc .vmem S512x1024 .bf16) (harg9 : arg9.IsWhole)
  (arg10 : Memref sig .tc .vmem S8x128x128 .f32) (harg10 : arg10.IsWhole) (v3 : Vec F S2x1024 .f32) (v13 : Vec F S1x128 .f32)
  (X3 : BufTy.Contents (Elt F) arg3.view.ty) (X4 : BufTy.Contents (Elt F) arg4.view.ty) (X5 : BufTy.Contents (Elt F) arg5.view.ty)
  (X6 : BufTy.Contents (Elt F) arg6.view.ty) (k : Fin k0_t1_loop.trips) (f9 : BufTy.Contents (Elt F) arg9.view.ty)
  (f10 : BufTy.Contents (Elt F) arg10.view.ty)

/-- A trip's one piece of the result is its chunk's rows. -/
theorem trip_res :
    (trip_k0_t1 Variants.none c none i arg3 harg3 arg4 harg4 arg5 harg5 arg6 harg6 arg7 harg7 arg8 harg8 arg9 harg9 arg10 harg10 v3 v13 X3 X4 X5 X6 k).1 f9 f10
      = [⟨Rect.unit (s := S512x1024) (k0_off1 k) S64x1024.size (k0_off1_inb k),
          res v3 v13 (rows (arg3.view.read (Elt F) X3) k) (rows (arg4.view.read (Elt F) X4) k) (rows (arg5.view.read (Elt F) X5) k)
            (rows (arg6.view.read (Elt F) X6) k) (arg10.view.read (Elt F) f10)⟩] := by
  unfold trip_k0_t1
  rfl

/-- Eight stores, one head's state each, read back head by head. -/
theorem read_slabs (f : BufTy.Contents (Elt F) arg10.view.ty) (p : Fin 8 → Vec F S1x128x128 .f32) (j : Fin 8) (a b : Fin 128) :
    arg10.view.read (Elt F) (arg10.view.writes (Elt F) f
      [⟨Rect.unit (s := S8x128x128) ![7, 0, 0] S1x128x128.size (slab_inb 7), p 7⟩,
       ⟨Rect.unit (s := S8x128x128) ![6, 0, 0] S1x128x128.size (slab_inb 6), p 6⟩,
       ⟨Rect.unit (s := S8x128x128) ![5, 0, 0] S1x128x128.size (slab_inb 5), p 5⟩,
       ⟨Rect.unit (s := S8x128x128) ![4, 0, 0] S1x128x128.size (slab_inb 4), p 4⟩,
       ⟨Rect.unit (s := S8x128x128) ![3, 0, 0] S1x128x128.size (slab_inb 3), p 3⟩,
       ⟨Rect.unit (s := S8x128x128) ![2, 0, 0] S1x128x128.size (slab_inb 2), p 2⟩,
       ⟨Rect.unit (s := S8x128x128) ![1, 0, 0] S1x128x128.size (slab_inb 1), p 1⟩,
       ⟨Rect.unit (s := S8x128x128) ![0, 0, 0] S1x128x128.size (slab_inb 0), p 0⟩]) (ix3 j a b)
      = p j (ix3 0 a b) := by
  have hx : ∀ (z : Fin 3), ((ix3 j a b : S8x128x128.Idx) z).val = (![j.val, 0, 0] : Fin 3 → ℕ) z + ((ix3 (0 : Fin 1) a b : S1x128x128.Idx) z).val := by
    intro z
    match z with
    | ⟨0, _⟩ => show j.val = j.val + 0; omega
    | ⟨1, _⟩ => show a.val = 0 + a.val; omega
    | ⟨2, _⟩ => show b.val = 0 + b.val; omega
  have hin : ∀ (o : ℕ) (ho : j.val = o) (inb : ∀ z, (![o, 0, 0] : Fin 3 → ℕ) z + S1x128x128.size z ≤ S8x128x128.size z) (w : Vec F S1x128x128 .f32)
      (L : List (View.Piece (Elt F) S8x128x128 .f32)),
      arg10.view.read (Elt F) (arg10.view.writes (Elt F) f (⟨Rect.unit (s := S8x128x128) ![o, 0, 0] S1x128x128.size inb, w⟩ :: L)) (ix3 j a b)
        = w (ix3 0 a b) := by
    intro o ho inb w L
    subst ho
    exact View.read_writes_cons_unit_of_mem arg10.view f inb w L (ix3 j a b) (ix3 (0 : Fin 1) a b) rfl hx
  have hout : ∀ (o : ℕ) (ho : j.val < o) (inb : ∀ z, (![o, 0, 0] : Fin 3 → ℕ) z + S1x128x128.size z ≤ S8x128x128.size z) (w : Vec F S1x128x128 .f32)
      (L : List (View.Piece (Elt F) S8x128x128 .f32)),
      arg10.view.read (Elt F) (arg10.view.writes (Elt F) f (⟨Rect.unit (s := S8x128x128) ![o, 0, 0] S1x128x128.size inb, w⟩ :: L)) (ix3 j a b)
        = arg10.view.read (Elt F) (arg10.view.writes (Elt F) f L) (ix3 j a b) :=
    fun o ho inb w L => View.read_writes_cons_unit_of_not_mem _ _ inb _ _ _ rfl (0 : Fin 3) (Or.inl ho)
  rcases j with ⟨j, hj⟩
  dsimp only at hin hout
  match j, hj, hin, hout with
  | 0, _, hin, hout | 1, _, hin, hout | 2, _, hin, hout | 3, _, hin, hout | 4, _, hin, hout | 5, _, hin, hout | 6, _, hin, hout | 7, _, hin, hout =>
    repeat rw [hout _ (by decide)]
    exact hin _ rfl _ _ _

/-- A trip's pieces of the states, read back over what was there, are the states after the chunk. -/
theorem trip_state :
    arg10.view.read (Elt F) (arg10.view.writes (Elt F) f10
      ((trip_k0_t1 Variants.none c none i arg3 harg3 arg4 harg4 arg5 harg5 arg6 harg6 arg7 harg7 arg8 harg8 arg9 harg9 arg10 harg10 v3 v13 X3 X4 X5 X6 k).2.1 f9 f10))
      = nextS v3 (rows (arg4.view.read (Elt F) X4) k) (rows (arg5.view.read (Elt F) X5) k) (arg10.view.read (Elt F) f10) := by
  unfold trip_k0_t1
  funext y
  obtain ⟨j, a, b, rfl⟩ : ∃ (j : Fin 8) (a b : Fin 128), y = ix3 j a b :=
    ⟨y 0, y 1, y 2, by funext z; match z with | ⟨0, _⟩ => rfl | ⟨1, _⟩ => rfl | ⟨2, _⟩ => rfl⟩
  exact read_slabs arg10 f10 (upd v3 (rows (arg4.view.read (Elt F) X4) k) (rows (arg5.view.read (Elt F) X5) k) (arg10.view.read (Elt F) f10)) j a b

/-- Chunk `k`'s row `r` is row `64·k + r` of the block. -/
theorem off_eq : k0_off1 k = ![64 * k.val, 0] := k0_off1_eq k

/-- A row a chunk stores reads as the chunk's; the others read as before. -/
theorem read_chunk_of_mem (f : BufTy.Contents (Elt F) arg9.view.ty) (w : FVec F S64x1024 .bf16) (y : S512x1024.Idx) (hy : (y 0).val / 64 = k.val) :
    arg9.view.read (Elt F) (arg9.view.writes (Elt F) f [⟨Rect.unit (s := S512x1024) (k0_off1 k) S64x1024.size (k0_off1_inb k), w⟩]) y
      = w (ix2 ⟨(y 0).val % 64, by omega⟩ (y 1)) :=
  View.read_writes_cons_unit_of_mem arg9.view f (k0_off1_inb k) w [] y (ix2 (⟨(y 0).val % 64, by omega⟩ : Fin 64) (y 1)) rfl fun a => by
    match a with
    | ⟨0, _⟩ =>
      have h : k0_off1 k (0 : Fin 2) = 64 * k.val := congrFun (off_eq k) 0
      show (y 0).val = k0_off1 k (0 : Fin 2) + (y 0).val % 64
      omega
    | ⟨1, _⟩ =>
      have h : k0_off1 k (1 : Fin 2) = 0 := congrFun (off_eq k) 1
      show (y 1).val = k0_off1 k (1 : Fin 2) + (y 1).val
      omega

theorem read_chunk_of_lt (f : BufTy.Contents (Elt F) arg9.view.ty) (w : FVec F S64x1024 .bf16) (y : S512x1024.Idx) (hy : (y 0).val / 64 < k.val) :
    arg9.view.read (Elt F) (arg9.view.writes (Elt F) f [⟨Rect.unit (s := S512x1024) (k0_off1 k) S64x1024.size (k0_off1_inb k), w⟩]) y
      = arg9.view.read (Elt F) f y :=
  View.read_writes_cons_unit_of_not_mem arg9.view f (k0_off1_inb k) w [] y rfl (0 : Fin 2) (Or.inl (by
    have h : k0_off1 k (0 : Fin 2) = 64 * k.val := congrFun (off_eq k) 0
    show (y 0).val < k0_off1 k (0 : Fin 2)
    omega))

/-! ## What the loop leaves -/

/-- After `n` chunks the states are `stateAt n`, and the first `64·n` rows of the block are written. -/
theorem loop_leaves (G9 : BufTy.Contents (Elt F) arg9.view.ty) (G10 : BufTy.Contents (Elt F) arg10.view.ty) (n : ℕ) (hn : n ≤ k0_t1_loop.trips) :
    arg10.view.read (Elt F) (arg10.view.writes (Elt F) G10
        (pb_k0_t1 Variants.none c none i arg3 harg3 arg4 harg4 arg5 harg5 arg6 harg6 arg7 harg7 arg8 harg8 arg9 harg9 arg10 harg10 v3 v13 X3 X4 X5 X6 G9 G10 n).2)
      = stateAt (arg4.view.read (Elt F) X4) (arg5.view.read (Elt F) X5) v3 (arg10.view.read (Elt F) G10) n
    ∧ ∀ y : S512x1024.Idx, (y 0).val / 64 < n →
      arg9.view.read (Elt F) (arg9.view.writes (Elt F) G9
        (pb_k0_t1 Variants.none c none i arg3 harg3 arg4 harg4 arg5 harg5 arg6 harg6 arg7 harg7 arg8 harg8 arg9 harg9 arg10 harg10 v3 v13 X3 X4 X5 X6 G9 G10 n).1) y
      = blockRes (arg3.view.read (Elt F) X3) (arg4.view.read (Elt F) X4) (arg5.view.read (Elt F) X5) (arg6.view.read (Elt F) X6) v3 v13
          (arg10.view.read (Elt F) G10) y := by
  induction n with
  | zero => exact ⟨rfl, fun y hy => absurd hy (Nat.not_lt_zero _)⟩
  | succ n ih =>
    obtain ⟨ih10, ih9⟩ := ih (Nat.le_of_succ_le hn)
    have hs := pb_k0_t1_succ Variants.none c none i arg3 harg3 arg4 harg4 arg5 harg5 arg6 harg6 arg7 harg7 arg8 harg8 arg9 harg9 arg10 harg10 v3 v13 X3 X4 X5 X6 G9 G10
      ⟨n, hn⟩
    dsimp only at hs
    rw [hs]
    dsimp only [tripL_k0_t1]
    rw [View.writes_append, View.writes_append, trip_state, trip_res, ih10]
    refine ⟨(stateAt_succ _ _ _ _ ⟨n, hn⟩).symm, fun y hy => ?_⟩
    by_cases h : (y 0).val / 64 = n
    · rw [read_chunk_of_mem arg9 ⟨n, hn⟩ _ _ y h]
      subst h
      rfl
    · rw [read_chunk_of_lt arg9 ⟨n, hn⟩ _ _ y (show (y 0).val / 64 < n by omega)]
      exact ih9 y (by omega)

end Trip

end Cert.HgrnIdeal.Val

end
-- ==== Proof.HgrnRun.lean ====
/- The run of the gated linear recurrence kernel: the body of one grid point, from the states it finds to the block of
   the result and the states it leaves; the carried states point by point (cleared at the first time block of a batch
   and head group); the whole run, with the result array block by block; and the frames. -/
module

public import proofs.«01_k».proof.Proof.Gen.HgrnIdeal.Frame.Runs
public import proofs.«01_k».proof.Proof.HgrnChunk
public import Idealize.ShloMosaic.Lib.Claim

@[expose] public section

set_option maxRecDepth 16384

noncomputable section

namespace Cert.HgrnIdeal.Val

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body -/

section Body

variable (c : Dev nD) (i : grid0.Coords) (arg3 : Memref sig .tc .vmem S512x1024 .f32) (harg3 : arg3.IsWhole)
  (arg4 : Memref sig .tc .vmem S512x1024 .f32) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S2x1024 .f32) (harg7 : arg7.IsWhole)
  (arg8 : Memref sig .tc .vmem S1x128 .f32) (harg8 : arg8.IsWhole) (arg9 : Memref sig .tc .vmem S512x1024 .bf16) (harg9 : arg9.IsWhole)
  (arg10 : Memref sig .tc .vmem S8x128x128 .f32) (harg10 : arg10.IsWhole)
  (x0 x1 x2 x3 : Vec F S512x1024 .f32) (lb : Vec F S2x1024 .f32) (nw : Vec F S1x128 .f32) (s : Vec F S8x128x128 .f32)

/-- What the body starts from beside the block it writes. -/
def held (s : Vec F S8x128x128 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare lb ∗ owns (c : Thread nD τ) arg8 fullShare nw
    ∗ owns (c : Thread nD τ) arg10 fullShare s)

/-- Clearing the states: all eight read as the zeros just stored. -/
theorem read_reset (f : BufTy.Contents (Elt F) arg10.view.ty) :
    arg10.view.read (Elt F) (arg10.view.writes (Elt F) f
      [⟨Rect.unit (s := S8x128x128) ![0, 0, 0] S8x128x128.size inb_S8x128x128_S8x128x128_0_0_0, k0_pay1⟩]) = k0_pay1 := by
  funext y
  exact View.read_writes_cons_unit_of_mem arg10.view f inb_S8x128x128_S8x128x128_0_0_0 k0_pay1 [] y y rfl fun a => by
    match a with
    | ⟨0, _⟩ => exact (Nat.zero_add _).symm
    | ⟨1, _⟩ => exact (Nat.zero_add _).symm
    | ⟨2, _⟩ => exact (Nat.zero_add _).symm

section Leaves

variable {arg3 arg4 arg5 arg6 arg9 arg10 x0 x1 x2 x3 lb nw}
variable {X3 : BufTy.Contents (Elt F) arg3.view.ty} {X4 : BufTy.Contents (Elt F) arg4.view.ty} {X5 : BufTy.Contents (Elt F) arg5.view.ty}
  {X6 : BufTy.Contents (Elt F) arg6.view.ty} {G9 : BufTy.Contents (Elt F) arg9.view.ty} {G10 : BufTy.Contents (Elt F) arg10.view.ty}
  {v3 : Vec F S2x1024 .f32} {v13 : Vec F S1x128 .f32} {s0 : Vec F S8x128x128 .f32}

/-- What the loop leaves in the states and in the block, when it starts with the states at `s0`. -/
theorem leaves (h3 : arg3.view.read (Elt F) X3 = x0) (h4 : arg4.view.read (Elt F) X4 = x1) (h5 : arg5.view.read (Elt F) X5 = x2)
    (h6 : arg6.view.read (Elt F) X6 = x3) (hlb : v3 = lb) (hnw : v13 = nw) (hG : arg10.view.read (Elt F) G10 = s0) :
    arg10.view.read (Elt F) (arg10.view.writes (Elt F) G10
        (pb_k0_t1 Variants.none c none i arg3 harg3 arg4 harg4 arg5 harg5 arg6 harg6 arg7 harg7 arg8 harg8 arg9 harg9 arg10 harg10 v3 v13 X3 X4 X5 X6 G9 G10
          k0_t1_loop.trips).2)
      = stateAt x1 x2 lb s0 k0_t1_loop.trips
    ∧ arg9.view.read (Elt F) (arg9.view.writes (Elt F) G9
        (pb_k0_t1 Variants.none c none i arg3 harg3 arg4 harg4 arg5 harg5 arg6 harg6 arg7 harg7 arg8 harg8 arg9 harg9 arg10 harg10 v3 v13 X3 X4 X5 X6 G9 G10
          k0_t1_loop.trips).1)
      = blockRes x0 x1 x2 x3 lb nw s0 := by
  subst h3; subst h4; subst h5; subst h6; subst hlb; subst hnw; subst hG
  have h := loop_leaves c i arg3 harg3 arg4 harg4 arg5 harg5 arg6 harg6 arg7 harg7 arg8 harg8 arg9 harg9 arg10 harg10 v3 v13 X3 X4 X5 X6 G9 G10
    k0_t1_loop.trips le_rfl
  exact ⟨h.1, funext fun y => h.2 y (by have h : (y 0).val < 512 := (y 0).isLt; rw [trips_eq]; omega)⟩

end Leaves

/-- Loading a whole buffer gives what it reads as. -/
theorem whole2 {arg7 : Memref sig .tc .vmem S2x1024 .f32} {lb : Vec F S2x1024 .f32} (f : BufTy.Contents (Elt F) arg7.view.ty)
    (h : arg7.view.read (Elt F) f = lb) :
    View.readAt (Elt F) arg7.view (Rect.unit (s := S2x1024) ![0, 0] S2x1024.size inb_S2x1024_S2x1024_0_0).toLoadRect f = lb := by
  subst h
  funext y
  show arg7.view.read (Elt F) f _ = _
  congr 1
  funext a
  match a with
  | ⟨0, _⟩ => exact Fin.ext ((Nat.zero_add _).trans (Nat.one_mul _))
  | ⟨1, _⟩ => exact Fin.ext ((Nat.zero_add _).trans (Nat.one_mul _))

theorem whole1 {arg8 : Memref sig .tc .vmem S1x128 .f32} {nw : Vec F S1x128 .f32} (f : BufTy.Contents (Elt F) arg8.view.ty)
    (h : arg8.view.read (Elt F) f = nw) :
    View.readAt (Elt F) arg8.view (Rect.unit (s := S1x128) ![0, 0] S1x128.size inb_S1x128_S1x128_0_0).toLoadRect f = nw := by
  subst h
  funext y
  show arg8.view.read (Elt F) f _ = _
  congr 1
  funext a
  match a with
  | ⟨0, _⟩ => exact Fin.ext ((Nat.zero_add _).trans (Nat.one_mul _))
  | ⟨1, _⟩ => exact Fin.ext ((Nat.zero_add _).trans (Nat.one_mul _))

/-- A point that clears the states leaves the block of the result and the states, from zeros. -/
theorem body_reset (hc0 : cond0_0 i) (E : Set ℕ) (K : PUnit → sProp 𝕄) :
    iprop(held c arg3 arg4 arg5 arg6 arg7 arg8 arg10 x0 x1 x2 x3 lb nw s ∗ (∃ d, owns (c : Thread nD τ) arg9 fullShare d)
        ∗ (iprop(held c arg3 arg4 arg5 arg6 arg7 arg8 arg10 x0 x1 x2 x3 lb nw (stateAt x1 x2 lb k0_pay1 k0_t1_loop.trips)
            ∗ owns (c : Thread nD τ) arg9 fullShare (blockRes x0 x1 x2 x3 lb nw k0_pay1)) -∗ K ⟨⟩))
      ⊢ wp frame (wpE (defs₀ (F := F)) Variants.none c none) E
          (cc0_hgrn2 i arg3 harg3 arg4 harg4 arg5 harg5 arg6 harg6 arg7 harg7 arg8 harg8 arg9 harg9 arg10 harg10) K := by
  simp only [cc0_hgrn2_eq_skeleton]; unfold cc0_hgrn2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, ⟨%d6, %f6, -, H6⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  sl_exec (disch := first | sl_exact hc0)
  sl_step
  iapply Hk
  isplitl [H0 H1 H2 H3 H4 H5 HS]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr
    swap; · iexact HS
    ipureintro
    rw [View.writes_append]
    exact (leaves c i harg3 harg4 harg5 harg6 arg7 harg7 arg8 harg8 harg9 harg10 hf0 hf1 hf2 hf3 (whole2 _ hf4) (whole1 _ hf5) (read_reset arg10 _)).1
  iexists _; isplitr
  swap; · iexact H6
  ipureintro
  exact (leaves c i harg3 harg4 harg5 harg6 arg7 harg7 arg8 harg8 harg9 harg10 hf0 hf1 hf2 hf3 (whole2 _ hf4) (whole1 _ hf5) (read_reset arg10 _)).2

/-- A point that does not leaves the block of the result and the states, from those it finds. -/
theorem body_carry (hc0 : ¬cond0_0 i) (E : Set ℕ) (K : PUnit → sProp 𝕄) :
    iprop(held c arg3 arg4 arg5 arg6 arg7 arg8 arg10 x0 x1 x2 x3 lb nw s ∗ (∃ d, owns (c : Thread nD τ) arg9 fullShare d)
        ∗ (iprop(held c arg3 arg4 arg5 arg6 arg7 arg8 arg10 x0 x1 x2 x3 lb nw (stateAt x1 x2 lb s k0_t1_loop.trips)
            ∗ owns (c : Thread nD τ) arg9 fullShare (blockRes x0 x1 x2 x3 lb nw s)) -∗ K ⟨⟩))
      ⊢ wp frame (wpE (defs₀ (F := F)) Variants.none c none) E
          (cc0_hgrn2 i arg3 harg3 arg4 harg4 arg5 harg5 arg6 harg6 arg7 harg7 arg8 harg8 arg9 harg9 arg10 harg10) K := by
  simp only [cc0_hgrn2_eq_skeleton]; unfold cc0_hgrn2_skel
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩⟩, ⟨%d6, %f6, -, H6⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  sl_exec (disch := first | sl_exact hc0)
  sl_step
  iapply Hk
  isplitl [H0 H1 H2 H3 H4 H5 HS]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr
    swap; · iexact HS
    ipureintro
    exact (leaves c i harg3 harg4 harg5 harg6 arg7 harg7 arg8 harg8 harg9 harg10 hf0 hf1 hf2 hf3 (whole2 _ hf4) (whole1 _ hf5) hfs).1
  iexists _; isplitr
  swap; · iexact H6
  ipureintro
  exact (leaves c i harg3 harg4 harg5 harg6 arg7 harg7 arg8 harg8 harg9 harg10 hf0 hf1 hf2 hf3 (whole2 _ hf4) (whole1 _ hf5) hfs).2

end Body

/-! ## Point by point -/

section Points

variable (m : (ℓ : Loc nD τ sig) → Buf (Elt F) ℓ) (ρ : Dev nD → PrngReg)

/-- What a point leaves in the states, from those it finds. -/
def leave (c : Dev nD) (t : Fin cfg0.N) (s : Vec F S8x128x128 .f32) : Vec F S8x128x128 .f32 :=
  stateAt (iblk m c 1 t) (iblk m c 2 t) (iblk m c 4 t) (if t.val % 16 = 0 then k0_pay1 else s) k0_t1_loop.trips

/-- The states before point `n`. -/
def carried (c : Dev nD) : ℕ → Vec F S8x128x128 .f32
  | 0 => k0_pay1
  | n + 1 => if h : n < cfg0.N then leave m c ⟨n, h⟩ (carried c n) else carried c n

theorem carried_succ (c : Dev nD) (t : Fin cfg0.N) : carried m c (t.val + 1) = leave m c t (carried m c t.val) := by
  rw [carried, dif_pos t.isLt]

/-- The states point `t` starts its chunks from. -/
def first (c : Dev nD) (t : Fin cfg0.N) : Vec F S8x128x128 .f32 := if t.val % 16 = 0 then k0_pay1 else carried m c t.val

/-- The block of the result point `t` writes. -/
def outBlk (c : Dev nD) (t : Fin cfg0.N) : Vec F S512x1024 .bf16 :=
  blockRes (iblk m c 0 t) (iblk m c 1 t) (iblk m c 2 t) (iblk m c 3 t) (iblk m c 4 t) (iblk m c 5 t) (first m c t)

/-- Between points: the carried states hold what the points before left (before a clearing point they may hold anything). -/
def between (c : Dev nD) (n : ℕ) : sProp 𝕄 :=
  iprop((∃ s, owns (c : Thread nD τ) scM0_0 fullShare s ∗ ⌜n % 16 ≠ 0 → s = carried m c n⌝) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := between m c t.val
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-- The two kinds of point as one: from whatever the states are to what the point leaves. -/
theorem body_point (c : Dev nD) (t : Fin cfg0.N) (s : Vec F S8x128x128 .f32) (hs : t.val % 16 ≠ 0 → s = carried m c t.val) (E : Set ℕ)
    (K : PUnit → sProp 𝕄) :
    iprop(held c (ms0_0 t) (ms0_1 t) (ms0_2 t) (ms0_3 t) (ms0_4 t) (ms0_5 t) scM0_0 (iblk m c 0 t) (iblk m c 1 t) (iblk m c 2 t) (iblk m c 3 t)
          (iblk m c 4 t) (iblk m c 5 t) s
        ∗ (∃ d, owns (c : Thread nD τ) (ms0_6 t) fullShare d)
        ∗ (iprop(held c (ms0_0 t) (ms0_1 t) (ms0_2 t) (ms0_3 t) (ms0_4 t) (ms0_5 t) scM0_0 (iblk m c 0 t) (iblk m c 1 t) (iblk m c 2 t)
              (iblk m c 3 t) (iblk m c 4 t) (iblk m c 5 t) (carried m c (t.val + 1))
            ∗ owns (c : Thread nD τ) (ms0_6 t) fullShare (outBlk m c t)) -∗ K ⟨⟩))
      ⊢ wp frame (wpE (defs₀ (F := F)) Variants.none c none) E (bodyAt0 t) K := by
  rw [carried_succ]
  unfold leave outBlk first
  by_cases h : t.val % 16 = 0
  · rw [if_pos h]
    exact body_reset c (grid0.coords t) _ _ _ _ _ _ _ _ _ _ _ _ _ _ _ _ _ _ _ _ _ _ _ ((hcond0_0 t).mpr h) E K
  · rw [if_neg h, hs h]
    exact body_carry c (grid0.coords t) _ _ _ _ _ _ _ _ _ _ _ _ _ _ _ _ _ _ _ _ _ _ _ (fun h' => h ((hcond0_0 t).mp h')) E K

/-- What the body starts from and ends with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl, after0, after1, after2, after3, after4, after5, after6,
    show (dats m 0 c).Φ t.castSucc = between m c t.val from rfl, show (dats m 0 c).Φ t.succ = between m c (t.val + 1) from rfl]
  unfold between
  iintro ⟨⟨⟨%s, HS, %hs⟩, Hg⟩, Ho, ⟨%d0, H0⟩, ⟨%d1, H1⟩, ⟨%d2, H2⟩, ⟨%d3, H3⟩, ⟨%d4, H4⟩, ⟨%d5, H5⟩, ⟨%d6, H6⟩⟩
  iapply (body_point m c t s hs Set.univ _)
  unfold held
  isplitl [H0 H1 H2 H3 H4 H5 HS]
  · isplitl [H0]; · iexact H0
    isplitl [H1]; · iexact H1
    isplitl [H2]; · iexact H2
    isplitl [H3]; · iexact H3
    isplitl [H4]; · iexact H4
    isplitl [H5]; · iexact H5
    iexact HS
  isplitl [H6]; · iexists _; iexact H6
  iintro ⟨⟨H0, H1, H2, H3, H4, H5, HS⟩, H6⟩
  isplitl [HS Hg]
  · isplitl [HS]
    · iexists _
      isplitl [HS]; · iexact HS
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 from rfl, PhiA0_eq]
  unfold between
  iintro ⟨⟨%s, HS⟩, Hg⟩
  isplitl [HS]
  · iexists s
    isplitl [HS]; · iexact HS
    ipureintro; exact fun h => absurd rfl h
  iexact Hg

theorem hout (c : Dev nD) : (dats m 0 c).Φ (Fin.last cfg0.N) ⊢ Pipeline.ΦA spec0 c := by
  rw [show (dats m 0 c).Φ (Fin.last cfg0.N) = between m c cfg0.N from rfl, PhiA0_eq]
  unfold between
  iintro ⟨⟨%s, HS, -⟩, Hg⟩
  isplitl [HS]
  · iexists s; iexact HS
  iexact Hg

/-! ## The run and the frames -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, leaves the arguments as they were and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) (run_main m ρ)) ((θ_run defs _ _).mono (fun _ h => h.2) (run_main_quiescent m ρ))

/-- The result array after a run, and the arguments as they were. -/
theorem run_blocks : θ_run defs (onTc (τ := τ) (main (F := F))) ⟨m, fun _ => 0, ρ⟩ fun r => ∀ c : Dev nD,
      r.2.mem ((c : Thread nD τ).loc main_v1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 6,
      ((h c).1 3).trans (((dats m 0 c).arrAt_in 3 rfl _).trans ((A_eq m c 3).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (V_main_arg2 m c)⟩) (run_main m ρ)

end Points

end Cert.HgrnIdeal.Val

end
-- ==== Proof.HgrnFrame.lean ====
/-
  The frame of the gated recurrence at machine floats: the two printed programs are one text, so the run proved for any
  floats is this program's run.
-/
module

public import proofs.«01_k».proof.Proof.HgrnRun
public import proofs.«01_k».proof.Proof.Gen.Hgrn
public import proofs.«01_k».proof.Defs

@[expose] public section

set_option maxRecDepth 65536

noncomputable section

namespace Cert.Hgrn.Val

open Idealize.ShloMosaic Idealize.ShloMosaic.TcCoe Idealize.SL.Sem

theorem bodies : Cert.Hgrn.defs₀ (F := Bits) = Cert.HgrnIdeal.defs₀ (F := Bits) := by
  unfold Cert.Hgrn.defs₀ Cert.HgrnIdeal.defs₀
  refine congrArg Defs.onTc ?_
  funext l a
  match l, a with
  | ⟨0, _⟩, (t, s) => rfl
  | ⟨_ + 1, h⟩, _ => exact absurd h (Nat.not_lt.2 (Nat.le_add_left _ _))

theorem tables : Cert.Hgrn.defs (F := Bits) = Cert.HgrnIdeal.defs (F := Bits) := by
  unfold Cert.Hgrn.defs Cert.HgrnIdeal.defs
  rw [bodies]
  rfl

theorem frame : Cert.quiescent_Hgrn := fun m ρ _ => by
  rw [tables]
  exact Cert.HgrnIdeal.Val.frame_run (F := Bits) m ρ

end Cert.Hgrn.Val
-- ==== Proof.HgrnMath.lean ====
/-
  The gated recurrence of one head, in plain terms over the extended reals: what one chunk of 64 tokens makes of the
  head's queries, forget gates, values and output gates and of the state it is given.
-/
module

public import proofs.«01_k».proof.Proof.Algebra

@[expose] public section

noncomputable section

namespace Cert.Hgrn2

open Idealize.ShloMosaic

/-- The lower bound of a channel's forget gate: the first entry of the softmax over the layers. -/
def bound (p : Fin 2 → EReal) : EReal :=
  Ideal.div (Ideal.exp (p 0 - Finset.fold max (Ideal.ofBits FTy.f32 4286578688#32) p Finset.univ))
    (∑ x, Ideal.exp (p x - Finset.fold max (Ideal.ofBits FTy.f32 4286578688#32) p Finset.univ))

/-- The forget gate with lower bound `l`. -/
def forget (l x : EReal) : EReal := l + Ideal.div (1 - l) (1 + Ideal.exp (0 - x))

/-- `x` times its logistic. -/
def silu (x : EReal) : EReal := Ideal.div x (1 + Ideal.exp (0 - x))

/-- The logarithm of the decay from the chunk's start up to and with row `r`, of a channel with gate inputs `x`. -/
def cum (l : EReal) (x : Fin 64 → EReal) (r : Fin 64) : EReal :=
  ∑ s, (if s ≤ r then 1 else 0) * Ideal.log (forget l (x s))

/-- The decay over the whole chunk. -/
def decay (l : EReal) (x : Fin 64 → EReal) : EReal := Ideal.exp (cum l x 63)

/-- The query decayed, the key with the decay divided out, and the key decayed to the chunk's end. -/
def query (l : EReal) (x q : Fin 64 → EReal) (r : Fin 64) : EReal := silu (q r) * Ideal.exp (cum l x r)
def key (l : EReal) (x : Fin 64 → EReal) (r : Fin 64) : EReal := (1 - forget l (x r)) * Ideal.exp (0 - cum l x r)
def tail (l : EReal) (x : Fin 64 → EReal) (r : Fin 64) : EReal := key l x r * decay l x

/-- The product of row `r`'s query with row `s`'s key, for `s` not after `r`. -/
def score (l : Fin 128 → EReal) (f q : Fin 64 → Fin 128 → EReal) (r s : Fin 64) : EReal :=
  if s ≤ r then ∑ k, query (l k) (fun y => f y k) (fun y => q y k) r * key (l k) (fun y => f y k) s else 0

/-- The rows a chunk gives before the norm, from the state `S` (key channel, value channel). -/
def mix (l : Fin 128 → EReal) (f q v : Fin 64 → Fin 128 → EReal) (S : Fin 128 → Fin 128 → EReal) (r : Fin 64) (d : Fin 128) :
    EReal :=
  ∑ s, score l f q r s * v s d + ∑ k, query (l k) (fun y => f y k) (fun y => q y k) r * S k d

/-- The state after the chunk. -/
def next (l : Fin 128 → EReal) (f v : Fin 64 → Fin 128 → EReal) (S : Fin 128 → Fin 128 → EReal) (k d : Fin 128) : EReal :=
  S k d * decay (l k) (fun y => f y k) + ∑ r, v r d * tail (l k) (fun y => f y k) r

/-- A head's row normed. -/
def norm (w : Fin 128 → EReal) (o : Fin 128 → EReal) (d : Fin 128) : EReal :=
  o d * Ideal.rsqrt (Ideal.div (∑ k, o k * o k) (Ideal.ofBits FTy.f32 1124073472#32) + Ideal.ofBits FTy.f32 0x358637BD#32) * w d

/-! ## The whole recurrence -/

/-- Row `t` of batch `b` among all the rows, and channel `j` of section `i` among all the columns. -/
def row (b : Fin 2) (t : Fin 8192) : Fin 16384 := ⟨b.val * 8192 + t.val, by omega⟩
def col (i : Fin 4) (j : Fin 2048) : Fin 8192 := ⟨2048 * i.val + j.val, by omega⟩

/-- Row `r` of chunk `n`, and channel `k` of head `h`. -/
def tok (n : Fin 128) (r : Fin 64) : Fin 8192 := ⟨n.val * 64 + r.val, by omega⟩
def ch (h : Fin 16) (k : Fin 128) : Fin 2048 := ⟨h.val * 128 + k.val, by omega⟩

/-- The states of a head before each chunk, from zero. -/
def states (l : Fin 128 → EReal) (f v : Fin 128 → Fin 64 → Fin 128 → EReal) : ℕ → Fin 128 → Fin 128 → EReal
  | 0 => fun _ _ => 0
  | n + 1 => next l (f ⟨n % 128, Nat.mod_lt _ (by omega)⟩) (v ⟨n % 128, Nat.mod_lt _ (by omega)⟩) (states l f v n)

theorem states_succ (l : Fin 128 → EReal) (f v : Fin 128 → Fin 64 → Fin 128 → EReal) (n : Fin 128) :
    states l f v (n.val + 1) = next l (f n) (v n) (states l f v n.val) := by
  have h : (⟨n.val % 128, Nat.mod_lt _ (by omega)⟩ : Fin 128) = n := Fin.ext (Nat.mod_eq_of_lt n.isLt)
  show next l (f ⟨n.val % 128, _⟩) (v ⟨n.val % 128, _⟩) _ = _
  rw [h]

/-- Section `i` (0 queries, 1 forget gates, 2 values, 3 output gates) of chunk `n` of a head, from the projected rows. -/
def sec (x : Fin 16384 → Fin 8192 → EReal) (i : Fin 4) (b : Fin 2) (h : Fin 16) (n : Fin 128) (r : Fin 64) (k : Fin 128) : EReal :=
  x (row b (tok n r)) (col i (ch h k))

/-- The lower bounds of a head's channels. -/
def lows (p : Fin 2 → Fin 2048 → EReal) (h : Fin 16) (k : Fin 128) : EReal := bound fun y => p y (ch h k)

/-- The layer's result at row `r` of chunk `n`, channel `d` of head `h`. -/
def out (x : Fin 16384 → Fin 8192 → EReal) (p : Fin 2 → Fin 2048 → EReal) (w : Fin 128 → EReal) (b : Fin 2) (h : Fin 16) (n : Fin 128)
    (r : Fin 64) (d : Fin 128) : EReal :=
  norm w (fun k => mix (lows p h) (sec x 1 b h n) (sec x 0 b h n) (sec x 2 b h n) (states (lows p h) (sec x 1 b h) (sec x 2 b h) n.val) r k) d
    * silu (sec x 3 b h n r d)

/-! ## The gates keep within bounds -/

theorem exp_nonneg (x : EReal) : 0 ≤ Ideal.exp x := by
  induction x with
  | bot => exact le_refl _
  | top => exact le_top
  | coe r => show (0 : EReal) ≤ (Real.exp r : EReal); exact_mod_cast (Real.exp_pos r).le

/-- A quotient of `a` by something at least `a`, `a` not negative: between 0 and 1, or nothing at all (0 by 0). -/
theorem div_le_one {a s : EReal} (ha : 0 ≤ a) (h : a ≤ s) : Ideal.div a s = ⊥ ∨ (0 ≤ Ideal.div a s ∧ Ideal.div a s ≤ 1) := by
  unfold Ideal.div
  by_cases hs : s = 0
  · have : a = 0 := le_antisymm (hs ▸ h) ha
    left; rw [if_pos hs, this, if_neg (lt_irrefl _)]
  · right
    rw [if_neg hs]
    have hs0 : 0 ≤ s := ha.trans h
    refine ⟨mul_nonneg ha (EReal.inv_nonneg_of_nonneg hs0), ?_⟩
    by_cases ht : s = ⊤
    · subst ht; simp
    · lift s to ℝ using ⟨ht, fun e => by subst e; simp at hs0⟩
      lift a to ℝ using ⟨fun e => by subst e; simp at h, fun e => by subst e; simp at ha⟩
      have hs1 : (0 : ℝ) < s := lt_of_le_of_ne (by exact_mod_cast hs0) (fun e => hs (by rw [← e]; rfl))
      have h1 : a ≤ s := by exact_mod_cast h
      rw [← EReal.coe_inv, ← EReal.coe_mul]
      exact_mod_cast (by rw [← div_eq_mul_inv]; exact (div_le_one₀ hs1).2 h1 : a * s⁻¹ ≤ 1)

theorem bound_range (p : Fin 2 → EReal) : bound p = ⊥ ∨ (0 ≤ bound p ∧ bound p ≤ 1) := by
  apply div_le_one (exp_nonneg _)
  rw [Fin.sum_univ_two]
  exact le_add_of_nonneg_right (exp_nonneg _)

/-- The divisor of a logistic is at least one, so a quotient by it is a product with its reciprocal. -/
theorem one_le (x : EReal) : 1 ≤ 1 + Ideal.exp x := le_add_of_nonneg_right (exp_nonneg _)

theorem div_logistic (a x : EReal) : Ideal.div a (1 + Ideal.exp x) = a * Ideal.div 1 (1 + Ideal.exp x) := by
  have h : (1 + Ideal.exp x) ≠ 0 := (zero_lt_one.trans_le (one_le x)).ne'
  unfold Ideal.div
  rw [if_neg h, if_neg h, one_mul]

/-- A forget gate is at most one. -/
theorem forget_le {l : EReal} (hl : l = ⊥ ∨ (0 ≤ l ∧ l ≤ 1)) (x : EReal) : forget l x ≤ 1 := by
  unfold forget
  rcases hl with h | ⟨h0, h1⟩
  · rw [h, EReal.bot_add]; exact bot_le
  · have hd : Ideal.div (1 - l) (1 + Ideal.exp (0 - x)) ≤ 1 - l := by
      have hl' : 0 ≤ 1 - l := EReal.sub_nonneg (.inl (EReal.coe_ne_top 1)) (.inl (EReal.coe_ne_bot 1)) |>.2 h1
      have h2 : Ideal.div 1 (1 + Ideal.exp (0 - x)) ≤ 1 := by
        rcases div_le_one zero_le_one (one_le (0 - x)) with h | h
        exacts [h ▸ bot_le, h.2]
      rw [div_logistic]
      exact (mul_le_mul_of_nonneg_left h2 hl').trans (mul_one _).le
    have : l + (1 - l) = 1 := by
      lift l to ℝ using ⟨fun e => absurd (e ▸ h1) (not_le.2 (EReal.coe_lt_top 1)), fun e => by subst e; simp at h0⟩
      rw [← EReal.coe_one, ← EReal.coe_sub, ← EReal.coe_add]; congr 1; ring
    exact (add_le_add_right hd l).trans this.le

/-- Its logarithm is at most zero. -/
theorem log_le {x : EReal} (h : x ≤ 1) : Ideal.log x ≤ 0 := by
  induction x with
  | bot => exact bot_le
  | top => exact absurd h (not_le.2 (EReal.coe_lt_top 1))
  | coe r =>
    show (if r ≤ 0 then ⊥ else (Real.log r : EReal)) ≤ 0
    split
    · exact bot_le
    · rename_i hr
      exact_mod_cast Real.log_nonpos (not_le.1 hr).le (by exact_mod_cast h)

/-! ## The running logarithm -/

theorem tri_mul (a : EReal) (p : Prop) [Decidable p] : (if p then 1 else 0) * a = if p then a else 0 := by
  split <;> simp

theorem log_forget_le {l : EReal} (hl : l = ⊥ ∨ (0 ≤ l ∧ l ≤ 1)) (x : EReal) : Ideal.log (forget l x) ≤ 0 :=
  log_le (forget_le hl x)

theorem cum_le {l : EReal} (hl : l = ⊥ ∨ (0 ≤ l ∧ l ≤ 1)) (x : Fin 64 → EReal) (r : Fin 64) : cum l x r ≤ 0 := by
  unfold cum
  apply Finset.sum_nonpos
  intro s _
  rw [tri_mul]
  split
  exacts [log_forget_le hl _, le_rfl]

/-- A sum with a summand `⊥` is `⊥`. -/
theorem sum_bot {ι : Type*} [Fintype ι] (f : ι → EReal) {i : ι} (h : f i = ⊥) : ∑ k, f k = ⊥ := by
  classical
  rw [← Finset.add_sum_erase _ _ (Finset.mem_univ i), h, EReal.bot_add]

/-- A sum of numbers that are not `⊥` is not. -/
theorem sum_ne_bot {ι : Type*} (s : Finset ι) (f : ι → EReal) (h : ∀ i ∈ s, f i ≠ ⊥) : ∑ k ∈ s, f k ≠ ⊥ := by
  classical
  induction s using Finset.induction_on with
  | empty => simp
  | insert a s ha ih =>
    rw [Finset.sum_insert ha]
    exact EReal.add_ne_bot_iff.2 ⟨h a (Finset.mem_insert_self _ _), ih fun i hi => h i (Finset.mem_insert_of_mem hi)⟩

/-- Once the running logarithm is `⊥` it stays so. -/
theorem cum_bot {l : EReal} (x : Fin 64 → EReal) {r : Fin 64} (h : cum l x r = ⊥) : cum l x 63 = ⊥ := by
  by_contra hn
  refine sum_ne_bot _ _ (fun s _ => ?_) h
  intro hs
  refine hn (sum_bot _ (i := s) ?_)
  rw [tri_mul] at hs ⊢
  by_cases hsr : s ≤ r
  · rw [if_pos hsr] at hs; rw [if_pos (show s ≤ 63 from Fin.le_last s), hs]
  · rw [if_neg hsr] at hs; exact absurd hs (by simp)

/-- Adding the remainders that rounding leaves (here nothing, or `⊥` where the summand is) does not change the
    running logarithm. -/
theorem cum_split {l : EReal} (hl : l = ⊥ ∨ (0 ≤ l ∧ l ≤ 1)) (x : Fin 64 → EReal) (r : Fin 64) :
    ∑ s, (if s ≤ r then 1 else 0) * Ideal.log (forget l (x s)) +
      ∑ s, (if s ≤ r then 1 else 0) * (Ideal.log (forget l (x s)) - Ideal.log (forget l (x s))) = cum l x r := by
  unfold cum
  rw [← Finset.sum_add_distrib]
  refine Finset.sum_congr rfl fun s _ => ?_
  rw [tri_mul, tri_mul]
  split
  · have h := log_forget_le hl (x s)
    generalize Ideal.log (forget l (x s)) = y at h ⊢
    induction y with
    | bot => rw [EReal.bot_add]
    | top => simp at h
    | coe y => rw [← EReal.coe_sub, sub_self, EReal.coe_zero, add_zero]
  · rw [add_zero]

/-- The key decayed to the chunk's end, with the two decays joined. -/
theorem tail_eq {l : EReal} (hl : l = ⊥ ∨ (0 ≤ l ∧ l ≤ 1)) (x : Fin 64 → EReal) (r : Fin 64) :
    tail l x r = (1 - forget l (x r)) * Ideal.exp (cum l x 63 - cum l x r) := by
  unfold tail key decay
  rw [mul_assoc]
  congr 1
  have h := cum_le hl x r
  have h' := cum_le hl x 63
  have hb := cum_bot (l := l) x (r := r)
  generalize cum l x r = b at h hb ⊢
  generalize cum l x 63 = e at h' hb ⊢
  induction b with
  | bot => rw [hb rfl]; show _ * (0 : EReal) = Ideal.exp (⊥ - ⊥); rw [mul_zero]; rfl
  | top => simp at h
  | coe b =>
    induction e with
    | bot => show _ * (0 : EReal) = Ideal.exp (⊥ - _); rw [mul_zero]; rfl
    | top => simp at h'
    | coe e =>
      rw [zero_sub, ← EReal.coe_neg, ← EReal.coe_sub]
      show (Real.exp (-b) : EReal) * (Real.exp e : EReal) = (Real.exp (e - b) : EReal)
      rw [← EReal.coe_mul, ← Real.exp_add]; congr 2; ring

end Cert.Hgrn2
-- ==== Proof.HgrnTerms.lean ====
/-
  The chunk's operations of the kernel read at an index: each head is the plain recurrence of `HgrnMath`.
-/
module

public import proofs.«01_k».proof.Proof.HgrnChunk
public import proofs.«01_k».proof.Proof.HgrnMath
public import Idealize.ShloMosaic.Lib.Pointwise

@[expose] public section

set_option maxRecDepth 16384

noncomputable section

namespace Cert.HgrnIdeal.Val

open Cert.HgrnIdeal Cert.HgrnIdeal.Gen Cert.Hgrn2 Idealize.ShloMosaic Idealize.ShloMosaic.TcCoe Idealize.SL.Sem

/-- Channel `k` of head `j`. -/
def chan : Fin 8 → Fin 128 → Fin 1024
  | 0, k => ⟨k.val, by omega⟩
  | 1, k => ⟨128 + k.val, by omega⟩
  | 2, k => ⟨256 + k.val, by omega⟩
  | 3, k => ⟨384 + k.val, by omega⟩
  | 4, k => ⟨512 + k.val, by omega⟩
  | 5, k => ⟨640 + k.val, by omega⟩
  | 6, k => ⟨768 + k.val, by omega⟩
  | 7, k => ⟨896 + k.val, by omega⟩

theorem chan_val (j : Fin 8) (k : Fin 128) : (chan j k).val = 128 * j.val + k.val := by
  match j with
  | 0 => show k.val = 128 * 0 + k.val; omega
  | 1 | 2 | 3 | 4 | 5 | 6 | 7 => rfl

variable (lb : Vec Ideal S2x1024 .f32) (nw : Vec Ideal S1x128 .f32) (q f v g : Vec Ideal S64x1024 .f32) (s : Vec Ideal S8x128x128 .f32)

/-- The lower bounds of head `j`'s channels, and the columns of a chunk that are head `j`'s. -/
def headBound (j : Fin 8) (k : Fin 128) : EReal := bound fun x => lb (ix2 x (chan j k))
def headRows (x : Vec Ideal S64x1024 .f32) (j : Fin 8) (r : Fin 64) (k : Fin 128) : EReal := x (ix2 r (chan j k))

/-- Head `j`'s state, key channel first. -/
def headState (j : Fin 8) (k d : Fin 128) : EReal := s (ix3 j d k)

theorem tri_apply (a b : Fin 64) : (k0_pay5 : FVec Ideal S64x64 .bf16) (ix2 a b) = if b ≤ a then 1 else 0 := by
  have h : ∀ a b : Fin 64, k0_pay4 (ix2 a b) = (if b ≤ a then 1#1 else 0#1 : BitVec 1) := by decide +kernel
  pointwise [k0_pay5]
  rw [h]
  split <;> rfl

theorem mask_apply (a b : Fin 64) (x y : EReal) : Scalar.select (k0_pay4 (ix2 a b)) x y = if b ≤ a then x else y := by
  have h : ∀ a b : Fin 64, k0_pay4 (ix2 a b) = (if b ≤ a then 1#1 else 0#1 : BitVec 1) := by decide +kernel
  rw [h]
  split <;> rfl

theorem bound_apply (j : Fin 1024) : (k0_pay2 lb : FVec Ideal S1x1024 .f32) (ix2 0 j) = bound fun x => lb (ix2 x j) := by
  pointwise [k0_pay2]
  rfl

theorem cum_apply (r : Fin 64) (j : Fin 1024) :
    (k0_pay8 (k0_pay2 lb) k0_pay5 f : FVec Ideal S64x1024 .f32) (ix2 r j) = cum (bound fun x => lb (ix2 x j)) (fun y => f (ix2 y j)) r := by
  rw [← cum_split (bound_range _)]
  pointwise [k0_pay8, k0_pay7]
  simp only [tri_apply, bound_apply]
  rfl

theorem qd_apply (r : Fin 64) (j : Fin 1024) :
    qd lb q f (ix2 r j) = query (bound fun x => lb (ix2 x j)) (fun y => f (ix2 y j)) (fun y => q (ix2 y j)) r := by
  unfold qd
  pointwise [k0_pay9]
  rw [cum_apply]
  rfl

theorem dec_apply (j : Fin 1024) : dec lb f (ix2 0 j) = decay (bound fun x => lb (ix2 x j)) (fun y => f (ix2 y j)) := by
  unfold dec
  pointwise [k0_pay10]
  rw [cum_apply]
  rfl

theorem key_apply (r : Fin 64) (j : Fin 1024) :
    (k0_pay11 (k0_pay2 lb) k0_pay5 f : FVec Ideal S64x1024 .f32) (ix2 r j) = key (bound fun x => lb (ix2 x j)) (fun y => f (ix2 y j)) r := by
  pointwise [k0_pay11, k0_pay7]
  rw [cum_apply, bound_apply]
  rfl

theorem ki_apply (r : Fin 64) (j : Fin 1024) : ki lb f (ix2 r j) = key (bound fun x => lb (ix2 x j)) (fun y => f (ix2 y j)) r := by
  unfold ki
  pointwise [k0_pay12]
  exact key_apply lb f r j

theorem kt_apply (r : Fin 64) (j : Fin 1024) : kt lb f (ix2 r j) = tail (bound fun x => lb (ix2 x j)) (fun y => f (ix2 y j)) r := by
  unfold kt
  pointwise [k0_pay13]
  rw [key_apply]
  exact congrArg _ (dec_apply lb f j)

set_option maxHeartbeats 1000000 in
theorem att_apply (j : Fin 8) (a b : Fin 64) :
    att lb q f j (ix2 a b) = score (headBound lb j) (headRows f j) (headRows q j) a b := by
  have h : att lb q f j (ix2 a b) = if b ≤ a then ∑ k, (show EReal from qd lb q f (ix2 a (chan j k))) * (show EReal from ki lb f (ix2 b (chan j k))) else 0 := by
    refine Eq.trans ?_ (mask_apply a b _ _)
    unfold att
    match j with
    | 0 | 1 | 2 | 3 | 4 | 5 | 6 | 7 =>
      pointwise [k0_pay15, k0_pay16, k0_pay17, k0_pay18, k0_pay19, k0_pay20, k0_pay21, k0_pay22, k0_pay23, k0_pay24]
      try simp only [chan]
  rw [h]
  simp only [qd_apply, ki_apply]
  rfl

theorem slab_apply (j : Fin 8) (a b : Fin 128) : slab s j (ix3 0 a b) = s (ix3 j a b) := by
  unfold slab
  congr 1
  funext x
  apply Fin.ext
  match x with
  | ⟨0, _⟩ => show j.val + 1 * 0 = j.val; omega
  | ⟨1, _⟩ => show 0 + 1 * a.val = a.val; omega
  | ⟨2, _⟩ => show 0 + 1 * b.val = b.val; omega

set_option maxHeartbeats 1000000 in
theorem heads_apply (j : Fin 8) (r : Fin 64) (d : Fin 128) :
    heads lb q f v s j (ix2 r d) = mix (headBound lb j) (headRows f j) (headRows q j) (headRows v j) (headState s j) r d := by
  have h : heads lb q f v s j (ix2 r d) = ∑ x, (show EReal from att lb q f j (ix2 r x)) * (show EReal from v (ix2 x (chan j d)))
      + ∑ k, (show EReal from qd lb q f (ix2 r (chan j k))) * (show EReal from slab s j (ix3 0 d k)) := by
    unfold heads
    match j with
    | 0 | 1 | 2 | 3 | 4 | 5 | 6 | 7 =>
      pointwise [vb, k0_pay14, k0_pay25, k0_pay26, k0_pay27, k0_pay28, k0_pay29, k0_pay30, k0_pay31, k0_pay32, k0_pay33, k0_pay34, k0_pay35,
        k0_pay36, k0_pay37, k0_pay38, k0_pay39, k0_pay40, k0_pay41, k0_pay42, k0_pay43]
      try simp only [chan]
  rw [h]
  simp only [att_apply, qd_apply, slab_apply]
  rfl

set_option maxHeartbeats 1000000 in
theorem upd_apply (j : Fin 8) (d k : Fin 128) :
    upd lb f v s j (ix3 0 d k) = next (headBound lb j) (headRows f j) (headRows v j) (headState s j) k d := by
  have h : upd lb f v s j (ix3 0 d k) = (show EReal from slab s j (ix3 0 d k)) * (show EReal from dec lb f (ix2 0 (chan j k)))
      + ∑ r, (show EReal from v (ix2 r (chan j d))) * (show EReal from kt lb f (ix2 r (chan j k))) := by
    unfold upd
    match j with
    | 0 | 1 | 2 | 3 | 4 | 5 | 6 | 7 =>
      pointwise [vb, k0_pay14, k0_pay25, k0_pay26, k0_pay27, k0_pay28, k0_pay29, k0_pay30, k0_pay31, k0_pay32, k0_pay44, k0_pay45,
        k0_pay46, k0_pay47, k0_pay48, k0_pay49, k0_pay50, k0_pay51, k0_pay52, k0_pay53, k0_pay54, k0_pay55, k0_pay56, k0_pay57, k0_pay58, k0_pay59]
      try simp only [chan]
  rw [h]
  simp only [dec_apply, kt_apply, slab_apply]
  rfl

set_option maxHeartbeats 1000000 in
theorem normed_apply (j : Fin 8) (o : FVec Ideal S64x128 .f32) (r : Fin 64) (d : Fin 128) :
    normed nw o j (ix2 r d) = norm (fun k => nw (ix2 0 k)) (fun k => o (ix2 r k)) d := by
  unfold normed
  match j with
  | 0 | 1 | 2 | 3 | 4 | 5 | 6 | 7 =>
    pointwise [k0_pay3, k0_pay60, k0_pay61, k0_pay62, k0_pay63, k0_pay64, k0_pay65, k0_pay66, k0_pay67, k0_pay68, k0_pay69, k0_pay70, k0_pay71]
    rfl

/-- Eight pieces of 128 side by side: channel `k` of head `j` is in piece `j`. -/
theorem pick (G : Fin 8 → Fin 128 → EReal) (j : Fin 8) (k : Fin 128) (x : ℕ) (hx : x = 128 * j.val + k.val) :
    (if h : x < 128 then G 0 ⟨x, h⟩
      else if h : x - 128 < 128 then G 1 ⟨x - 128, h⟩
      else if h : x - 128 - 128 < 128 then G 2 ⟨x - 128 - 128, h⟩
      else if h : x - 128 - 128 - 128 < 128 then G 3 ⟨x - 128 - 128 - 128, h⟩
      else if h : x - 128 - 128 - 128 - 128 < 128 then G 4 ⟨x - 128 - 128 - 128 - 128, h⟩
      else if h : x - 128 - 128 - 128 - 128 - 128 < 128 then G 5 ⟨x - 128 - 128 - 128 - 128 - 128, h⟩
      else if h : x - 128 - 128 - 128 - 128 - 128 - 128 < 128 then G 6 ⟨x - 128 - 128 - 128 - 128 - 128 - 128, h⟩
      else G 7 ⟨x - 128 - 128 - 128 - 128 - 128 - 128 - 128, by omega⟩) = G j k := by
  have hj := j.isLt
  have hk := k.isLt
  have hG : ∀ (a : Fin 8) (y : ℕ) (hy : y < 128), a.val = j.val → y = k.val → G a ⟨y, hy⟩ = G j k := fun a y hy h1 h2 => by rw [Fin.ext h1, show (⟨y, hy⟩ : Fin 128) = k from Fin.ext h2]
  split_ifs <;> apply hG
  all_goals first
    | (show (0 : ℕ) = j.val; omega)
    | (show (1 : ℕ) = j.val; omega)
    | (show (2 : ℕ) = j.val; omega)
    | (show (3 : ℕ) = j.val; omega)
    | (show (4 : ℕ) = j.val; omega)
    | (show (5 : ℕ) = j.val; omega)
    | (show (6 : ℕ) = j.val; omega)
    | (show (7 : ℕ) = j.val; omega)
    | omega

/-- The kernel's rows of one chunk: head `j`'s rows normed and gated. -/
theorem res_apply (r : Fin 64) (j : Fin 8) (k : Fin 128) :
    res lb nw q f v g s (ix2 r (chan j k)) = norm (fun k => nw (ix2 0 k))
      (fun k => mix (headBound lb j) (headRows f j) (headRows q j) (headRows v j) (headState s j) r k) k * silu (headRows g j r k) := by
  have h : res lb nw q f v g s (ix2 r (chan j k)) = (show EReal from normed nw (heads lb q f v s j) j (ix2 r k)) * silu (headRows g j r k) := by
    rw [← pick (fun j k => normed nw (heads lb q f v s j) j (ix2 r k)) j k _ (chan_val j k)]
    unfold res
    pointwise [k0_pay6, k0_pay72, k0_pay73]
    rfl
  rw [h, normed_apply]
  simp only [heads_apply]

theorem nextS_apply (j : Fin 8) (k d : Fin 128) :
    headState (nextS lb f v s) j k d = next (headBound lb j) (headRows f j) (headRows v j) (headState s j) k d :=
  upd_apply lb f v s j d k

end Cert.HgrnIdeal.Val
-- ==== Proof.HgrnWindow.lean ====
/-
  The window sums by which the reference takes its running sums, read at an index: a sum over the rows up to a given
  one.
-/
module

public import proofs.«01_k».proof.Proof.Gen.HgrnRefIdeal.Run
public import Idealize.ShloMosaic.Lib.Pointwise

@[expose] public section

set_option maxRecDepth 100000

noncomputable section

namespace Cert.HgrnRefIdeal.Val

open Cert.HgrnRefIdeal Cert.HgrnRefIdeal.Gen Cert.HgrnRefIdeal.Value Idealize.ShloMosaic Idealize.ShloMosaic.TcCoe Idealize.SL.Sem
open Idealize.ShloMosaic.StableHlo

/-- A fold by addition is the start plus the sum. -/
theorem foldl_add {ι : Type*} (g : ι → EReal) (l : List ι) : ∀ a, l.foldl (fun r n => r + g n) a = a + (l.map g).sum := by
  induction l with
  | nil => intro a; simp
  | cons x l ih => intro a; rw [List.foldl_cons, ih, List.map_cons, List.sum_cons, add_assoc]

/-- A host's window sum from zero is the sum over the window's positions, what lies outside counting as zero. -/
theorem window_sum {s t : Shape} (window strides lo hi : Fin s.rank → ℕ) (x : s.Idx → EReal)
    (init : S_.Idx → EReal) (h : s.ReduceWindows window strides lo hi t) (hu : 0 < S_.numel) (h0 : ∀ i, init i = 0) (j : t.Idx) :
    (Host.reduceWindowAdd (F := Ideal) (φ := .f32) window strides lo hi x init h hu : t.Idx → EReal) j
      = ∑ n : (⟨s.rank, window⟩ : Shape).Idx,
        if hin : ∀ a, lo a ≤ (j (a.cast h.1.symm)).val * strides a + (n a).val ∧
            (j (a.cast h.1.symm)).val * strides a + (n a).val - lo a < s.size a
        then x (fun a => ⟨_, (hin a).2⟩) else 0 := by
  show List.foldl _ (init _) _ = _
  rw [foldl_add (fun n => _), h0, zero_add, ← Equiv.sum_comp (⟨s.rank, window⟩ : Shape).rowMajor.symm, Fin.sum_univ_def]
  exact congrArg List.sum (List.map_congr_left fun n _ => dite_congr rfl (fun _ => rfl) (fun _ => rfl))

/-- The running sum over a chunk's 64 rows. -/
theorem cumsum_apply (x : FVec Ideal S2x16x128x64x128 .f32) (init : S_.Idx → EReal) (hu : 0 < S_.numel) (h0 : ∀ i, init i = 0)
    (b : Fin 2) (h : Fin 16) (n : Fin 128) (r : Fin 64) (k : Fin 128) :
    (show EReal from Host.reduceWindowAdd (F := Ideal) (φ := .f32) ![1, 1, 1, 64, 1] ![1, 1, 1, 1, 1] ![0, 0, 0, 63, 0] ![0, 0, 0, 0, 0] x init
      reduceWindows_S2x16x128x64x128_S2x16x128x64x128_w1s1p0_0_w1s1p0_0_w1s1p0_0_w64s1p63_0_w1s1p0_0 hu (ix5 b h n r k))
      = ∑ s : Fin 64, (if s ≤ r then 1 else 0) * (show EReal from x (ix5 b h n s k)) := by
  show Host.reduceWindowAdd (F := Ideal) (φ := .f32) _ _ _ _ x init _ hu _ = _
  rw [window_sum _ _ _ _ _ _ _ _ h0]
  have e1 : ∀ g : (⟨5, ![1, 1, 1, 64, 1]⟩ : Shape).Idx → EReal, ∑ n, g n = ∑ s : Fin 64, g (ix5 0 0 0 s 0) := by
    intro g
    refine (Equiv.sum_comp (⟨fun s => ix5 0 0 0 s 0, fun i => i 3, fun _ => rfl, fun i => ?_⟩ : Fin 64 ≃ (⟨5, ![1, 1, 1, 64, 1]⟩ : Shape).Idx) g).symm
    funext a
    apply Fin.ext
    match a with
    | ⟨0, _⟩ => show 0 = (i 0).val; have : (i 0).val < 1 := (i 0).isLt; omega
    | ⟨1, _⟩ => show 0 = (i 1).val; have : (i 1).val < 1 := (i 1).isLt; omega
    | ⟨2, _⟩ => show 0 = (i 2).val; have : (i 2).val < 1 := (i 2).isLt; omega
    | ⟨3, _⟩ => rfl
    | ⟨4, _⟩ => show 0 = (i 4).val; have : (i 4).val < 1 := (i 4).isLt; omega
  refine (e1 _).trans ?_
  refine Eq.trans ?_ (Equiv.sum_comp (Equiv.addRight (r + 1)) (fun s : Fin 64 => (if s ≤ r then 1 else 0) * (show EReal from x (ix5 b h n s k))))
  refine Finset.sum_congr rfl fun s _ => ?_
  have hb := b.isLt
  have hh := h.isLt
  have hn := n.isLt
  have hr := r.isLt
  have hs := s.isLt
  have hk := k.isLt
  have hv : (s + (r + 1)).val = (s.val + r.val + 1) % 64 := by
    rw [Fin.val_add, Fin.val_add]; simp; omega
  show _ = (if s + (r + 1) ≤ r then 1 else 0) * (show EReal from x (ix5 b h n (s + (r + 1)) k))
  by_cases hle : 63 ≤ r.val + s.val
  · have h1 : s + (r + 1) ≤ r := by rw [Fin.le_def, hv]; omega
    rw [if_pos h1, one_mul]
    refine (dif_pos ?_).trans ?_
    · intro a
      match a with
      | ⟨0, _⟩ => exact ⟨Nat.zero_le _, show b.val * 1 + 0 - 0 < 2 by omega⟩
      | ⟨1, _⟩ => exact ⟨Nat.zero_le _, show h.val * 1 + 0 - 0 < 16 by omega⟩
      | ⟨2, _⟩ => exact ⟨Nat.zero_le _, show n.val * 1 + 0 - 0 < 128 by omega⟩
      | ⟨3, _⟩ => exact ⟨show 63 ≤ r.val * 1 + s.val by omega, show r.val * 1 + s.val - 63 < 64 by omega⟩
      | ⟨4, _⟩ => exact ⟨Nat.zero_le _, show k.val * 1 + 0 - 0 < 128 by omega⟩
    · show x _ = x _
      congr 1
      funext a
      apply Fin.ext
      match a with
      | ⟨0, _⟩ => show b.val * 1 + 0 - 0 = b.val; omega
      | ⟨1, _⟩ => show h.val * 1 + 0 - 0 = h.val; omega
      | ⟨2, _⟩ => show n.val * 1 + 0 - 0 = n.val; omega
      | ⟨3, _⟩ => show r.val * 1 + s.val - 63 = (s + (r + 1)).val; rw [hv]; omega
      | ⟨4, _⟩ => show k.val * 1 + 0 - 0 = k.val; omega
  · have h1 : ¬ s + (r + 1) ≤ r := by rw [Fin.le_def, hv]; omega
    rw [if_neg h1, zero_mul]
    refine dif_neg fun hc => hle ?_
    have := (hc 3).1
    have h2 : 63 ≤ r.val * 1 + s.val := this
    omega

/-- The first row of the running sum over the two layers is the first row. -/
theorem cumsum_first (x : FVec Ideal S2x2048 .f32) (init : S_.Idx → EReal) (hu : 0 < S_.numel) (h0 : ∀ i, init i = 0) (j : Fin 2048) :
    Host.reduceWindowAdd (F := Ideal) (φ := .f32) ![2, 1] ![1, 1] ![1, 0] ![0, 0] x init
      reduceWindows_S2x2048_S2x2048_w2s1p1_0_w1s1p0_0 hu (ix2 0 j) = x (ix2 0 j) := by
  rw [window_sum _ _ _ _ _ _ _ _ h0]
  have hj := j.isLt
  have e1 : ∀ g : (⟨2, ![2, 1]⟩ : Shape).Idx → EReal, ∑ n, g n = ∑ s : Fin 2, g (ix2 s 0) := by
    intro g
    refine (Equiv.sum_comp (⟨fun s => ix2 s 0, fun i => i 0, fun _ => rfl, fun i => ?_⟩ : Fin 2 ≃ (⟨2, ![2, 1]⟩ : Shape).Idx) g).symm
    funext a
    apply Fin.ext
    match a with
    | ⟨0, _⟩ => rfl
    | ⟨1, _⟩ => show 0 = (i 1).val; have : (i 1).val < 1 := (i 1).isLt; omega
  refine (e1 _).trans ?_
  rw [Fin.sum_univ_two]
  have a0 : ∀ p q : EReal, p = 0 → q = x (ix2 0 j) → p + q = x (ix2 0 j) := fun p q hp hq => by rw [hp, hq, zero_add]
  refine a0 _ _ ?_ ?_
  · refine dif_neg fun hc => ?_
    have h2 : 1 ≤ 0 * 1 + 0 := (hc 0).1
    omega
  · refine (dif_pos ?_).trans ?_
    · intro a
      match a with
      | ⟨0, _⟩ => exact ⟨show 1 ≤ 0 * 1 + 1 by omega, show 0 * 1 + 1 - 1 < 2 by omega⟩
      | ⟨1, _⟩ => exact ⟨Nat.zero_le _, show j.val * 1 + 0 - 0 < 2048 by omega⟩
    · show x _ = x _
      congr 1
      funext a
      apply Fin.ext
      match a with
      | ⟨0, _⟩ => rfl
      | ⟨1, _⟩ => show j.val * 1 + 0 - 0 = j.val; omega
end Cert.HgrnRefIdeal.Val
-- ==== Proof.HgrnStages.lean ====
/-
  The reference's operations before and in its scan, stretch by stretch, read at an index: each is an operation of the
  plain recurrence of `HgrnMath`.
-/
module

public import proofs.«01_k».proof.Proof.HgrnWindow
public import proofs.«01_k».proof.Proof.HgrnMath

@[expose] public section

set_option maxRecDepth 100000

noncomputable section

namespace Cert.HgrnRefIdeal.Val

open Cert.HgrnRefIdeal Cert.HgrnRefIdeal.Gen Cert.HgrnRefIdeal.Value Cert.Hgrn2 Idealize.ShloMosaic Idealize.ShloMosaic.TcCoe Idealize.SL.Sem
open Idealize.ShloMosaic.StableHlo

/-- A buffer's contents read at an index. -/
def rd (s : Shape) (f : s.Idx → EReal) (i : s.Idx) : EReal := f i

variable (V : Valuation τ sig (Elt Ideal))

theorem s0 (j : Fin 2048) : rd S2x2048 (after hostOps0 V (Proc.devRef .tc main_v10)) (ix2 0 j) = bound fun x => rd S2x2048 (V (Proc.devRef .tc main_arg1)) (ix2 x j) := by
  have hb : Ideal.ofBits FTy.f32 4286578688#32 = ⊥ := by simp [Ideal.ofBits, Ideal.ieee]
  unfold rd
  after_reads_simp
  try simp only [TRef.toBuf, TRef.ofBuf, cast_eq, id_eq]
  pointwise []
  rw [hb, max_eq_right bot_le, ← hb]
  rfl

theorem s1 (j : Fin 2048) : rd S2x2048 (after hostOps0_1 V (Proc.devRef .tc main_v11)) (ix2 0 j) = rd S2x2048 (V (Proc.devRef .tc main_v10)) (ix2 0 j) := by
  unfold rd
  after_reads_simp
  exact cumsum_first (V (Proc.devRef .tc main_v10)) _ _ (fun i => by simp only [TRef.toBuf, TRef.ofBuf, cast_eq]; pointwise []) j

/-- A quarter of the columns: what section `i` holds at row `t` of batch `b`. -/
theorem s2_13 (b : Fin 2) (t : Fin 8192) (j : Fin 2048) :
    rd S2x8192x2048 (after hostOps0_2 V (Proc.devRef .tc main_v13)) (ix3 b t j) = rd S16384x8192 (V (Proc.devRef .tc main_arg0)) (ix2 (row b t) (col 0 j)) := by
  unfold rd
  after_reads_simp
  try simp only [TRef.toBuf, TRef.ofBuf, cast_eq, id_eq]
  pointwise []
  congr 2
  exact Fin.ext (show j.val = 2048 * 0 + j.val by omega)
theorem s2_14 (b : Fin 2) (t : Fin 8192) (j : Fin 2048) :
    rd S2x8192x2048 (after hostOps0_2 V (Proc.devRef .tc main_v14)) (ix3 b t j) = rd S16384x8192 (V (Proc.devRef .tc main_arg0)) (ix2 (row b t) (col 1 j)) := by
  unfold rd
  after_reads_simp
  try simp only [TRef.toBuf, TRef.ofBuf, cast_eq, id_eq]
  pointwise []
  try rfl
theorem s2_15 (b : Fin 2) (t : Fin 8192) (j : Fin 2048) :
    rd S2x8192x2048 (after hostOps0_2 V (Proc.devRef .tc main_v15)) (ix3 b t j) = rd S16384x8192 (V (Proc.devRef .tc main_arg0)) (ix2 (row b t) (col 2 j)) := by
  unfold rd
  after_reads_simp
  try simp only [TRef.toBuf, TRef.ofBuf, cast_eq, id_eq]
  pointwise []
  try rfl
theorem s2_16 (b : Fin 2) (t : Fin 8192) (j : Fin 2048) :
    rd S2x8192x2048 (after hostOps0_2 V (Proc.devRef .tc main_v16)) (ix3 b t j) = rd S16384x8192 (V (Proc.devRef .tc main_arg0)) (ix2 (row b t) (col 3 j)) := by
  unfold rd
  after_reads_simp
  try simp only [TRef.toBuf, TRef.ofBuf, cast_eq, id_eq]
  pointwise []
  try rfl
theorem s2_18 (j : Fin 2048) :
    rd S2048 (after hostOps0_2 V (Proc.devRef .tc main_v18)) (ix1 j) = rd S2x2048 (V (Proc.devRef .tc main_v11)) (ix2 0 j) := by
  unfold rd
  after_reads_simp
  try simp only [TRef.toBuf, TRef.ofBuf, cast_eq, id_eq]
  pointwise []

theorem s3 (b : Fin 2) (t : Fin 8192) (j : Fin 2048) :
    rd S2x8192x2048 (after hostOps0_3 V (Proc.devRef .tc main_v19)) (ix3 b t j) = silu (rd S2x8192x2048 (V (Proc.devRef .tc main_v13)) (ix3 b t j)) := by
  unfold rd silu
  rw [zero_sub, div_logistic]
  after_reads_simp
  try simp only [TRef.toBuf, TRef.ofBuf, cast_eq, id_eq]
  pointwise []
  try rfl

theorem s4_38 (b : Fin 2) (h : Fin 16) (n : Fin 128) (r : Fin 64) (k : Fin 128) :
    rd S2x16x128x64x128 (after hostOps0_4 V (Proc.devRef .tc main_v38)) (ix5 b h n r k) = rd S2x8192x2048 (V (Proc.devRef .tc main_v19)) (ix3 b (tok n r) (ch h k)) := by
  unfold rd
  after_reads_simp
  try simp only [TRef.toBuf, TRef.ofBuf, cast_eq, id_eq]
  pointwise []
  try rfl
theorem s4_44 (b : Fin 2) (h : Fin 16) (n : Fin 128) (r : Fin 64) (k : Fin 128) :
    rd S2x16x128x64x128 (after hostOps0_4 V (Proc.devRef .tc main_v44)) (ix5 b h n r k) = rd S2x8192x2048 (V (Proc.devRef .tc main_v15)) (ix3 b (tok n r) (ch h k)) := by
  unfold rd
  after_reads_simp
  try simp only [TRef.toBuf, TRef.ofBuf, cast_eq, id_eq]
  pointwise []
  try rfl
theorem s4_40 (b : Fin 2) (h : Fin 16) (n : Fin 128) (r : Fin 64) (k : Fin 128) :
    rd S2x16x128x64x128 (after hostOps0_4 V (Proc.devRef .tc main_v40)) (ix5 b h n r k) =
      1 - forget (rd S2048 (V (Proc.devRef .tc main_v18)) (ix1 (ch h k))) (rd S2x8192x2048 (V (Proc.devRef .tc main_v14)) (ix3 b (tok n r) (ch h k))) := by
  unfold rd forget
  rw [zero_sub, div_logistic]
  after_reads_simp
  try simp only [TRef.toBuf, TRef.ofBuf, cast_eq, id_eq]
  pointwise []
  try rfl
theorem s4_42 (b : Fin 2) (h : Fin 16) (n : Fin 128) (r : Fin 64) (k : Fin 128) :
    rd S2x16x128x64x128 (after hostOps0_4 V (Proc.devRef .tc main_v42)) (ix5 b h n r k) =
      Ideal.log (forget (rd S2048 (V (Proc.devRef .tc main_v18)) (ix1 (ch h k))) (rd S2x8192x2048 (V (Proc.devRef .tc main_v14)) (ix3 b (tok n r) (ch h k)))) := by
  unfold rd forget
  rw [zero_sub, div_logistic]
  after_reads_simp
  try simp only [TRef.toBuf, TRef.ofBuf, cast_eq, id_eq]
  pointwise []
  try rfl
theorem s5 (b : Fin 2) (h : Fin 16) (n : Fin 128) (r : Fin 64) (k : Fin 128) :
    rd S2x16x128x64x128 (after hostOps0_5 V (Proc.devRef .tc main_v45)) (ix5 b h n r k) =
      ∑ s, (if s ≤ r then 1 else 0) * rd S2x16x128x64x128 (V (Proc.devRef .tc main_v42)) (ix5 b h n s k) := by
  unfold rd
  after_reads_simp
  exact cumsum_apply (V (Proc.devRef .tc main_v42)) _ _ (fun i => by simp only [TRef.toBuf, TRef.ofBuf, cast_eq]; pointwise []) b h n r k
theorem s6_48 (b : Fin 2) (h : Fin 16) (n : Fin 128) (r : Fin 64) (k : Fin 128) :
    rd S2x16x128x64x128 (after hostOps0_6 V (Proc.devRef .tc main_v48)) (ix5 b h n r k) =
      rd S2x16x128x64x128 (V (Proc.devRef .tc main_v38)) (ix5 b h n r k) * Ideal.exp (rd S2x16x128x64x128 (V (Proc.devRef .tc main_v45)) (ix5 b h n r k)) := by
  unfold rd
  after_reads_simp
  try simp only [TRef.toBuf, TRef.ofBuf, cast_eq, id_eq]
  pointwise []
  try rfl
theorem s6_55 (b : Fin 2) (h : Fin 16) (n : Fin 128) (r : Fin 64) (k : Fin 128) :
    rd S2x16x128x64x128 (after hostOps0_6 V (Proc.devRef .tc main_v55)) (ix5 b h n r k) =
      rd S2x16x128x64x128 (V (Proc.devRef .tc main_v40)) (ix5 b h n r k) *
        Ideal.exp (rd S2x16x128x64x128 (V (Proc.devRef .tc main_v45)) (ix5 b h n 63 k) - rd S2x16x128x64x128 (V (Proc.devRef .tc main_v45)) (ix5 b h n r k)) := by
  unfold rd
  after_reads_simp
  try simp only [TRef.toBuf, TRef.ofBuf, cast_eq, id_eq]
  pointwise []
  try rfl
theorem s6_57 (b : Fin 2) (h : Fin 16) (n : Fin 128) (k : Fin 128) :
    rd S2x16x128x128 (after hostOps0_6 V (Proc.devRef .tc main_v57)) (ix4 b h n k) =
      Ideal.exp (rd S2x16x128x64x128 (V (Proc.devRef .tc main_v45)) (ix5 b h n 63 k)) := by
  unfold rd
  after_reads_simp
  try simp only [TRef.toBuf, TRef.ofBuf, cast_eq, id_eq]
  pointwise []
  try rfl
theorem s6_58 (b : Fin 2) (h : Fin 16) (n : Fin 128) (r s : Fin 64) :
    rd S2x16x128x64x64 (after hostOps0_6 V (Proc.devRef .tc main_v58)) (ix5 b h n r s) =
      ∑ k, (rd S2x16x128x64x128 (V (Proc.devRef .tc main_v38)) (ix5 b h n r k) * Ideal.exp (rd S2x16x128x64x128 (V (Proc.devRef .tc main_v45)) (ix5 b h n r k))) *
        (rd S2x16x128x64x128 (V (Proc.devRef .tc main_v40)) (ix5 b h n s k) * Ideal.exp (0 - rd S2x16x128x64x128 (V (Proc.devRef .tc main_v45)) (ix5 b h n s k))) := by
  unfold rd
  simp only [zero_sub]
  after_reads_simp
  try simp only [TRef.toBuf, TRef.ofBuf, cast_eq, id_eq]
  pointwise []
  try rfl
theorem s6_59 : after hostOps0_6 V (Proc.devRef .tc main_v59) = fun _ : S64x64.Idx => 1#1 := by
  after_reads_simp
  rfl
theorem s7 (h1 : V (Proc.devRef .tc main_v59) = fun _ : S64x64.Idx => 1#1) (a b : Fin 64) :
    (after hostOps0_7 V (Proc.devRef .tc main_v60) : S64x64.Idx → BitVec 1) (ix2 a b) = if b ≤ a then 1#1 else 0#1 := by
  after_reads_simp
  rw [h1]
  revert a b
  decide +kernel
theorem s9 (hm : ∀ a b : Fin 64, (V (Proc.devRef .tc main_v60) : S64x64.Idx → BitVec 1) (ix2 a b) = if b ≤ a then 1#1 else 0#1)
    (h0 : V (Proc.devRef .tc main_cst_6) = fun _ : S_.Idx => (0 : EReal)) (b : Fin 2) (h : Fin 16) (n : Fin 128) (r s : Fin 64) :
    rd S2x16x128x64x64 (after hostOps0_9 V (Proc.devRef .tc main_v61)) (ix5 b h n r s) =
      if s ≤ r then rd S2x16x128x64x64 (V (Proc.devRef .tc main_v58)) (ix5 b h n r s) else 0 := by
  unfold rd
  after_reads_simp
  try simp only [TRef.toBuf, TRef.ofBuf, cast_eq, id_eq]
  pointwise []
  rw [hm, h0]
  split <;> rfl
theorem s10_62 (b : Fin 2) (h : Fin 16) (n : Fin 128) (r : Fin 64) (d : Fin 128) :
    rd S2x16x128x64x128 (after hostOps0_10 V (Proc.devRef .tc main_v62)) (ix5 b h n r d) =
      ∑ s, rd S2x16x128x64x64 (V (Proc.devRef .tc main_v61)) (ix5 b h n r s) * rd S2x16x128x64x128 (V (Proc.devRef .tc main_v44)) (ix5 b h n s d) := by
  unfold rd
  after_reads_simp
  try simp only [TRef.toBuf, TRef.ofBuf, cast_eq, id_eq]
  pointwise []
  try rfl
theorem s10_0 (b : Fin 2) (h : Fin 16) (n : Fin 128) (r : Fin 64) (d : Fin 128) :
    rd S128x2x16x64x128 (after hostOps0_10 V (Proc.devRef .tc main_v69_0)) (ix5 n b h r d) =
      rd S2x16x128x64x128 (V (Proc.devRef .tc main_v48)) (ix5 b h n r d) := by
  unfold rd
  after_reads_simp
  try simp only [TRef.toBuf, TRef.ofBuf, cast_eq, id_eq]
  pointwise []
  try rfl
theorem s10_1 (b : Fin 2) (h : Fin 16) (n : Fin 128) (r : Fin 64) (d : Fin 128) :
    rd S128x2x16x64x128 (after hostOps0_10 V (Proc.devRef .tc main_v69_1)) (ix5 n b h r d) =
      rd S2x16x128x64x128 (V (Proc.devRef .tc main_v55)) (ix5 b h n r d) := by
  unfold rd
  after_reads_simp
  try simp only [TRef.toBuf, TRef.ofBuf, cast_eq, id_eq]
  pointwise []
  try rfl
theorem s10_2 (b : Fin 2) (h : Fin 16) (n : Fin 128) (r : Fin 64) (d : Fin 128) :
    rd S128x2x16x64x128 (after hostOps0_10 V (Proc.devRef .tc main_v69_2)) (ix5 n b h r d) =
      rd S2x16x128x64x128 (V (Proc.devRef .tc main_v44)) (ix5 b h n r d) := by
  unfold rd
  after_reads_simp
  try simp only [TRef.toBuf, TRef.ofBuf, cast_eq, id_eq]
  pointwise []
  try rfl
theorem s10_3 (b : Fin 2) (h : Fin 16) (n : Fin 128) (k : Fin 128) :
    rd S128x2x16x128 (after hostOps0_10 V (Proc.devRef .tc main_v69_3)) (ix4 n b h k) =
      rd S2x16x128x128 (V (Proc.devRef .tc main_v57)) (ix4 b h n k) := by
  unfold rd
  after_reads_simp
  try simp only [TRef.toBuf, TRef.ofBuf, cast_eq, id_eq]
  pointwise []
theorem s10_5 (b : Fin 2) (h : Fin 16) (k d : Fin 128) :
    rd S2x16x128x128 (after hostOps0_10 V (Proc.devRef .tc main_v69_5)) (ix4 b h k d) = 0 := by
  unfold rd
  after_reads_simp
  try simp only [TRef.toBuf, TRef.ofBuf, cast_eq, id_eq]
  pointwise []

theorem s11 (b : Fin 2) (h : Fin 16) (n : Fin 128) (r : Fin 64) (d : Fin 128) :
    rd S2x8192x16x128 (after hostOps0_11 V (Proc.devRef .tc main_v86)) (ix4 b (tok n r) h d) =
      norm (fun k => rd S128 (V (Proc.devRef .tc main_arg2)) (ix1 k))
        (fun k => rd S2x16x128x64x128 (V (Proc.devRef .tc main_v62)) (ix5 b h n r k) + rd S128x2x16x64x128 (V (Proc.devRef .tc main_v69_6)) (ix5 n b h r k)) d := by
  unfold rd
  after_reads_simp
  try simp only [TRef.toBuf, TRef.ofBuf, cast_eq, id_eq]
  pointwise []
  have h1 : (tok n r).val / 64 = n.val := by show (n.val * 64 + r.val) / 64 = n.val; omega
  have h2 : (tok n r).val % 64 = r.val := by show (n.val * 64 + r.val) % 64 = r.val; omega
  simp only [h1, h2]
  rfl
theorem s12 (b : Fin 2) (t : Fin 8192) (j : Fin 2048) :
    rd S2x8192x2048 (after hostOps0_12 V (Proc.devRef .tc main_v87)) (ix3 b t j) = silu (rd S2x8192x2048 (V (Proc.devRef .tc main_v16)) (ix3 b t j)) := by
  unfold rd silu
  rw [zero_sub, div_logistic]
  after_reads_simp
  try simp only [TRef.toBuf, TRef.ofBuf, cast_eq, id_eq]
  pointwise []
theorem s13 (b : Fin 2) (t : Fin 8192) (h : Fin 16) (d : Fin 128) :
    rd S16384x2048 (after hostOps0_13 V (Proc.devRef .tc main_v92)) (ix2 (row b t) (ch h d)) =
     rd S2x8192x16x128 (V (Proc.devRef .tc main_v86)) (ix4 b t h d) * rd S2x8192x2048 (V (Proc.devRef .tc main_v87)) (ix3 b t (ch h d)) := by
  unfold rd
  after_reads_simp
  try simp only [TRef.toBuf, TRef.ofBuf, cast_eq, id_eq]
  pointwise []
  have h1 : (row b t).val / 8192 = b.val := by show (b.val * 8192 + t.val) / 8192 = b.val; omega
  have h2 : (row b t).val % 8192 = t.val := by show (b.val * 8192 + t.val) % 8192 = t.val; omega
  have h3 : (ch h d).val / 128 = h.val := by show (h.val * 128 + d.val) / 128 = h.val; omega
  have h4 : (ch h d).val % 128 = d.val := by show (h.val * 128 + d.val) % 128 = d.val; omega
  simp only [h1, h2, h3, h4]
  rfl
end Cert.HgrnRefIdeal.Val
-- ==== Proof.HgrnScan.lean ====
/-
  One trip of the reference's scan read at an index, the trip's number a parameter.
-/
module

public import proofs.«01_k».proof.Proof.HgrnStages
public import Idealize.ShloMosaic.Lib.DynamicIndex
public import Idealize.ShloMosaic.Lib.Pipeline.Value

@[expose] public section

set_option maxRecDepth 100000

noncomputable section

namespace Cert.HgrnRefIdeal.Val

open Cert.HgrnRefIdeal Cert.HgrnRefIdeal.Gen Cert.HgrnRefIdeal.Value Cert.Hgrn2 Idealize.ShloMosaic Idealize.ShloMosaic.TcCoe Idealize.SL.Sem
open Idealize.ShloMosaic.StableHlo

theorem iv_toInt (n : Fin 128) : (Scf.iv 0#32 1#32 n.val : BitVec 32).toInt = n.val := by revert n; decide +kernel

/-- The slice of an array of 128 chunks at chunk `n`. -/
theorem slices5 (n : Fin 128) : S128x2x16x64x128.Slices ![n.val, 0, 0, 0, 0] S1x2x16x64x128 :=
  ⟨rfl, fun a => by revert a n; decide +kernel⟩
theorem slices4 (n : Fin 128) : S128x2x16x128.Slices ![n.val, 0, 0, 0] S1x2x16x128 :=
  ⟨rfl, fun a => by revert a n; decide +kernel⟩

variable (V : Valuation τ sig (Elt Ideal)) (n : Fin 128) (hn : V (Proc.devRef .tc main_v69_4) = fun _ => Scf.iv 0#32 1#32 n.val)

theorem slice5 (x : S128x2x16x64x128.Idx → EReal) (hf) (b : Fin 2) (h : Fin 16) (r : Fin 64) (k : Fin 128) :
    shapeCast S2x16x64x128 (Host.dynamicSlice S1x2x16x64x128 x (fun k => (((![fun _ => Scf.iv 0#32 1#32 n.val, constantI S_ 32 0#32, constantI S_ 32 0#32, constantI S_ 32 0#32, constantI S_ 32 0#32] : Fin 5 → S_.Idx → BitVec 32)) k (Shape.Idx.first h_S_)).toInt) hf) shapeCasts_S1x2x16x64x128_S2x16x64x128 (ix4 b h r k)
      = x (ix5 n b h r k) := by
  rw [Host.dynamicSlice_eq_extractStridedSlice _ _ _ _ _ (slices5 n) (fun a => by
    match a with
    | ⟨0, _⟩ => exact iv_toInt n
    | ⟨1, _⟩ | ⟨2, _⟩ | ⟨3, _⟩ | ⟨4, _⟩ => rfl)]
  pointwise []

theorem slice4 (x : S128x2x16x128.Idx → EReal) (hf) (b : Fin 2) (h : Fin 16) (k : Fin 128) :
    shapeCast S2x16x128 (Host.dynamicSlice S1x2x16x128 x (fun k => (((![fun _ => Scf.iv 0#32 1#32 n.val, constantI S_ 32 0#32, constantI S_ 32 0#32, constantI S_ 32 0#32] : Fin 4 → S_.Idx → BitVec 32)) k (Shape.Idx.first h_S_)).toInt) hf) shapeCasts_S1x2x16x128_S2x16x128 (ix3 b h k)
      = x (ix4 n b h k) := by
  rw [Host.dynamicSlice_eq_extractStridedSlice _ _ _ _ _ (slices4 n) (fun a => by
    match a with
    | ⟨0, _⟩ => exact iv_toInt n
    | ⟨1, _⟩ | ⟨2, _⟩ | ⟨3, _⟩ => rfl)]
  pointwise []

theorem update5 (x : S128x2x16x64x128.Idx → EReal) (y : S2x16x64x128.Idx → EReal) (hf) (n' : Fin 128) (b : Fin 2) (h : Fin 16) (r : Fin 64) (k : Fin 128) :
    Host.dynamicUpdateSlice x (broadcastInDim S1x2x16x64x128 ![1, 2, 3, 4] bcast_S2x16x64x128_S1x2x16x64x128_1_2_3_4 y) (fun k => (((![fun _ => Scf.iv 0#32 1#32 n.val, constantI S_ 32 0#32, constantI S_ 32 0#32, constantI S_ 32 0#32, constantI S_ 32 0#32] : Fin 5 → S_.Idx → BitVec 32)) k (Shape.Idx.first h_S_)).toInt) hf (ix5 n' b h r k)
      = if n' = n then y (ix4 b h r k) else x (ix5 n' b h r k) := by
  rw [Host.dynamicUpdateSlice_eq_updateSlice _ _ _ _ ![n.val, 0, 0, 0, 0] (fun a => by
    match a with
    | ⟨0, _⟩ =>
      show (min (max (Scf.iv 0#32 1#32 n.val : BitVec 32).toInt 0) ((128 - 1 : ℕ) : ℤ)).toNat = n.val
      rw [iv_toInt n]; omega
    | ⟨1, _⟩ | ⟨2, _⟩ | ⟨3, _⟩ | ⟨4, _⟩ => rfl) (slices5 n)]
  pointwise []
  by_cases hh : n' = n
  · subst hh
    rw [dif_pos (by omega), if_pos rfl]
  · rw [dif_neg (fun h => hh (Fin.ext (by omega))), if_neg hh]

include hn

theorem step5 (b : Fin 2) (h : Fin 16) (k d : Fin 128) :
    rd S2x16x128x128 (step_main_v69_5 V) (ix4 b h k d) =
      rd S128x2x16x128 (V (Proc.devRef .tc main_v69_3)) (ix4 n b h k) * rd S2x16x128x128 (V (Proc.devRef .tc main_v69_5)) (ix4 b h k d)
        + ∑ r, rd S128x2x16x64x128 (V (Proc.devRef .tc main_v69_1)) (ix5 n b h r k) * rd S128x2x16x64x128 (V (Proc.devRef .tc main_v69_2)) (ix5 n b h r d) := by
  unfold rd step_main_v69_5
  rw [hn, id_eq]
  generalize hy3 : shapeCast S2x16x128 (Host.dynamicSlice S1x2x16x128 _ _ _) _ = y3
  generalize hy1 : shapeCast S2x16x64x128 (Host.dynamicSlice S1x2x16x64x128 (V (Proc.devRef .tc main_v69_1)) _ _) _ = y1
  generalize hy2 : shapeCast S2x16x64x128 (Host.dynamicSlice S1x2x16x64x128 (V (Proc.devRef .tc main_v69_2)) _ _) _ = y2
  have e3 : ∀ b h k, y3 (ix3 b h k) = V (Proc.devRef .tc main_v69_3) (ix4 n b h k) := fun b h k => by rw [← hy3]; exact slice4 n _ _ b h k
  have e1 : ∀ b h r k, y1 (ix4 b h r k) = V (Proc.devRef .tc main_v69_1) (ix5 n b h r k) := fun b h r k => by rw [← hy1]; exact slice5 n _ _ b h r k
  have e2 : ∀ b h r k, y2 (ix4 b h r k) = V (Proc.devRef .tc main_v69_2) (ix5 n b h r k) := fun b h r k => by rw [← hy2]; exact slice5 n _ _ b h r k
  pointwise []
  simp only [e3, e1, e2]
theorem step6 (n' : Fin 128) (b : Fin 2) (h : Fin 16) (r : Fin 64) (d : Fin 128) :
    rd S128x2x16x64x128 (step_main_v69_6 V) (ix5 n' b h r d) =
      if n' = n then ∑ k, rd S128x2x16x64x128 (V (Proc.devRef .tc main_v69_0)) (ix5 n b h r k) * rd S2x16x128x128 (V (Proc.devRef .tc main_v69_5)) (ix4 b h k d)
      else rd S128x2x16x64x128 (V (Proc.devRef .tc main_v69_6)) (ix5 n' b h r d) := by
  unfold rd step_main_v69_6
  rw [hn, id_eq]
  refine (update5 n _ _ _ n' b h r d).trans ?_
  generalize hy1 : shapeCast S2x16x64x128 (Host.dynamicSlice S1x2x16x64x128 (V (Proc.devRef .tc main_v69_0)) _ _) _ = y1
  have e1 : ∀ b h r k, y1 (ix4 b h r k) = V (Proc.devRef .tc main_v69_0) (ix5 n b h r k) := fun b h r k => by rw [← hy1]; exact slice5 n _ _ b h r k
  pointwise []
  simp only [e1]
end Cert.HgrnRefIdeal.Val
-- ==== Proof.HgrnRef.lean ====
/-
  The reference's result as one function of its arguments: its stretches chained, its scan by induction over the chunks.
-/
module

public import proofs.«01_k».proof.Proof.HgrnScan

@[expose] public section

set_option maxRecDepth 100000

noncomputable section

namespace Cert.HgrnRefIdeal.Val

open Cert.HgrnRefIdeal Cert.HgrnRefIdeal.Gen Cert.HgrnRefIdeal.Value Cert.Hgrn2 Idealize.ShloMosaic Idealize.ShloMosaic.TcCoe Idealize.SL.Sem
open Idealize.ShloMosaic.StableHlo

/-! ## The buffers after each stretch before the scan -/

variable (V : Valuation τ sig (Elt Ideal))

def w1 := after hostOps0 V
def w2 := after hostOps0_1 (w1 V)
def w3 := after hostOps0_2 (w2 V)
def w4 := after hostOps0_3 (w3 V)
def w5 := after hostOps0_4 (w4 V)
def w6 := after hostOps0_5 (w5 V)
def w7 := after hostOps0_6 (w6 V)
def w8 := after hostOps0_7 (w7 V)
def w9 := after hostOps0_8 (w8 V)
def w10 := after hostOps0_9 (w9 V)
def w11 := after hostOps0_10 (w10 V)

variable {r : Ref sig .tc}

theorem keep1 (h : r ∉ hostOps0_W) : w1 V (Proc.devRef .tc r) = V (Proc.devRef .tc r) := after_of_writes_sub hostOps0 V hostOps0_writes h
theorem keep2 (h : r ∉ hostOps0_1_W) : w2 V (Proc.devRef .tc r) = w1 V (Proc.devRef .tc r) := after_of_writes_sub hostOps0_1 _ hostOps0_1_writes h
theorem keep3 (h : r ∉ hostOps0_2_W) : w3 V (Proc.devRef .tc r) = w2 V (Proc.devRef .tc r) := after_of_writes_sub hostOps0_2 _ hostOps0_2_writes h
theorem keep4 (h : r ∉ hostOps0_3_W) : w4 V (Proc.devRef .tc r) = w3 V (Proc.devRef .tc r) := after_of_writes_sub hostOps0_3 _ hostOps0_3_writes h
theorem keep5 (h : r ∉ hostOps0_4_W) : w5 V (Proc.devRef .tc r) = w4 V (Proc.devRef .tc r) := after_of_writes_sub hostOps0_4 _ hostOps0_4_writes h
theorem keep6 (h : r ∉ hostOps0_5_W) : w6 V (Proc.devRef .tc r) = w5 V (Proc.devRef .tc r) := after_of_writes_sub hostOps0_5 _ hostOps0_5_writes h
theorem keep7 (h : r ∉ hostOps0_6_W) : w7 V (Proc.devRef .tc r) = w6 V (Proc.devRef .tc r) := after_of_writes_sub hostOps0_6 _ hostOps0_6_writes h
theorem keep8 (h : r ∉ hostOps0_7_W) : w8 V (Proc.devRef .tc r) = w7 V (Proc.devRef .tc r) := after_of_writes_sub hostOps0_7 _ hostOps0_7_writes h
theorem keep9 (h : r ∉ hostOps0_8_W) : w9 V (Proc.devRef .tc r) = w8 V (Proc.devRef .tc r) := after_of_writes_sub hostOps0_8 _ hostOps0_8_writes h
theorem keep10 (h : r ∉ hostOps0_9_W) : w10 V (Proc.devRef .tc r) = w9 V (Proc.devRef .tc r) := after_of_writes_sub hostOps0_9 _ hostOps0_9_writes h
theorem keep11 (h : r ∉ hostOps0_10_W) : w11 V (Proc.devRef .tc r) = w10 V (Proc.devRef .tc r) := after_of_writes_sub hostOps0_10 _ hostOps0_10_writes h

/-- The arguments: the projected rows, the gates' layer parameters, the norm's weights. -/
def argX (i : Fin 16384) (j : Fin 8192) : EReal := rd S16384x8192 (V (Proc.devRef .tc main_arg0)) (ix2 i j)
def argP (y : Fin 2) (j : Fin 2048) : EReal := rd S2x2048 (V (Proc.devRef .tc main_arg1)) (ix2 y j)
def argW (k : Fin 128) : EReal := rd S128 (V (Proc.devRef .tc main_arg2)) (ix1 k)

variable (b : Fin 2) (h : Fin 16) (n : Fin 128) (k : Fin 128)

theorem low3 : rd S2048 (w3 V (Proc.devRef .tc main_v18)) (ix1 (ch h k)) = lows (argP V) h k :=
  ((s2_18 (w2 V) (ch h k)).trans (s1 (w1 V) (ch h k))).trans (s0 V (ch h k))

theorem arg2 : w2 V (Proc.devRef .tc main_arg0) = V (Proc.devRef .tc main_arg0) := (keep2 V (by decide)).trans (keep1 V (by decide))

theorem sec3 (i : Fin 4) (y : Fin 64) : rd S16384x8192 (w2 V (Proc.devRef .tc main_arg0)) (ix2 (row b (tok n y)) (col i (ch h k))) = sec (argX V) i b h n y k := by
  rw [arg2]; rfl

theorem q5 (y : Fin 64) : rd S2x16x128x64x128 (w5 V (Proc.devRef .tc main_v38)) (ix5 b h n y k) = silu (sec (argX V) 0 b h n y k) := by
  refine (s4_38 (w4 V) b h n y k).trans ((s3 (w3 V) b _ _).trans ?_)
  exact congrArg silu ((s2_13 (w2 V) b _ _).trans (sec3 V b h n k 0 y))

theorem v5 (y : Fin 64) : rd S2x16x128x64x128 (w5 V (Proc.devRef .tc main_v44)) (ix5 b h n y k) = sec (argX V) 2 b h n y k := by
  refine (s4_44 (w4 V) b h n y k).trans ?_
  rw [keep4 V (by decide)]
  exact (s2_15 (w2 V) b _ _).trans (sec3 V b h n k 2 y)

theorem f4 (y : Fin 64) : forget (rd S2048 (w4 V (Proc.devRef .tc main_v18)) (ix1 (ch h k))) (rd S2x8192x2048 (w4 V (Proc.devRef .tc main_v14)) (ix3 b (tok n y) (ch h k)))
    = forget (lows (argP V) h k) (sec (argX V) 1 b h n y k) := by
  rw [keep4 V (by decide), keep4 V (by decide), low3]
  exact congrArg (forget _) ((s2_14 (w2 V) b _ _).trans (sec3 V b h n k 1 y))

theorem g5 (y : Fin 64) : rd S2x16x128x64x128 (w5 V (Proc.devRef .tc main_v40)) (ix5 b h n y k) = 1 - forget (lows (argP V) h k) (sec (argX V) 1 b h n y k) := by
  refine (s4_40 (w4 V) b h n y k).trans ?_
  rw [f4]

theorem l5 (y : Fin 64) : rd S2x16x128x64x128 (w5 V (Proc.devRef .tc main_v42)) (ix5 b h n y k) = Ideal.log (forget (lows (argP V) h k) (sec (argX V) 1 b h n y k)) := by
  refine (s4_42 (w4 V) b h n y k).trans ?_
  rw [f4]

theorem c6 (y : Fin 64) : rd S2x16x128x64x128 (w6 V (Proc.devRef .tc main_v45)) (ix5 b h n y k) = cum (lows (argP V) h k) (fun s => sec (argX V) 1 b h n s k) y := by
  refine (s5 (w5 V) b h n y k).trans ?_
  unfold cum
  exact Finset.sum_congr rfl fun s _ => by rw [l5]

theorem query7 (y : Fin 64) : rd S2x16x128x64x128 (w7 V (Proc.devRef .tc main_v48)) (ix5 b h n y k)
    = query (lows (argP V) h k) (fun s => sec (argX V) 1 b h n s k) (fun s => sec (argX V) 0 b h n s k) y := by
  refine (s6_48 (w6 V) b h n y k).trans ?_
  rw [c6, keep6 V (by decide), q5]
  rfl

theorem tail7 (y : Fin 64) : rd S2x16x128x64x128 (w7 V (Proc.devRef .tc main_v55)) (ix5 b h n y k)
    = tail (lows (argP V) h k) (fun s => sec (argX V) 1 b h n s k) y := by
  refine (s6_55 (w6 V) b h n y k).trans ?_
  rw [c6, c6, keep6 V (by decide), g5]
  exact (tail_eq (l := lows (argP V) h k) (bound_range fun x => argP V x (ch h k)) (fun s => sec (argX V) 1 b h n s k) y).symm

theorem decay7 : rd S2x16x128x128 (w7 V (Proc.devRef .tc main_v57)) (ix4 b h n k)
    = decay (lows (argP V) h k) (fun s => sec (argX V) 1 b h n s k) := by
  refine (s6_57 (w6 V) b h n k).trans ?_
  rw [c6]
  rfl

theorem score7 (y s : Fin 64) : rd S2x16x128x64x64 (w7 V (Proc.devRef .tc main_v58)) (ix5 b h n y s)
    = ∑ k, query (lows (argP V) h k) (fun s => sec (argX V) 1 b h n s k) (fun s => sec (argX V) 0 b h n s k) y
        * key (lows (argP V) h k) (fun s => sec (argX V) 1 b h n s k) s := by
  refine (s6_58 (w6 V) b h n y s).trans (Finset.sum_congr rfl fun k _ => ?_)
  rw [c6, c6, keep6 V (by decide), keep6 V (by decide), q5, g5]
  rfl

theorem zero9 (X : Valuation τ sig (Elt Ideal)) : after hostOps0_8 X (Proc.devRef .tc main_cst_6) = fun _ : S_.Idx => (0 : EReal) := by
  after_reads_simp
  try simp only [TRef.toBuf, TRef.ofBuf, cast_eq, id_eq]
  funext i
  pointwise []

theorem score10 (y s : Fin 64) : rd S2x16x128x64x64 (w10 V (Proc.devRef .tc main_v61)) (ix5 b h n y s)
    = score (lows (argP V) h) (sec (argX V) 1 b h n) (sec (argX V) 0 b h n) y s := by
  refine (s9 (w9 V) (fun a c => ?_) (zero9 _) b h n y s).trans ?_
  · rw [keep9 V (by decide)]
    exact s7 (w7 V) (s6_59 _) a c
  · rw [keep9 V (by decide), keep8 V (by decide), score7]
    rfl

theorem v10 : w10 V (Proc.devRef .tc main_v44) = w5 V (Proc.devRef .tc main_v44) := by
  rw [keep10 V (by decide), keep9 V (by decide), keep8 V (by decide), keep7 V (by decide), keep6 V (by decide)]

theorem within11 (y : Fin 64) : rd S2x16x128x64x128 (w11 V (Proc.devRef .tc main_v62)) (ix5 b h n y k)
    = ∑ s, score (lows (argP V) h) (sec (argX V) 1 b h n) (sec (argX V) 0 b h n) y s * sec (argX V) 2 b h n s k := by
  refine (s10_62 (w10 V) b h n y k).trans (Finset.sum_congr rfl fun s _ => ?_)
  rw [score10, v10, v5]

theorem query11 (y : Fin 64) : rd S128x2x16x64x128 (w11 V (Proc.devRef .tc main_v69_0)) (ix5 n b h y k)
    = query (lows (argP V) h k) (fun s => sec (argX V) 1 b h n s k) (fun s => sec (argX V) 0 b h n s k) y := by
  refine (s10_0 (w10 V) b h n y k).trans ?_
  rw [keep10 V (by decide), keep9 V (by decide), keep8 V (by decide), query7]

theorem tail11 (y : Fin 64) : rd S128x2x16x64x128 (w11 V (Proc.devRef .tc main_v69_1)) (ix5 n b h y k)
    = tail (lows (argP V) h k) (fun s => sec (argX V) 1 b h n s k) y := by
  refine (s10_1 (w10 V) b h n y k).trans ?_
  rw [keep10 V (by decide), keep9 V (by decide), keep8 V (by decide), tail7]

theorem value11 (y : Fin 64) : rd S128x2x16x64x128 (w11 V (Proc.devRef .tc main_v69_2)) (ix5 n b h y k) = sec (argX V) 2 b h n y k := by
  refine (s10_2 (w10 V) b h n y k).trans ?_
  rw [v10, v5]

theorem decay11 : rd S128x2x16x128 (w11 V (Proc.devRef .tc main_v69_3)) (ix4 n b h k)
    = decay (lows (argP V) h k) (fun s => sec (argX V) 1 b h n s k) := by
  refine (s10_3 (w10 V) b h n k).trans ?_
  rw [keep10 V (by decide), keep9 V (by decide), keep8 V (by decide), decay7]

theorem gate11 (y : Fin 64) : rd S2x8192x2048 (w11 V (Proc.devRef .tc main_v16)) (ix3 b (tok n y) (ch h k)) = sec (argX V) 3 b h n y k := by
  rw [keep11 V (by decide), keep10 V (by decide), keep9 V (by decide), keep8 V (by decide), keep7 V (by decide), keep6 V (by decide), keep5 V (by decide),
    keep4 V (by decide)]
  exact (s2_16 (w2 V) b _ _).trans (sec3 V b h n k 3 y)

theorem kept11 (h1 : r ∉ hostOps0_W) (h2 : r ∉ hostOps0_1_W) (h3 : r ∉ hostOps0_2_W) (h4 : r ∉ hostOps0_3_W) (h5 : r ∉ hostOps0_4_W)
    (h6 : r ∉ hostOps0_5_W) (h7 : r ∉ hostOps0_6_W) (h8 : r ∉ hostOps0_7_W) (h9 : r ∉ hostOps0_8_W) (h10 : r ∉ hostOps0_9_W)
    (h11 : r ∉ hostOps0_10_W) : w11 V (Proc.devRef .tc r) = V (Proc.devRef .tc r) := by
  rw [keep11 V h11, keep10 V h10, keep9 V h9, keep8 V h8, keep7 V h7, keep6 V h6, keep5 V h5, keep4 V h4, keep3 V h3, keep2 V h2, keep1 V h1]

/-! ## The scan -/

/-- One trip leaves alone what its stretches do not write. -/
theorem keepTrip (h0 : r ∉ condOps_W) (h1 : r ∉ while0Ops0_W) (h2 : r ∉ while0Ops0_1_W) (h3 : r ∉ while0Ops0_2_W) (h4 : r ∉ while0Ops0_3_W)
    (h5 : r ∉ while0Ops0_4_W) (h6 : r ∉ while0Ops0_5_W) (h7 : r ∉ while0Ops0_6_W) :
    afterL bodyI (after condOps V) (Proc.devRef .tc r) = V (Proc.devRef .tc r) := by
  simp only [afterL_cons, afterL_nil]
  rw [after_of_writes_sub while0Ops0_6 _ while0Ops0_6_writes h7, after_of_writes_sub while0Ops0_5 _ while0Ops0_5_writes h6,
    after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

variable (m : (ℓ : Loc nD τ sig) → Buf (Elt Ideal) ℓ) (c : Dev nD)

/-- The buffers before the program. -/
abbrev start (m : (ℓ : Loc nD τ sig) → Buf (Elt Ideal) ℓ) (c : Dev nD) : Valuation τ sig (Elt Ideal) := launchContents m c

theorem entry_eq : atK m 0 c = w11 (start m c) := rfl

theorem keepAll (h0 : r ∉ condOps_W) (h1 : r ∉ while0Ops0_W) (h2 : r ∉ while0Ops0_1_W) (h3 : r ∉ while0Ops0_2_W) (h4 : r ∉ while0Ops0_3_W)
    (h5 : r ∉ while0Ops0_4_W) (h6 : r ∉ while0Ops0_5_W) (h7 : r ∉ while0Ops0_6_W) :
    ∀ k, atK m k c (Proc.devRef .tc r) = w11 (start m c) (Proc.devRef .tc r)
  | 0 => rfl
  | k + 1 => (keepTrip (atK m k c) h0 h1 h2 h3 h4 h5 h6 h7).trans (keepAll h0 h1 h2 h3 h4 h5 h6 h7 k)

/-- The scan's inputs are the same before every trip. -/
theorem in0 : ∀ k, atK m k c (Proc.devRef .tc main_v69_0) = w11 (start m c) (Proc.devRef .tc main_v69_0)
  | 0 => rfl
  | k + 1 => ((trip_agree (atK m k c) main_v69_0 (by decide)).trans (STEP_main_v69_0 _)).trans (in0 k)
theorem in1 : ∀ k, atK m k c (Proc.devRef .tc main_v69_1) = w11 (start m c) (Proc.devRef .tc main_v69_1)
  | 0 => rfl
  | k + 1 => ((trip_agree (atK m k c) main_v69_1 (by decide)).trans (STEP_main_v69_1 _)).trans (in1 k)
theorem in2 : ∀ k, atK m k c (Proc.devRef .tc main_v69_2) = w11 (start m c) (Proc.devRef .tc main_v69_2)
  | 0 => rfl
  | k + 1 => ((trip_agree (atK m k c) main_v69_2 (by decide)).trans (STEP_main_v69_2 _)).trans (in2 k)
theorem in3 : ∀ k, atK m k c (Proc.devRef .tc main_v69_3) = w11 (start m c) (Proc.devRef .tc main_v69_3)
  | 0 => rfl
  | k + 1 => ((trip_agree (atK m k c) main_v69_3 (by decide)).trans (STEP_main_v69_3 _)).trans (in3 k)

/-- The states of a head, from the arguments. -/
abbrev stOf (m : (ℓ : Loc nD τ sig) → Buf (Elt Ideal) ℓ) (c : Dev nD) (b : Fin 2) (h : Fin 16) : ℕ → Fin 128 → Fin 128 → EReal :=
  states (lows (argP (start m c)) h) (sec (argX (start m c)) 1 b h) (sec (argX (start m c)) 2 b h)

theorem state_at : ∀ k, k ≤ 128 → ∀ b h x d, rd S2x16x128x128 (atK m k c (Proc.devRef .tc main_v69_5)) (ix4 b h x d) = stOf m c b h k x d
  | 0, _, b, h, x, d => s10_5 _ b h x d
  | k + 1, hk, b, h, x, d => by
    have e : atK m (k + 1) c (Proc.devRef .tc main_v69_5) = step_main_v69_5 (atK m k c) :=
      (trip_agree (atK m k c) main_v69_5 (by decide)).trans (STEP_main_v69_5 _)
    rw [e]
    refine (step5 (atK m k c) ⟨k, hk⟩ (atK_ctr m c k) b h x d).trans ?_
    rw [in3, in1, in2, decay11, state_at k (by omega) b h x d]
    refine Eq.trans ?_ (congrFun (congrFun (states_succ _ _ _ ⟨k, hk⟩).symm x) d)
    unfold next
    rw [mul_comm]
    congr 1
    refine Finset.sum_congr rfl fun y _ => ?_
    rw [tail11, value11, mul_comm]

theorem across_at : ∀ k, k ≤ 128 → ∀ (n : Fin 128), n.val < k → ∀ b h y d,
    rd S128x2x16x64x128 (atK m k c (Proc.devRef .tc main_v69_6)) (ix5 n b h y d)
      = ∑ x, query (lows (argP (start m c)) h x) (fun s => sec (argX (start m c)) 1 b h n s x) (fun s => sec (argX (start m c)) 0 b h n s x) y * stOf m c b h n.val x d
  | 0, _, n, hn, _, _, _, _ => absurd hn (by omega)
  | k + 1, hk, n, hn, b, h, y, d => by
    have e : atK m (k + 1) c (Proc.devRef .tc main_v69_6) = step_main_v69_6 (atK m k c) :=
      (trip_agree (atK m k c) main_v69_6 (by decide)).trans (STEP_main_v69_6 _)
    rw [e]
    refine (step6 (atK m k c) ⟨k, hk⟩ (atK_ctr m c k) n b h y d).trans ?_
    by_cases hh : n = ⟨k, hk⟩
    · subst hh
      rw [if_pos rfl]
      refine Finset.sum_congr rfl fun x _ => ?_
      rw [in0, query11, state_at m c k (by omega)]
    · rw [if_neg hh]
      exact across_at k (by omega) n (by have h1 : n.val ≠ k := fun e => hh (Fin.ext e); omega) b h y d

/-! ## The result -/

/-- What the stretches after the scan write. -/
abbrev post11 : List (Ref sig .tc) := [main_v70, main_v71, main_v72, main_v73, main_v74, main_cst_10, main_v75, main_v76, main_cst_11, main_v77, main_v78, main_cst_12, main_v79, main_v80, main_v81, main_v82, main_v83, main_v84, main_v85, main_v86]
abbrev post12 : List (Ref sig .tc) := [main_call10_v0, main_call10_v1, main_call10_cst, main_call10_v2, main_call10_v3, main_call10_cst_0, main_call10_v4, main_call10_v5, main_v87]
abbrev post13 : List (Ref sig .tc) := [main_v88, main_v89, main_v90, main_v91, main_v92]

theorem keepPost11 (h : r ∉ post11) : after hostOps0_11 V (Proc.devRef .tc r) = V (Proc.devRef .tc r) :=
  after_of_writes_sub hostOps0_11 V (W := post11) (forall_writes_sub_of_map rfl) h
theorem keepPost12 (h : r ∉ post12) : after hostOps0_12 V (Proc.devRef .tc r) = V (Proc.devRef .tc r) :=
  after_of_writes_sub hostOps0_12 V (W := post12) (forall_writes_sub_of_map rfl) h
theorem keepPost13 (h : r ∉ post13) : after hostOps0_13 V (Proc.devRef .tc r) = V (Proc.devRef .tc r) :=
  after_of_writes_sub hostOps0_13 V (W := post13) (forall_writes_sub_of_map rfl) h

theorem post_at (Z : Valuation τ sig (Elt Ideal)) (b : Fin 2) (h : Fin 16) (n : Fin 128) (y : Fin 64) (d : Fin 128) :
    rd S16384x2048 (after hostOps0_13 (after hostOps0_12 (after hostOps0_11 Z)) (Proc.devRef .tc main_v92)) (ix2 (row b (tok n y)) (ch h d))
      = norm (argW Z) (fun k => rd S2x16x128x64x128 (Z (Proc.devRef .tc main_v62)) (ix5 b h n y k) + rd S128x2x16x64x128 (Z (Proc.devRef .tc main_v69_6)) (ix5 n b h y k)) d
        * silu (rd S2x8192x2048 (Z (Proc.devRef .tc main_v16)) (ix3 b (tok n y) (ch h d))) := by
  refine (s13 _ b (tok n y) h d).trans ?_
  rw [keepPost12 _ (r := main_v86) (by decide), s11, s12, keepPost11 _ (r := main_v16) (by decide)]
  rfl

/-- The program's result at row `y` of chunk `n`, channel `d` of head `h`, after all `N` trips. -/
theorem result_at (N : ℕ) (hN : N = 128) (b : Fin 2) (h : Fin 16) (n : Fin 128) (y : Fin 64) (d : Fin 128) :
    rd S16384x2048 (finalContents condOps preI bodyI postI N m c (Proc.devRef .tc main_v92)) (ix2 (row b (tok n y)) (ch h d))
      = out (argX (start m c)) (argP (start m c)) (argW (start m c)) b h n y d := by
  have z : ∀ r : Ref sig .tc, r ∉ condOps_W → after condOps (atK m N c) (Proc.devRef .tc r) = atK m N c (Proc.devRef .tc r) :=
    fun r hr => after_of_writes_sub condOps _ condOps_writes hr
  have za : argW (after condOps (atK m N c)) = argW (start m c) := by
    unfold argW
    rw [z _ (by decide), keepAll m c (by decide) (by decide) (by decide) (by decide) (by decide) (by decide) (by decide) (by decide) N,
      kept11 _ (by decide) (by decide) (by decide) (by decide) (by decide) (by decide) (by decide) (by decide) (by decide) (by decide) (by decide)]
  refine (post_at (after condOps (atK m N c)) b h n y d).trans ?_
  rw [za, z main_v62 (by decide), z main_v16 (by decide), z main_v69_6 (by decide),
    keepAll m c (r := main_v62) (by decide) (by decide) (by decide) (by decide) (by decide) (by decide) (by decide) (by decide) N,
    keepAll m c (r := main_v16) (by decide) (by decide) (by decide) (by decide) (by decide) (by decide) (by decide) (by decide) N, gate11]
  have hn : n.val < N := by rw [hN]; exact n.isLt
  have ho : (fun k => rd S2x16x128x64x128 (w11 (start m c) (Proc.devRef .tc main_v62)) (ix5 b h n y k) + rd S128x2x16x64x128 (atK m N c (Proc.devRef .tc main_v69_6)) (ix5 n b h y k))
      = fun k => mix (lows (argP (start m c)) h) (sec (argX (start m c)) 1 b h n) (sec (argX (start m c)) 0 b h n) (sec (argX (start m c)) 2 b h n) (stOf m c b h n.val) y k := by
    funext k
    rw [within11, across_at m c N hN.le n hn]
    rfl
  rw [ho]
  rfl

/-- The arguments end as they began. -/
theorem kept (N : ℕ) (r : Ref sig .tc) (h : r = main_arg0 ∨ r = main_arg1 ∨ r = main_arg2) :
    finalContents condOps preI bodyI postI N m c (Proc.devRef .tc r) = m ((c.tc : Thread nD τ).loc r) := by
  show after hostOps0_13 (after hostOps0_12 (after hostOps0_11 (after condOps (atK m N c)))) (Proc.devRef .tc r) = _
  rcases h with rfl | rfl | rfl
  all_goals
    rw [keepPost13 _ (by decide), keepPost12 _ (by decide),
      keepPost11 _ (by decide), after_of_writes_sub condOps _ condOps_writes (by decide),
      keepAll m c (by decide) (by decide) (by decide) (by decide) (by decide) (by decide) (by decide) (by decide) N,
      kept11 _ (by decide) (by decide) (by decide) (by decide) (by decide) (by decide) (by decide) (by decide) (by decide) (by decide) (by decide)]
  all_goals rfl

/-- The run: the arguments end unchanged and the result is the recurrence's. -/
theorem run (ρ : Dev nD → PrngReg) : θ_run (defs (F := Ideal)) (onTc (τ := τ) (main (F := Ideal))) ⟨m, fun _ => 0, ρ⟩ fun r => ∀ c : Dev nD,
    (∀ b h n y d, rd S16384x2048 (r.2.mem ((c.tc : Thread nD τ).loc main_v92)) (ix2 (row b (tok n y)) (ch h d))
        = out (argX (start m c)) (argP (start m c)) (argW (start m c)) b h n y d)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run _ _ _).mono (fun r hr c =>
    ⟨fun b h n y d => by rw [hr c main_v92 rfl]; exact result_at m c 128 rfl b h n y d,
      (hr c main_arg0 rfl).trans (kept m c 128 _ (.inl rfl)), (hr c main_arg1 rfl).trans (kept m c 128 _ (.inr (.inl rfl))),
      (hr c main_arg2 rfl).trans (kept m c 128 _ (.inr (.inr rfl)))⟩) (run_fold m ρ)

end Cert.HgrnRefIdeal.Val
-- ==== Proof.HgrnValue.lean ====
/-
  The gated linear recurrence: the kernel's result array is the plain recurrence of `HgrnMath`, as the reference's is.
  Grid point `t = 32 b + 16 g + u` takes batch `b`, the eight heads of group `g` and the 512 tokens of time block `u`, eight
  chunks of 64; the states before its first chunk are those the points before it left.
-/
module

public import proofs.«01_k».proof.Proof.HgrnRun
public import proofs.«01_k».proof.Proof.HgrnTerms
public import proofs.«01_k».proof.Proof.HgrnRef
public import proofs.«01_k».proof.Defs
public import Idealize.ShloMosaic.Lib.Pointwise
public import Idealize.ShloMosaic.Lib.Quiescent
public import Idealize.ShloMosaic.Lib.Pipeline.Value
public import Idealize.ShloMosaic.Lib.Pipeline.ValueKit.Point

@[expose] public section

set_option maxRecDepth 16384

noncomputable section

namespace Cert.HgrnIdeal.Val

open Cert.HgrnIdeal Cert.HgrnIdeal.Gen Cert.Hgrn2 Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments: the projected rows, the gates' layer parameters, the norm's weights. -/
def inX (c : Dev nD) (i : Fin 16384) (j : Fin 8192) : EReal := m ((c : Thread nD τ).loc main_arg0) (ix2 i j)
def inP (c : Dev nD) (y : Fin 2) (j : Fin 2048) : EReal := m ((c : Thread nD τ).loc main_arg1) (ix2 y j)
def inW (c : Dev nD) (k : Fin 128) : EReal := m ((c : Thread nD τ).loc main_arg2) (ix1 k)

/-! ## The blocks a point reads -/

theorem idx_facts : ∀ t : Fin grid0.N, (win0_0.index t 0 = 16 * (t.val / 32) + t.val % 16 ∧ win0_0.index t 1 = t.val % 32 / 16)
    ∧ (win0_1.index t 0 = 16 * (t.val / 32) + t.val % 16 ∧ win0_1.index t 1 = 2 + t.val % 32 / 16)
    ∧ (win0_2.index t 0 = 16 * (t.val / 32) + t.val % 16 ∧ win0_2.index t 1 = 4 + t.val % 32 / 16)
    ∧ (win0_3.index t 0 = 16 * (t.val / 32) + t.val % 16 ∧ win0_3.index t 1 = 6 + t.val % 32 / 16)
    ∧ (win0_4.index t 0 = 0 ∧ win0_4.index t 1 = t.val % 32 / 16)
    ∧ (win0_5.index t 0 = 0 ∧ win0_5.index t 1 = 0)
    ∧ (win0_6.index t 0 = 16 * (t.val / 32) + t.val % 16 ∧ win0_6.index t 1 = t.val % 32 / 16) := by decide +kernel

theorem t_lt (t : Fin cfg0.N) : t.val < 64 := lt_of_lt_of_eq t.isLt Gen.N_0

/-- The point's batch, its heads, and its chunks. -/
def bOf (t : Fin cfg0.N) : Fin 2 := ⟨t.val / 32, by have := t_lt t; omega⟩
def hOf (t : Fin cfg0.N) (j : Fin 8) : Fin 16 := ⟨8 * (t.val % 32 / 16) + j.val, by omega⟩
def nOf (t : Fin cfg0.N) (k : Fin 8) : Fin 128 := ⟨8 * (t.val % 16) + k.val, by omega⟩

theorem iblk0_apply (c : Dev nD) (t : Fin cfg0.N) (r : Fin 512) (s : Fin 1024) (h0 : (16 * (t.val / 32) + t.val % 16) * 512 + r.val < 16384)
    (h1 : t.val % 32 / 16 * 1024 + s.val < 8192) :
    iblk m c 0 t (ix2 r s) = inX m c ⟨(16 * (t.val / 32) + t.val % 16) * 512 + r.val, h0⟩ ⟨t.val % 32 / 16 * 1024 + s.val, h1⟩ := by
  obtain ⟨⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = (16 * (t.val / 32) + t.val % 16) * 512 + r.val; rw [e0]; omega
  | ⟨1, _⟩ => show win0_0.index t 1 * 1024 + 1 * s.val = t.val % 32 / 16 * 1024 + s.val; rw [e1]; omega

theorem iblk1_apply (c : Dev nD) (t : Fin cfg0.N) (r : Fin 512) (s : Fin 1024) (h0 : (16 * (t.val / 32) + t.val % 16) * 512 + r.val < 16384)
    (h1 : (2 + t.val % 32 / 16) * 1024 + s.val < 8192) :
    iblk m c 1 t (ix2 r s) = inX m c ⟨(16 * (t.val / 32) + t.val % 16) * 512 + r.val, h0⟩ ⟨(2 + t.val % 32 / 16) * 1024 + s.val, h1⟩ := by
  obtain ⟨-, ⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_1.index t 0 * 512 + 1 * r.val = (16 * (t.val / 32) + t.val % 16) * 512 + r.val; rw [e0]; omega
  | ⟨1, _⟩ => show win0_1.index t 1 * 1024 + 1 * s.val = (2 + t.val % 32 / 16) * 1024 + s.val; rw [e1]; omega

theorem iblk2_apply (c : Dev nD) (t : Fin cfg0.N) (r : Fin 512) (s : Fin 1024) (h0 : (16 * (t.val / 32) + t.val % 16) * 512 + r.val < 16384)
    (h1 : (4 + t.val % 32 / 16) * 1024 + s.val < 8192) :
    iblk m c 2 t (ix2 r s) = inX m c ⟨(16 * (t.val / 32) + t.val % 16) * 512 + r.val, h0⟩ ⟨(4 + t.val % 32 / 16) * 1024 + s.val, h1⟩ := by
  obtain ⟨-, -, ⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_2.index t 0 * 512 + 1 * r.val = (16 * (t.val / 32) + t.val % 16) * 512 + r.val; rw [e0]; omega
  | ⟨1, _⟩ => show win0_2.index t 1 * 1024 + 1 * s.val = (4 + t.val % 32 / 16) * 1024 + s.val; rw [e1]; omega

theorem iblk3_apply (c : Dev nD) (t : Fin cfg0.N) (r : Fin 512) (s : Fin 1024) (h0 : (16 * (t.val / 32) + t.val % 16) * 512 + r.val < 16384)
    (h1 : (6 + t.val % 32 / 16) * 1024 + s.val < 8192) :
    iblk m c 3 t (ix2 r s) = inX m c ⟨(16 * (t.val / 32) + t.val % 16) * 512 + r.val, h0⟩ ⟨(6 + t.val % 32 / 16) * 1024 + s.val, h1⟩ := by
  obtain ⟨-, -, -, ⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_3.index t 0 * 512 + 1 * r.val = (16 * (t.val / 32) + t.val % 16) * 512 + r.val; rw [e0]; omega
  | ⟨1, _⟩ => show win0_3.index t 1 * 1024 + 1 * s.val = (6 + t.val % 32 / 16) * 1024 + s.val; rw [e1]; omega

theorem iblk4_apply (c : Dev nD) (t : Fin cfg0.N) (y : Fin 2) (s : Fin 1024) (h1 : t.val % 32 / 16 * 1024 + s.val < 2048) :
    iblk m c 4 t (ix2 y s) = inP m c y ⟨t.val % 32 / 16 * 1024 + s.val, h1⟩ := by
  obtain ⟨-, -, -, -, ⟨e0, e1⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_4.index t 0 * 2 + 1 * y.val = y.val; rw [e0]; omega
  | ⟨1, _⟩ => show win0_4.index t 1 * 1024 + 1 * s.val = t.val % 32 / 16 * 1024 + s.val; rw [e1]; omega

/-- The norm's weights as one row: the host's reshape of the argument. -/
theorem V_row (c : Dev nD) (q : Fin 128) : V m c main_v0 (ix2 (0 : Fin 1) q) = m ((c : Thread nD τ).loc main_arg2) (ix1 q) := by
  entry_read
  pointwise

theorem iblk5_apply (c : Dev nD) (t : Fin cfg0.N) (s : Fin 128) : iblk m c 5 t (ix2 (0 : Fin 1) s) = inW m c s := by
  obtain ⟨-, -, -, -, -, ⟨e0, e1⟩, -⟩ := idx_facts t
  unfold iblk
  rw [View.read_apply]
  refine Eq.trans ?_ (V_row m c s)
  show V m c main_v0 _ = V m c main_v0 _
  congr 1
  funext a
  apply Fin.ext
  match a with
  | ⟨0, _⟩ => show win0_5.index t 0 * 1 + 1 * 0 = 0; rw [e0]
  | ⟨1, _⟩ => show win0_5.index t 1 * 128 + 1 * s.val = s.val; rw [e1]; omega

/-! ## A chunk's rows, a head at a time -/

/-- The trip that is chunk `k` of a point. -/
def trip (k : Fin 8) : Fin k0_t1_loop.trips := ⟨k.val, by rw [trips_eq]; exact k.isLt⟩

theorem rows_apply (x : Vec Ideal S512x1024 .f32) (k : Fin 8) (r : Fin 64) (s : Fin 1024) :
    rows x (trip k) (ix2 r s) = x (ix2 (⟨64 * k.val + r.val, by omega⟩ : Fin 512) s) := by
  unfold rows
  congr 1
  have e := off_eq (trip k)
  funext a
  apply Fin.ext
  match a with
  | ⟨0, _⟩ => show k0_off1 (trip k) 0 + 1 * r.val = 64 * k.val + r.val; rw [e]; show 64 * k.val + 1 * r.val = _; omega
  | ⟨1, _⟩ => show k0_off1 (trip k) 1 + 1 * s.val = s.val; rw [e]; show 0 + 1 * s.val = _; omega

theorem sec0 (c : Dev nD) (t : Fin cfg0.N) (k j : Fin 8) : headRows (rows (iblk m c 0 t) (trip k)) j = sec (inX m c) 0 (bOf t) (hOf t j) (nOf t k) := by
  have ht := t_lt t
  funext r x
  have hv := chan_val j x
  refine (rows_apply _ k r _).trans ((iblk0_apply m c t _ _ (by show (16 * (t.val / 32) + t.val % 16) * 512 + (64 * k.val + r.val) < 16384; omega)
    (by omega)).trans ?_)
  unfold sec
  congr 1 <;> apply Fin.ext
  · show (16 * (t.val / 32) + t.val % 16) * 512 + (64 * k.val + r.val) = t.val / 32 * 8192 + ((8 * (t.val % 16) + k.val) * 64 + r.val); omega
  · show t.val % 32 / 16 * 1024 + (chan j x).val = 2048 * 0 + ((8 * (t.val % 32 / 16) + j.val) * 128 + x.val); omega

theorem sec1 (c : Dev nD) (t : Fin cfg0.N) (k j : Fin 8) : headRows (rows (iblk m c 1 t) (trip k)) j = sec (inX m c) 1 (bOf t) (hOf t j) (nOf t k) := by
  have ht := t_lt t
  funext r x
  have hv := chan_val j x
  refine (rows_apply _ k r _).trans ((iblk1_apply m c t _ _ (by show (16 * (t.val / 32) + t.val % 16) * 512 + (64 * k.val + r.val) < 16384; omega)
    (by omega)).trans ?_)
  unfold sec
  congr 1 <;> apply Fin.ext
  · show (16 * (t.val / 32) + t.val % 16) * 512 + (64 * k.val + r.val) = t.val / 32 * 8192 + ((8 * (t.val % 16) + k.val) * 64 + r.val); omega
  · show (2 + t.val % 32 / 16) * 1024 + (chan j x).val = 2048 * 1 + ((8 * (t.val % 32 / 16) + j.val) * 128 + x.val); omega

theorem sec2 (c : Dev nD) (t : Fin cfg0.N) (k j : Fin 8) : headRows (rows (iblk m c 2 t) (trip k)) j = sec (inX m c) 2 (bOf t) (hOf t j) (nOf t k) := by
  have ht := t_lt t
  funext r x
  have hv := chan_val j x
  refine (rows_apply _ k r _).trans ((iblk2_apply m c t _ _ (by show (16 * (t.val / 32) + t.val % 16) * 512 + (64 * k.val + r.val) < 16384; omega)
    (by omega)).trans ?_)
  unfold sec
  congr 1 <;> apply Fin.ext
  · show (16 * (t.val / 32) + t.val % 16) * 512 + (64 * k.val + r.val) = t.val / 32 * 8192 + ((8 * (t.val % 16) + k.val) * 64 + r.val); omega
  · show (4 + t.val % 32 / 16) * 1024 + (chan j x).val = 2048 * 2 + ((8 * (t.val % 32 / 16) + j.val) * 128 + x.val); omega

theorem sec3 (c : Dev nD) (t : Fin cfg0.N) (k j : Fin 8) : headRows (rows (iblk m c 3 t) (trip k)) j = sec (inX m c) 3 (bOf t) (hOf t j) (nOf t k) := by
  have ht := t_lt t
  funext r x
  have hv := chan_val j x
  refine (rows_apply _ k r _).trans ((iblk3_apply m c t _ _ (by show (16 * (t.val / 32) + t.val % 16) * 512 + (64 * k.val + r.val) < 16384; omega)
    (by omega)).trans ?_)
  unfold sec
  congr 1 <;> apply Fin.ext
  · show (16 * (t.val / 32) + t.val % 16) * 512 + (64 * k.val + r.val) = t.val / 32 * 8192 + ((8 * (t.val % 16) + k.val) * 64 + r.val); omega
  · show (6 + t.val % 32 / 16) * 1024 + (chan j x).val = 2048 * 3 + ((8 * (t.val % 32 / 16) + j.val) * 128 + x.val); omega

theorem low_eq (c : Dev nD) (t : Fin cfg0.N) (j : Fin 8) : headBound (iblk m c 4 t) j = lows (inP m c) (hOf t j) := by
  have ht := t_lt t
  funext x
  unfold headBound lows
  congr 1
  funext y
  have hv := chan_val j x
  refine (iblk4_apply m c t y _ (by omega)).trans ?_
  congr 1
  apply Fin.ext
  show t.val % 32 / 16 * 1024 + (chan j x).val = (8 * (t.val % 32 / 16) + j.val) * 128 + x.val
  omega

/-! ## The states -/

/-- The states of a point's head `j`, chunk by chunk, from the arguments. -/
abbrev stOf (c : Dev nD) (t : Fin cfg0.N) (j : Fin 8) : ℕ → Fin 128 → Fin 128 → EReal :=
  states (lows (inP m c) (hOf t j)) (sec (inX m c) 1 (bOf t) (hOf t j)) (sec (inX m c) 2 (bOf t) (hOf t j))

/-- From the states before its first chunk a point goes on through its eight chunks. -/
theorem chunks (c : Dev nD) (t : Fin cfg0.N) (s : Vec Ideal S8x128x128 .f32) (j : Fin 8) (h : headState s j = stOf m c t j (8 * (t.val % 16))) :
    ∀ k : ℕ, k ≤ 8 → headState (stateAt (iblk m c 1 t) (iblk m c 2 t) (iblk m c 4 t) s k) j = stOf m c t j (8 * (t.val % 16) + k)
  | 0, _ => h
  | k + 1, hk => by
    have ih := chunks c t s j h k (by omega)
    have e := stateAt_succ (iblk m c 1 t) (iblk m c 2 t) (iblk m c 4 t) s (trip ⟨k, hk⟩)
    have e' : stateAt (iblk m c 1 t) (iblk m c 2 t) (iblk m c 4 t) s (k + 1) = _ := e
    rw [e']
    refine Eq.trans ?_ (states_succ _ _ _ (nOf t ⟨k, hk⟩)).symm
    funext x d
    rw [nextS_apply, sec1, sec2, low_eq]
    exact congrArg (fun S => next _ _ _ S x d) ih

/-- The states a point starts from are the recurrence's before its first chunk. -/
theorem first_state (c : Dev nD) : ∀ (n : ℕ) (hn : n < cfg0.N) (j : Fin 8), headState (first m c ⟨n, hn⟩) j = stOf m c ⟨n, hn⟩ j (8 * (n % 16)) := by
  have zero : ∀ (n : ℕ) (hn : n < cfg0.N) (j : Fin 8), n % 16 = 0 → headState (first m c ⟨n, hn⟩) j = stOf m c ⟨n, hn⟩ j (8 * (n % 16)) := by
    intro n hn j h
    have e : first m c ⟨n, hn⟩ = k0_pay1 (F := Ideal) := if_pos h
    rw [e, h]
    funext x d
    show k0_pay1 (F := Ideal) (ix3 j d x) = (0 : EReal)
    pointwise [k0_pay1]
  intro n
  induction n with
  | zero => exact fun hn j => zero 0 hn j rfl
  | succ n ih =>
    intro hn j
    by_cases h : (n + 1) % 16 = 0
    · exact zero _ hn j h
    · have hn' : n < cfg0.N := by omega
      have e : first m c ⟨n + 1, hn⟩ = stateAt (iblk m c 1 ⟨n, hn'⟩) (iblk m c 2 ⟨n, hn'⟩) (iblk m c 4 ⟨n, hn'⟩) (first m c ⟨n, hn'⟩) 8 := by
        refine (if_neg h).trans ((carried_succ m c ⟨n, hn'⟩).trans ?_)
        unfold leave
        rw [trips_eq]
        rfl
      rw [e, chunks m c ⟨n, hn'⟩ _ j (ih hn' j) 8 le_rfl]
      have hb : bOf ⟨n, hn'⟩ = bOf ⟨n + 1, hn⟩ := Fin.ext (show n / 32 = (n + 1) / 32 by omega)
      have hh : hOf ⟨n, hn'⟩ j = hOf ⟨n + 1, hn⟩ j := Fin.ext (show 8 * (n % 32 / 16) + j.val = 8 * ((n + 1) % 32 / 16) + j.val by omega)
      show stOf m c ⟨n, hn'⟩ j (8 * (n % 16) + 8) = _
      unfold stOf
      rw [hb, hh, show 8 * (n % 16) + 8 = 8 * ((n + 1) % 16) by omega]

/-! ## The result -/

/-- Row `i` is row `i % 64` of a chunk of a batch; channel `j` is channel `j % 128` of a head. -/
def rb (i : Fin 16384) : Fin 2 := ⟨i.val / 8192, by omega⟩
def rn (i : Fin 16384) : Fin 128 := ⟨i.val % 8192 / 64, by omega⟩
def rr (i : Fin 16384) : Fin 64 := ⟨i.val % 64, by omega⟩
def rh (j : Fin 2048) : Fin 16 := ⟨j.val / 128, by omega⟩
def rd' (j : Fin 2048) : Fin 128 := ⟨j.val % 128, by omega⟩

/-- The result as contents of the kernel's result array. -/
def result (c : Dev nD) : Buf (Elt Ideal) ((c : Thread nD τ).loc main_v1) :=
  fun i : S16384x2048.Idx => out (inX m c) (inP m c) (inW m c) (rb (i 0)) (rh (i 1)) (rn (i 0)) (rr (i 0)) (rd' (i 1))

/-- What a point writes is its block of the result. -/
theorem outBlk_apply (c : Dev nD) (t : Fin cfg0.N) (k : Fin 8) (r : Fin 64) (j : Fin 8) (x : Fin 128) :
    outBlk m c t (ix2 (⟨64 * k.val + r.val, by omega⟩ : Fin 512) (chan j x)) = out (inX m c) (inP m c) (inW m c) (bOf t) (hOf t j) (nOf t k) r x := by
  have e : outBlk m c t (ix2 (⟨64 * k.val + r.val, by omega⟩ : Fin 512) (chan j x))
      = chunkRes (iblk m c 0 t) (iblk m c 1 t) (iblk m c 2 t) (iblk m c 3 t) (iblk m c 4 t) (iblk m c 5 t) (first m c t) (trip k) (ix2 r (chan j x)) := by
    unfold outBlk blockRes
    have h1 : (⟨(64 * k.val + r.val) / 64, by rw [trips_eq]; omega⟩ : Fin k0_t1_loop.trips) = trip k := Fin.ext (show (64 * k.val + r.val) / 64 = k.val by omega)
    have h2 : (⟨(64 * k.val + r.val) % 64, by omega⟩ : Fin 64) = r := Fin.ext (show (64 * k.val + r.val) % 64 = r.val by omega)
    show chunkRes _ _ _ _ _ _ _ (⟨(64 * k.val + r.val) / 64, _⟩ : Fin k0_t1_loop.trips) (ix2 (⟨(64 * k.val + r.val) % 64, _⟩ : Fin 64) (chan j x)) = _
    rw [h1, h2]
  rw [e]
  unfold chunkRes
  rw [res_apply, sec0, sec1, sec2, sec3, low_eq]
  have hs : headState (stateAt (iblk m c 1 t) (iblk m c 2 t) (iblk m c 4 t) (first m c t) (trip k).val) j = stOf m c t j (nOf t k).val :=
    chunks m c t _ j (first_state m c t.val t.isLt j) k.val (by omega)
  rw [hs]
  simp only [iblk5_apply]
  rfl

theorem flushed_eq (c : Dev nD) (t : Fin cfg0.N) :
    (dats m 0 c).flushed 6 t = ((cfg0.win 6).blk t).view.read (Elt Ideal) (result m c) := by
  obtain ⟨-, -, -, -, -, -, h0, h1⟩ := idx_facts t
  have ht := t_lt t
  show (cfg0.win 6).cut (grid0.coords t) ((dats m 0 c).after 6 t) = _
  rw [after6]
  funext i
  obtain ⟨p, q, rfl⟩ : ∃ (p : Fin 512) (q : Fin 1024), i = ix2 p q := ⟨i 0, i 1, by funext a; fin_cases a <;> rfl⟩
  obtain ⟨k, r, rfl⟩ : ∃ (k : Fin 8) (r : Fin 64), p = ⟨64 * k.val + r.val, by omega⟩ :=
    ⟨⟨p.val / 64, by omega⟩, ⟨p.val % 64, by omega⟩, Fin.ext (show p.val = 64 * (p.val / 64) + p.val % 64 by omega)⟩
  obtain ⟨j, x, rfl⟩ : ∃ (j : Fin 8) (x : Fin 128), q = chan j x :=
    ⟨⟨q.val / 128, by omega⟩, ⟨q.val % 128, by omega⟩, Fin.ext (by rw [chan_val]; show q.val = 128 * (q.val / 128) + q.val % 128; omega)⟩
  have hv := chan_val j x
  have e0 : (16 * (t.val / 32) + t.val % 16) * 512 + (64 * k.val + r.val) < 16384 := by omega
  have e1 : t.val % 32 / 16 * 1024 + (chan j x).val < 2048 := by omega
  have hi : ((cfg0.win 6).blk t).view.read (Elt Ideal) (result m c) (ix2 (⟨64 * k.val + r.val, by omega⟩ : Fin 512) (chan j x))
      = result m c (ix2 (n0 := 16384) (n1 := 2048) ⟨_, e0⟩ ⟨_, e1⟩) := by
    rw [View.read_apply]
    show result m c _ = _
    congr 1
    funext a
    apply Fin.ext
    match a with
    | ⟨0, _⟩ => show win0_6.index t 0 * 512 + 1 * (64 * k.val + r.val) = (16 * (t.val / 32) + t.val % 16) * 512 + (64 * k.val + r.val); rw [h0]; omega
    | ⟨1, _⟩ => show win0_6.index t 1 * 1024 + 1 * (chan j x).val = t.val % 32 / 16 * 1024 + (chan j x).val; rw [h1]; omega
  rw [hi]
  refine (outBlk_apply m c t k r j x).trans ?_
  have f1 : bOf t = rb ⟨_, e0⟩ := Fin.ext (show t.val / 32 = ((16 * (t.val / 32) + t.val % 16) * 512 + (64 * k.val + r.val)) / 8192 by omega)
  have f2 : hOf t j = rh ⟨_, e1⟩ := Fin.ext (show 8 * (t.val % 32 / 16) + j.val = (t.val % 32 / 16 * 1024 + (chan j x).val) / 128 by omega)
  have f3 : nOf t k = rn ⟨_, e0⟩ := Fin.ext (show 8 * (t.val % 16) + k.val = ((16 * (t.val / 32) + t.val % 16) * 512 + (64 * k.val + r.val)) % 8192 / 64 by omega)
  have f4 : r = rr ⟨_, e0⟩ := Fin.ext (show r.val = ((16 * (t.val / 32) + t.val % 16) * 512 + (64 * k.val + r.val)) % 64 by omega)
  have f5 : x = rd' ⟨_, e1⟩ := Fin.ext (show x.val = (t.val % 32 / 16 * 1024 + (chan j x).val) % 128 by omega)
  show out _ _ _ (bOf t) (hOf t j) (nOf t k) r x = out _ _ _ (rb ⟨_, e0⟩) (rh ⟨_, e1⟩) (rn ⟨_, e0⟩) (rr ⟨_, e0⟩) (rd' ⟨_, e1⟩)
  rw [← f1, ← f2, ← f3, ← f4, ← f5]

/-- The point whose block holds an index. -/
theorem cover (c : Dev nD) (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  let t : Fin grid0.N := ⟨(i 0).val / 8192 * 32 + (i 1).val / 1024 * 16 + (i 0).val % 8192 / 512, by show _ < grid0.N; rw [Gen.N_0]; omega⟩
  obtain ⟨-, -, -, -, -, -, g0, g1⟩ := idx_facts t
  refine ⟨t, flush0_6 t, ?_⟩
  show i ∈ ((View.whole main_v1).slice (win0_6.rect t)).set
  rw [View.set_slice_whole, Rect.mem_set_unit]
  have ht : t.val = (i 0).val / 8192 * 32 + (i 1).val / 1024 * 16 + (i 0).val % 8192 / 512 := rfl
  intro a
  match a with
  | ⟨0, _⟩ => show win0_6.index t 0 * 512 ≤ (i 0 : Nat) ∧ (i 0 : Nat) < win0_6.index t 0 * 512 + 512
              rw [g0]; omega
  | ⟨1, _⟩ => show win0_6.index t 1 * 1024 ≤ (i 1 : Nat) ∧ (i 1 : Nat) < win0_6.index t 1 * 1024 + 1024
              rw [g1]; omega

/-- The kernel's result array after the run. -/
theorem final (c : Dev nD) : (dats m 0 c).arrAt 6 cfg0.N = result m c :=
  (dats m 0 c).arrAt_eq_of_cover 6 (result m c) (fun t _ => flushed_eq m c t) (cover c)

/-- The reference's arguments end unchanged and its counters at zero: it declares no semaphore. -/
theorem frame_ref : Cert.quiescent_HgrnRefIdeal := fun m ρ _ =>
  (θ_run _ _ _).mono (fun r h => ⟨fun c => (h c).2, sem_eq_zero_of_no_sems (by decide) r.2⟩) (Cert.HgrnRefIdeal.Val.run m ρ)

/-- Kernel and reference end with the same array. -/
theorem algebraic : Cert.algebraic_HgrnIdeal_HgrnRefIdeal := fun m ρ m' ρ' _ hag =>
  ⟨fun c => result m c,
   (θ_run _ _ _).mono (fun _ h c => ⟨(h c).1.trans (final m c), (h c).2⟩) (run_blocks m ρ),
   (θ_run _ _ _).mono (fun r h c => ⟨by
      obtain ⟨a0, a1, a2⟩ := hag c
      have x0 : Cert.HgrnRefIdeal.Val.argX (Cert.HgrnRefIdeal.Val.start m' c) = inX m c := by
        funext i j; exact congrFun a0 (ix2 i j)
      have x1 : Cert.HgrnRefIdeal.Val.argP (Cert.HgrnRefIdeal.Val.start m' c) = inP m c := by
        funext i j; exact congrFun a1 (ix2 i j)
      have x2 : Cert.HgrnRefIdeal.Val.argW (Cert.HgrnRefIdeal.Val.start m' c) = inW m c := by
        funext i; exact congrFun a2 (ix1 i)
      funext i
      obtain ⟨p, q, rfl⟩ : ∃ (p : Fin 16384) (q : Fin 2048), i = ix2 p q := ⟨i 0, i 1, by funext a; fin_cases a <;> rfl⟩
      have e := (h c).1 (rb p) (rh q) (rn p) (rr p) (rd' q)
      rw [x0, x1, x2] at e
      have hp : row (rb p) (tok (rn p) (rr p)) = p :=
        Fin.ext (show p.val / 8192 * 8192 + (p.val % 8192 / 64 * 64 + p.val % 64) = p.val by omega)
      have hq : ch (rh q) (rd' q) = q := Fin.ext (show q.val / 128 * 128 + q.val % 128 = q.val by omega)
      rw [hp, hq] at e
      exact e, (h c).2⟩)
     (Cert.HgrnRefIdeal.Val.run m' ρ')⟩

end Cert.HgrnIdeal.Val
-- ==== Proof.FlashChunk.lean ====
module

public import proofs.«01_k».proof.Proof.Gen.FlashIdeal.Frame
public import proofs.«01_k».proof.Proof.Gen.FlashIdeal.Loops
public import Idealize.ShloMosaic.Lib.VecWindow
public import Idealize.ShloMosaic.Lib.Claim
public import Idealize.ShloMosaic.Lib.Pipeline.Value

/-! One column chunk of the attention kernel's running state, and what one trip of its loop over pairs of key blocks
does to it.

The kernel works on a tile of 1024 queries in four chunks of 256 columns. For each chunk the scratch buffers hold the
unnormalised output and weight sum, the scores of the key block to be taken next and their column maxima, and the
exponentials and rescaling factors of the block whose product with the values is still outstanding. The running maximum
is carried by the loop. -/

@[expose] public section

set_option maxRecDepth 16384

noncomputable section

namespace Cert.FlashIdeal.Val

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The pure steps on one chunk -/

/-- The state of one chunk of 256 query columns between two trips. -/
structure Chunk (F : FTy → Type) where
  /-- the unnormalised output (rows 0–127) and the weight sum (rows 128–143) -/
  acc : Vec F S144x256 .f32
  /-- scores of the key block taken next -/
  st : Vec F S512x256 .f32
  /-- their column maxima -/
  cm : Vec F S1x256 .f32
  /-- exponentials of the block not yet multiplied with its values -/
  p : Vec F S512x256 .bf16
  /-- the rescaling factors that go with them -/
  al : Vec F S1x256 .f32
  /-- the running maxima -/
  m : Vec F S1x256 .f32

/-- Key block `b`: 512 rows. -/
def kBlock (k : Vec F S1x1x8192x256 .bf16) (b : ℕ) : Vec F S1x1x512x256 .bf16 :=
  VecWindow.window k ![0, 0, 512 * (b % 16), 0] S1x1x512x256.size (by
    intro a; have := Nat.mod_lt b (show 16 > 0 by omega)
    fin_cases a <;> simp [Shape.size] <;> omega)

/-- Value tile `b`: 256 positions. -/
def vTile (v : Vec F S1x1x32x144x256 .bf16) (b : ℕ) : Vec F S1x1x1x144x256 .bf16 :=
  VecWindow.window v ![0, 0, b % 32, 0, 0] S1x1x1x144x256.size (by
    intro a; have := Nat.mod_lt b (show 32 > 0 by omega)
    fin_cases a <;> simp [Shape.size] <;> omega)

/-- Query chunk `j`: 256 columns. -/
def qChunk (q : Vec F S1x1x256x1024 .bf16) (j : Fin 4) : Vec F S1x1x256x256 .bf16 :=
  VecWindow.window q ![0, 0, 0, 256 * j.val] S1x1x256x256.size (by
    intro a; have := j.isLt
    fin_cases a <;> simp [Shape.size] <;> omega)

/-- Scores of a key block against a query chunk. -/
abbrev scores (kb : Vec F S1x1x512x256 .bf16) (qc : Vec F S1x1x256x256 .bf16) : Vec F S512x256 .f32 := k0_pay4 kb qc

/-- Column maxima of the scores. -/
abbrev scoreMax (kb : Vec F S1x1x512x256 .bf16) (qc : Vec F S1x1x256x256 .bf16) : Vec F S1x256 .f32 := k0_pay5 kb qc

/-- Rescale the accumulator and add the product of two neighbouring value tiles with the exponentials. -/
abbrev accum (va vb : Vec F S1x1x1x144x256 .bf16) (al : Vec F S1x256 .f32) (acc : Vec F S144x256 .f32) (p : Vec F S512x256 .bf16) :
    Vec F S144x256 .f32 := k0_pay7 (k0_pay6 va) vb al acc p

/-- Exponentials (base 2) of the scores less the running maxima. -/
def expo (st : Vec F S512x256 .f32) (m : Vec F S1x256 .f32) : Vec F S512x256 .bf16 :=
  shapeCast S512x256 (truncf .bf16 (exp2 (subf st (broadcastTo S512x256 m broadcasts_S1x256_S512x256) : FVec F S512x256 .f32)) bitsLt_bf16_f32 : FVec F S512x256 .bf16)
    shapeCasts_S512x256_S512x256

/-- The factor from one running maximum to the next. -/
def rescale (m m' : Vec F S1x256 .f32) : Vec F S1x256 .f32 :=
  shapeCast S1x256 (exp2 (subf m m' : FVec F S1x256 .f32)) shapeCasts_S1x256_S1x256

/-- The larger of the running maxima and a block's column maxima. -/
abbrev newMax (m cm : Vec F S1x256 .f32) : Vec F S1x256 .f32 := maximumf (m : FVec F S1x256 .f32) cm

/-- Columns `256 j …` of a row. -/
def cut (j : Fin 4) (m : FVec F S1x1024 .f32) : FVec F S1x256 .f32 :=
  extractStridedSlice S1x256 ![0, 256 * j.val] m (by fin_cases j <;> decide)

variable (q : Vec F S1x1x256x1024 .bf16) (k : Vec F S1x1x8192x256 .bf16) (v : Vec F S1x1x32x144x256 .bf16)

/-- One trip on chunk `j`: score block `2t+1`, fold in the outstanding block `2t-1`, exponentiate block `2t`; then
    score block `2t+2`, fold in block `2t`, exponentiate block `2t+1`. -/
def next (j : Fin 4) (t : ℕ) (s : Chunk F) : Chunk F :=
  let m₁ := newMax s.m s.cm
  let m₂ := newMax m₁ (scoreMax (kBlock k (2 * t + 1)) (qChunk q j))
  { acc := accum (vTile v (4 * t)) (vTile v (4 * t + 1)) (rescale s.m m₁)
      (accum (vTile v (2 * (2 * t - 1))) (vTile v (2 * (2 * t - 1) + 1)) s.al s.acc s.p) (expo s.st m₁)
    st := scores (kBlock k (2 * t + 2)) (qChunk q j)
    cm := scoreMax (kBlock k (2 * t + 2)) (qChunk q j)
    p := expo (scores (kBlock k (2 * t + 1)) (qChunk q j)) m₂
    al := rescale m₁ m₂
    m := m₂ }

/-- Chunk `j` of the scratch buffers and of the carried row is the state `s`. -/
structure Holds (j : Fin 4) (s : Chunk F) (x15 : Vec F S144x1024 .f32) (x16 : Vec F S512x1024 .f32) (x19 : Vec F S512x1024 .bf16)
    (x21 x22 : Vec F S1x1024 .f32) (m : FVec F S1x1024 .f32) : Prop where
  acc : ∀ inb, VecWindow.window x15 ![0, 256 * j.val] S144x256.size inb = s.acc
  st : ∀ inb, VecWindow.window x16 ![0, 256 * j.val] S512x256.size inb = s.st
  p : ∀ inb, VecWindow.window x19 ![0, 256 * j.val] S512x256.size inb = s.p
  al : ∀ inb, VecWindow.window x21 ![0, 256 * j.val] S1x256.size inb = s.al
  cm : ∀ inb, VecWindow.window x22 ![0, 256 * j.val] S1x256.size inb = s.cm
  m : cut j m = s.m

/-! ## Reading a column window of a buffer after stores -/

/-- The newest store is over the window read. -/
theorem window_writes_head {κ : Kind} {sp : Space} {s : Shape} {e : EltTy} (V : View sig κ sp s e) (f : V.ty.Contents (Elt F))
    (off size : Fin s.rank → ℕ) (inb inb' : ∀ a, off a + size a ≤ s.size a) (w : ((a : Fin s.rank) → Fin (size a)) → Elt F e)
    (L : List (View.Piece (Elt F) s e)) :
    VecWindow.window (V.read (Elt F) (V.writes (Elt F) f (⟨Rect.unit off size inb, w⟩ :: L))) off size inb' = w := by
  rw [View.read_writes_cons_put V f inb w L rfl, VecWindow.window_put_same]

/-- The newest store is over other columns. -/
theorem window_writes_skip {κ : Kind} {sp : Space} {d : Fin 2 → ℕ} {e : EltTy} (V : View sig κ sp ⟨2, d⟩ e) (f : V.ty.Contents (Elt F))
    (off size off' size' : Fin 2 → ℕ) (inb : ∀ a, off a + size a ≤ d a) (inb' : ∀ a, off' a + size' a ≤ d a)
    (w : ((a : Fin 2) → Fin (size a)) → Elt F e) (L : List (View.Piece (Elt F) ⟨2, d⟩ e))
    (h : off' 1 + size' 1 ≤ off 1 ∨ off 1 + size 1 ≤ off' 1) :
    VecWindow.window (s := ⟨2, d⟩) (V.read (Elt F) (V.writes (Elt F) f (⟨Rect.unit (s := ⟨2, d⟩) off size inb, w⟩ :: L))) off' size' inb'
      = VecWindow.window (s := ⟨2, d⟩) (V.read (Elt F) (V.writes (Elt F) f L)) off' size' inb' := by
  rw [View.read_writes_cons_put (s := ⟨2, d⟩) V f inb w L rfl, VecWindow.window_put_of_disjoint (s := ⟨2, d⟩) _ _ _ _ _ _ _ 1 h]

/-- Cutting a row joined from four pieces gives the piece. -/
theorem cut_join (p₀ p₁ p₂ p₃ : FVec F S1x256 .f32) (j : Fin 4) :
    cut j (concatenate S1x1024 1 [⟨S1x256, p₀⟩, ⟨S1x256, p₁⟩, ⟨S1x256, p₂⟩, ⟨S1x256, p₃⟩] concatenates_S1x256_S1x256_S1x256_S1x256_S1x1024_d1)
      = ![p₀, p₁, p₂, p₃] j := by
  funext y
  unfold cut
  have hb : ∀ b : Fin 2, b ≠ 1 → b = 0 := by decide
  match j with
  | 0 => exact concatenate_apply_piece (t := S1x1024) 1 _ _ _ 0 (by simp) S1x256 p₀ rfl rfl 0 rfl y (fun b h => by obtain rfl := hb b h; simp) (by simp)
  | 1 => exact concatenate_apply_piece (t := S1x1024) 1 _ _ _ 1 (by simp) S1x256 p₁ rfl rfl 256 rfl y (fun b h => by obtain rfl := hb b h; simp) (by simp)
  | 2 => exact concatenate_apply_piece (t := S1x1024) 1 _ _ _ 2 (by simp) S1x256 p₂ rfl rfl 512 rfl y (fun b h => by obtain rfl := hb b h; simp) (by simp)
  | 3 => exact concatenate_apply_piece (t := S1x1024) 1 _ _ _ 3 (by simp) S1x256 p₃ rfl rfl 768 rfl y (fun b h => by obtain rfl := hb b h; simp) (by simp)

end Cert.FlashIdeal.Val
-- ==== Proof.FlashTrip.lean ====
module

public import proofs.«01_k».proof.Proof.FlashChunk

/-! One trip of the loop over pairs of key blocks, run on the scratch buffers. -/

@[expose] public section

set_option maxRecDepth 16384

noncomputable section

namespace Cert.FlashIdeal.Val

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer of the kernel held whole at contents `f`. -/
abbrev held (c : Dev nD) {s : Shape} {e : EltTy} (a : Memref sig .tc .vmem s e) (f : a.view.ty.Contents (Elt F)) : sProp 𝕄 :=
  a.view.loc (c : Thread nD τ) ↦[a.view.set]{fullShare} f

theorem kBlock_eq {κ : Kind} {sp : Space} (V : View sig κ sp S1x1x8192x256 .bf16) (f : V.ty.Contents (Elt F)) {off : Fin 4 → ℕ} {b : ℕ}
    {inb : ∀ a, off a + S1x1x512x256.size a ≤ S1x1x8192x256.size a} (h : off = ![0, 0, 512 * (b % 16), 0]) :
    kBlock (V.read (Elt F) f) b = V.readAt (Elt F) (Rect.unit (s := S1x1x8192x256) off S1x1x512x256.size inb).toLoadRect f := by
  subst h; rfl

theorem vTile_eq {κ : Kind} {sp : Space} (V : View sig κ sp S1x1x32x144x256 .bf16) (f : V.ty.Contents (Elt F)) {off : Fin 5 → ℕ} {b : ℕ}
    {inb : ∀ a, off a + S1x1x1x144x256.size a ≤ S1x1x32x144x256.size a} (h : off = ![0, 0, b % 32, 0, 0]) :
    vTile (V.read (Elt F) f) b = V.readAt (Elt F) (Rect.unit (s := S1x1x32x144x256) off S1x1x1x144x256.size inb).toLoadRect f := by
  subst h; rfl

theorem readAt_writes_head {κ : Kind} {sp : Space} {s : Shape} {e : EltTy} (V : View sig κ sp s e) (f : V.ty.Contents (Elt F))
    (off size : Fin s.rank → ℕ) (inb inb' : ∀ a, off a + size a ≤ s.size a) (w : ((a : Fin s.rank) → Fin (size a)) → Elt F e)
    (L : List (View.Piece (Elt F) s e)) :
    V.readAt (Elt F) (Rect.unit off size inb').toLoadRect (V.writes (Elt F) f (⟨Rect.unit off size inb, w⟩ :: L)) = w :=
  window_writes_head V f off size inb inb' w L

theorem readAt_writes_skip {κ : Kind} {sp : Space} {d : Fin 2 → ℕ} {e : EltTy} (V : View sig κ sp ⟨2, d⟩ e) (f : V.ty.Contents (Elt F))
    (off size off' size' : Fin 2 → ℕ) (inb : ∀ a, off a + size a ≤ d a) (inb' : ∀ a, off' a + size' a ≤ d a)
    (w : ((a : Fin 2) → Fin (size a)) → Elt F e) (L : List (View.Piece (Elt F) ⟨2, d⟩ e))
    (h : off' 1 + size' 1 ≤ off 1 ∨ off 1 + size 1 ≤ off' 1) :
    V.readAt (Elt F) (Rect.unit (s := ⟨2, d⟩) off' size' inb').toLoadRect (V.writes (Elt F) f (⟨Rect.unit (s := ⟨2, d⟩) off size inb, w⟩ :: L))
      = V.readAt (Elt F) (Rect.unit (s := ⟨2, d⟩) off' size' inb').toLoadRect (V.writes (Elt F) f L) :=
  window_writes_skip V f off size off' size' inb inb' w L h

theorem readCov_head {κ : Kind} {sp : Space} {s : Shape} {e : EltTy} (V : View sig κ sp s e)
    (off size : Fin s.rank → ℕ) (inb inb' : ∀ a, off a + size a ≤ s.size a) (w : ((a : Fin s.rank) → Fin (size a)) → Elt F e)
    (L : List (View.Piece (Elt F) s e)) :
    V.readCov (⟨Rect.unit off size inb, w⟩ :: L) (Rect.unit off size inb').toLoadRect = w :=
  readAt_writes_head V _ off size inb inb' w L

theorem readCov_skip2 {κ : Kind} {sp : Space} {d : Fin 2 → ℕ} {e : EltTy} (V : View sig κ sp ⟨2, d⟩ e)
    (off size off' size' : Fin 2 → ℕ) (inb : ∀ a, off a + size a ≤ d a) (inb' : ∀ a, off' a + size' a ≤ d a)
    (w : ((a : Fin 2) → Fin (size a)) → Elt F e) (L : List (View.Piece (Elt F) ⟨2, d⟩ e))
    (h : off' 1 + size' 1 ≤ off 1 ∨ off 1 + size 1 ≤ off' 1) :
    V.readCov (⟨Rect.unit (s := ⟨2, d⟩) off size inb, w⟩ :: L) (Rect.unit (s := ⟨2, d⟩) off' size' inb').toLoadRect
      = V.readCov L (Rect.unit (s := ⟨2, d⟩) off' size' inb').toLoadRect :=
  readAt_writes_skip V _ off size off' size' inb inb' w L h

theorem trip_lt (i : grid0.Coords) (t : Fin (k0_t1_loop i).trips) : t.val < 7 := Nat.lt_of_lt_of_le t.isLt (k0_t1_abs i).2.1

theorem off1_first (i : grid0.Coords) (t : Fin (k0_t1_loop i).trips) : k0_off1 i t 1#32 = ![0, 0, 512 * ((2 * t.val + 1) % 16), 0] := by
  have := trip_lt i t
  rw [show 512 * ((2 * t.val + 1) % 16) = 1024 * t.val + 512 * 0 + 512 by omega]
  exact k0_off1_eq i t 0

theorem off1_second (i : grid0.Coords) (t : Fin (k0_t1_loop i).trips) : k0_off1 i t 2#32 = ![0, 0, 512 * ((2 * t.val + 2) % 16), 0] := by
  have := trip_lt i t
  rw [show 512 * ((2 * t.val + 2) % 16) = 1024 * t.val + 512 * 1 + 512 by omega]
  exact k0_off1_eq i t 1

theorem off3_closed (i : grid0.Coords) (t : Fin (k0_t1_loop i).trips) (r : Fin 2) :
    k0_off3 i t (BitVec.ofNat 32 r.val) = ![0, 0, (4 * t.val + r.val) % 32, 0, 0] := by
  have := trip_lt i t
  have := r.isLt
  rw [show (4 * t.val + r.val) % 32 = 4 * t.val + r.val by omega]
  exact k0_off3_eq i t r

theorem off2_word : ∀ (t : Fin 7) (r : Fin 2), (Scalar.indexCast (Scalar.addi (Scalar.muli (Scalar.maxsi (Scalar.subi (Scalar.muli 2#32 (Scf.iv 0#32 1#32 t.val)) 1#32) 0#32) 2#32)
      (BitVec.ofNat 32 r.val))).toNat = (2 * (2 * t.val - 1) + r.val) % 32 := by
  decide +kernel

theorem off2_closed (i : grid0.Coords) (t : Fin (k0_t1_loop i).trips) (r : Fin 2) :
    k0_off2 i t (BitVec.ofNat 32 r.val) = ![0, 0, (2 * (2 * t.val - 1) + r.val) % 32, 0, 0] := by
  have ht := trip_lt i t
  exact congrArg (fun n => (![0, 0, n, 0, 0] : Fin 5 → ℕ)) (off2_word ⟨t.val, ht⟩ r)

section Body

variable (c : Dev nD) (i : grid0.Coords) (arg3 : Memref sig .tc .vmem S1x1x256x1024 .bf16) (harg3 : arg3.IsWhole) (arg4 : Memref sig .tc .vmem S1x1x8192x256 .bf16) (harg4 : arg4.IsWhole) (arg5 : Memref sig .tc .vmem S1x1x32x144x256 .bf16) (harg5 : arg5.IsWhole) (arg6 : Memref sig .tc .vmem S32x4096 .f32) (harg6 : arg6.IsWhole) (arg7 : Memref sig .tc .vmem S16x4096 .f32) (harg7 : arg7.IsWhole) (arg8 : Memref sig .tc .vmem S16x16384 .f32) (harg8 : arg8.IsWhole) (arg9 : Memref sig .tc .vmem S64x4096 .f32) (harg9 : arg9.IsWhole) (arg10 : Memref sig .tc .vmem S1x1024x128 .bf16) (harg10 : arg10.IsWhole) (arg11 : Memref sig .tc .vmem S32x4096 .bf16) (harg11 : arg11.IsWhole) (arg12 : Memref sig .tc .vmem S16x4096 .bf16) (harg12 : arg12.IsWhole) (arg13 : Memref sig .tc .vmem S16x16384 .bf16) (harg13 : arg13.IsWhole) (arg14 : Memref sig .tc .vmem S64x4096 .bf16) (harg14 : arg14.IsWhole) (arg15 : Memref sig .tc .vmem S144x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg2 : BitVec 32) (v0 : BitVec 32) (v1 : BitVec 32) (cst_72 : F .f32)

/-- The buffers between trips: the inputs as they came, the scratch with every chunk at the state given for it. -/
def between (f3 : arg3.view.ty.Contents (Elt F)) (f4 : arg4.view.ty.Contents (Elt F)) (f5 : arg5.view.ty.Contents (Elt F))
    (s : Fin 4 → Chunk F) (m : FVec F S1x1024 .f32) : sProp 𝕄 :=
  iprop(held c arg3 f3 ∗ held c arg4 f4 ∗ held c arg5 f5
    ∗ (∃ f15, ∃ f16, ∃ f17, ∃ f18, ∃ f19, ∃ f20, ∃ f21, ∃ f22, ∃ f23,
      held c arg15 f15 ∗ held c arg16 f16 ∗ held c arg17 f17 ∗ held c arg18 f18 ∗ held c arg19 f19 ∗ held c arg20 f20
      ∗ held c arg21 f21 ∗ held c arg22 f22 ∗ held c arg23 f23
      ∗ ⌜∀ j, Holds j (s j) (arg15.view.read (Elt F) f15) (arg16.view.read (Elt F) f16) (arg19.view.read (Elt F) f19)
          (arg21.view.read (Elt F) f21) (arg22.view.read (Elt F) f22) m⌝))

set_option maxHeartbeats 2000000 in
theorem trip (f3 : arg3.view.ty.Contents (Elt F)) (f4 : arg4.view.ty.Contents (Elt F)) (f5 : arg5.view.ty.Contents (Elt F))
    (s : Fin 4 → Chunk F) (t : Fin (k0_t1_loop i).trips) (m : FVec F S1x1024 .f32) (E : Set ℕ) :
    between c arg3 arg4 arg5 arg15 arg16 arg17 arg18 arg19 arg20 arg21 arg22 arg23 f3 f4 f5 s m
    ⊢ wp frame (wpE (defs₀ (F := F)) Variants.none c none) E
        (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg2 v0 v1 cst_72 t m)
        (between c arg3 arg4 arg5 arg15 arg16 arg17 arg18 arg19 arg20 arg21 arg22 arg23 f3 f4 f5
          (fun j => next (arg3.view.read (Elt F) f3) (arg4.view.read (Elt F) f4) (arg5.view.read (Elt F) f5) j t.val (s j))) := by
  unfold between
  iintro ⟨H3, H4, H5, ⟨%f15, %f16, %f17, %f18, %f19, %f20, %f21, %f22, %f23, H15, H16, H17, H18, H19, H20, H21, H22, H23, %hs⟩⟩
  unfold k0_t1_body
  sl_exec
  sl_step
  isplitl [H3]
  · iexact H3
  isplitl [H4]
  · iexact H4
  isplitl [H5]
  · iexact H5
  iexists _, _, _, _, _, _, _, _, _
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  ipureintro
  intro j
  have hk₁ : kBlock (arg4.view.read (Elt F) f4) (2 * t.val + 1)
      = arg4.view.readAt (Elt F) (Rect.unit (s := S1x1x8192x256) (k0_off1 i t 1#32) S1x1x512x256.size (k0_off1_inb i t 0)).toLoadRect f4 := kBlock_eq _ _ (off1_first i t)
  have hk₂ : kBlock (arg4.view.read (Elt F) f4) (2 * t.val + 2)
      = arg4.view.readAt (Elt F) (Rect.unit (s := S1x1x8192x256) (k0_off1 i t 2#32) S1x1x512x256.size (k0_off1_inb i t 1)).toLoadRect f4 := kBlock_eq _ _ (off1_second i t)
  have hv₀ : vTile (arg5.view.read (Elt F) f5) (2 * (2 * t.val - 1))
      = arg5.view.readAt (Elt F) (Rect.unit (s := S1x1x32x144x256) (k0_off2 i t 0#32) S1x1x1x144x256.size (k0_off2_inb i t 0)).toLoadRect f5 := vTile_eq _ _ (off2_closed i t 0)
  have hv₁ : vTile (arg5.view.read (Elt F) f5) (2 * (2 * t.val - 1) + 1)
      = arg5.view.readAt (Elt F) (Rect.unit (s := S1x1x32x144x256) (k0_off2 i t 1#32) S1x1x1x144x256.size (k0_off2_inb i t 1)).toLoadRect f5 := vTile_eq _ _ (off2_closed i t 1)
  have hv₂ : vTile (arg5.view.read (Elt F) f5) (4 * t.val)
      = arg5.view.readAt (Elt F) (Rect.unit (s := S1x1x32x144x256) (k0_off3 i t 0#32) S1x1x1x144x256.size (k0_off3_inb i t 0)).toLoadRect f5 := vTile_eq _ _ (off3_closed i t 0)
  have hv₃ : vTile (arg5.view.read (Elt F) f5) (4 * t.val + 1)
      = arg5.view.readAt (Elt F) (Rect.unit (s := S1x1x32x144x256) (k0_off3 i t 1#32) S1x1x1x144x256.size (k0_off3_inb i t 1)).toLoadRect f5 := vTile_eq _ _ (off3_closed i t 1)
  have hM : ∀ j : Fin 4, newMax (cut j m) (VecWindow.window (arg22.view.read (Elt F) f22) ![0, 256 * j.val] S1x256.size
      (by intro a; have := j.isLt; fin_cases a <;> simp [Shape.size] <;> omega)) = cut j (trip.sl.r_9 arg22 m f22) := by
    intro j
    refine Eq.trans ?_ (cut_join _ _ _ _ j).symm
    fin_cases j <;> rfl
  simp only [next, hk₁, hk₂, hv₀, hv₁, hv₂, hv₃]
  rw [← (hs j).acc (by intro a; have := j.isLt; fin_cases a <;> simp [Shape.size] <;> omega), ← (hs j).st (by intro a; have := j.isLt; fin_cases a <;> simp [Shape.size] <;> omega), ← (hs j).p (by intro a; have := j.isLt; fin_cases a <;> simp [Shape.size] <;> omega), ← (hs j).al (by intro a; have := j.isLt; fin_cases a <;> simp [Shape.size] <;> omega), ← (hs j).cm (by intro a; have := j.isLt; fin_cases a <;> simp [Shape.size] <;> omega), ← (hs j).m]
  refine ⟨fun inb => ?_, fun inb => ?_, fun inb => ?_, fun inb => ?_, fun inb => ?_, ?_⟩
  on_goal 3 => rw [hM j]
  on_goal 4 => rw [hM j]
  on_goal 6 =>
    rw [hM j]
    refine (cut_join _ _ _ _ j).trans ?_
  all_goals fin_cases j
  all_goals try
    (repeat refine (window_writes_skip _ _ _ _ _ _ _ _ _ _ (by decide)).trans ?_)
    refine (window_writes_head _ _ _ _ _ _ _ _).trans ?_
  all_goals dsimp only [Nat.reduceMul]
  all_goals repeat
    delta trip.sl.v953 trip.sl.v847 trip.sl.H15_4 trip.sl.v804 trip.sl.r_18 trip.sl.v912 trip.sl.v732 trip.sl.r_16 trip.sl.r trip.sl.r_17 trip.sl.r_7 trip.sl.r_13 trip.sl.r_11 trip.sl.v859 trip.sl.v797 trip.sl.r_2 trip.sl.H15_5 trip.sl.r_4 trip.sl.H20_4 trip.sl.v806 trip.sl.v846 trip.sl.r_5 trip.sl.r_8 trip.sl.r_3 trip.sl.v766 trip.sl.r_6 trip.sl.H15_6 trip.sl.v793 trip.sl.H17_4 trip.sl.H23_4 trip.sl.v686 trip.sl.r_10 trip.sl.v850 trip.sl.H15_7 trip.sl.v963 trip.sl.r_12 trip.sl.v965 trip.sl.v765 trip.sl.H18_4 trip.sl.v952 trip.sl.v956 trip.sl.v794 trip.sl.v733 trip.sl.r_14 trip.sl.v900 trip.sl.v903 trip.sl.v671 trip.sl.r_1 trip.sl.v857 trip.sl.v910 trip.sl.v739 trip.sl.v899 trip.sl.r_15 trip.sl.v633
  all_goals
    try simp (disch := decide) only [readAt_writes_head, readAt_writes_skip, readCov_head, readCov_skip2]
    rfl

end Body

end Cert.FlashIdeal.Val
-- ==== Proof.FlashBody.lean ====
module

public import proofs.«01_k».proof.Proof.FlashTrip

/-! The kernel body at one grid point. -/

@[expose] public section

set_option maxRecDepth 16384

noncomputable section

namespace Cert.FlashIdeal.Val

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A chunk before the first trip: key block 0 is scored, nothing is accumulated, nothing is outstanding. -/
def start (q : Vec F S1x1x256x1024 .bf16) (k : Vec F S1x1x8192x256 .bf16) (j : Fin 4) : Chunk F :=
  { acc := fun _ => Scalar.ofBits .f32 0x00000000#32
    st := scores (kBlock k 0) (qChunk q j)
    cm := scoreMax (kBlock k 0) (qChunk q j)
    p := fun _ => Scalar.ofBits .bf16 0x0000#16
    al := fun _ => Scalar.ofBits .f32 0x3f800000#32
    m := fun _ => Scalar.ofBits .f32 0xff800000#32 }

/-- A chunk after `n` trips. -/
def run (q : Vec F S1x1x256x1024 .bf16) (k : Vec F S1x1x8192x256 .bf16) (v : Vec F S1x1x32x144x256 .bf16) (j : Fin 4) : ℕ → Chunk F
  | 0 => start q k j
  | n + 1 => next q k v j n (run q k v j n)

/-! ## The last blocks -/

/-- The word counting the key blocks that lie wholly below the query tile: `2 * i 2`. -/
abbrev nFull (i : grid0.Coords) : BitVec 32 := Scalar.muli 2#32 (Scalar.muli 1#32 (BitVec.ofNat 32 (i 2).val))

/-- The causal mask on the scores of key block `b` against the 256 queries starting at word `o` of query tile `i 2`. -/
def masked (i : grid0.Coords) (b o : BitVec 32) (st : Vec F S512x256 .f32) : Vec F S512x256 .f32 :=
  select (cmpi .sle (addi (broadcast S512x256 (Scalar.muli b 512#32)) (iota .tc S512x256 32 [0] iota_S512x256_d0_w32))
      (addi (broadcast S512x256 (Scalar.addi (Scalar.muli (BitVec.ofNat 32 (i 2).val) 1024#32) o)) (iota .tc S512x256 32 [1] iota_S512x256_d1_w32)))
    st (broadcast S512x256 (Scalar.ofBits .f32 0xFF800000#32))

/-- Column maxima, as the kernel stores them. -/
def colMax (st : Vec F S512x256 .f32) : Vec F S1x256 .f32 :=
  shapeCast S1x256 (shapeCast S1x256 (multiReduction .maximumf [0] S256 (st : FVec F S512x256 .f32) 0xFF800000#32 reduces_S512x256_S256 (.inl rfl) rfl : FVec F S256 .f32)
    shapeCasts_S256_S1x256 : FVec F S1x256 .f32) shapeCasts_S1x256_S1x256

/-- Scores as the kernel stores them. -/
def stored (st : Vec F S512x256 .f32) : Vec F S512x256 .f32 := shapeCast S512x256 st shapeCasts_S512x256_S512x256

/-- The quotient of the accumulated rows by the weight sum, turned to rows of queries. -/
def quotient (acc : Vec F S144x256 .f32) : Vec F S1x256x128 .bf16 :=
  k0_pay2 (VecWindow.window acc ![0, 0] S128x256.size (by decide)) (VecWindow.window acc ![128, 0] S1x256.size (by decide))

/-- The last two blocks of the first half of a tile's queries: the outstanding block and the masked one. -/
def closeLow (k : Vec F S1x1x8192x256 .bf16) (v : Vec F S1x1x32x144x256 .bf16) (i : grid0.Coords) (o : BitVec 32) (s : Chunk F) : Vec F S144x256 .f32 :=
  let n := (i 2).val
  let st := masked i (nFull i) o s.st
  let m₁ := newMax s.m (colMax st)
  accum (vTile v (4 * n)) (vTile v (4 * n + 1)) (rescale s.m m₁)
    (accum (vTile v (2 * (2 * n - 1))) (vTile v (2 * (2 * n - 1) + 1)) s.al s.acc s.p) (expo (stored st) m₁)

/-- The last three blocks of the second half: the outstanding one, one below the queries, and the masked one. -/
def closeHigh (q : Vec F S1x1x256x1024 .bf16) (k : Vec F S1x1x8192x256 .bf16) (v : Vec F S1x1x32x144x256 .bf16) (i : grid0.Coords) (j : Fin 4)
    (o : BitVec 32) (s : Chunk F) : Vec F S144x256 .f32 :=
  let n := (i 2).val
  let m₁ := newMax s.m s.cm
  let st := masked i (Scalar.addi (nFull i) 1#32) o (k0_pay3 (kBlock k (2 * n + 1)) (qChunk q j))
  let m₂ := newMax m₁ (colMax st)
  accum (vTile v (4 * n + 2)) (vTile v (4 * n + 3)) (rescale m₁ m₂)
    (accum (vTile v (4 * n)) (vTile v (4 * n + 1)) (rescale s.m m₁)
      (accum (vTile v (2 * (2 * n - 1))) (vTile v (2 * (2 * n - 1) + 1)) s.al s.acc s.p) (expo s.st m₁))
    (expo (stored st) m₂)

/-- A chunk's accumulator after the last block. -/
def closed (q : Vec F S1x1x256x1024 .bf16) (k : Vec F S1x1x8192x256 .bf16) (v : Vec F S1x1x32x144x256 .bf16) (i : grid0.Coords) (s : Fin 4 → Chunk F) :
    Fin 4 → Vec F S144x256 .f32
  | 0 => closeLow k v i 0#32 (s 0)
  | 1 => closeLow k v i 256#32 (s 1)
  | 2 => closeHigh q k v i 2 512#32 (s 2)
  | 3 => closeHigh q k v i 3 768#32 (s 3)

theorem readAt_writes_inside {κ : Kind} {sp : Space} {s : Shape} {e : EltTy} (V : View sig κ sp s e) (f : V.ty.Contents (Elt F))
    (off size off' size' : Fin s.rank → ℕ) (inb : ∀ a, off a + size a ≤ s.size a) (inb' : ∀ a, off' a + size' a ≤ s.size a)
    (w : ((a : Fin s.rank) → Fin (size a)) → Elt F e) (L : List (View.Piece (Elt F) s e))
    (h : ∀ a, off a ≤ off' a ∧ off' a + size' a ≤ off a + size a) :
    V.readAt (Elt F) (Rect.unit off' size' inb').toLoadRect (V.writes (Elt F) f (⟨Rect.unit off size inb, w⟩ :: L))
      = VecWindow.window (s := ⟨s.rank, size⟩) w (fun a => off' a - off a) size' (fun a => by have := h a; show off' a - off a + size' a ≤ size a; omega) := by
  rw [View.readAt_unit V _ inb' rfl inb', View.read_writes_cons_put V f inb w L rfl, VecWindow.window_put_of_inside _ _ _ _ _ _ _ h]

theorem window_writes_full {κ : Kind} {sp : Space} {s : Shape} {e : EltTy} (V : View sig κ sp s e) (f : V.ty.Contents (Elt F)) {off₀ : Fin s.rank → ℕ}
    (inb₀ : ∀ a, off₀ a + s.size a ≤ s.size a) (w : s.Idx → Elt F e) (L : List (View.Piece (Elt F) s e))
    (off size : Fin s.rank → ℕ) (inb : ∀ a, off a + size a ≤ s.size a) :
    VecWindow.window (V.read (Elt F) (V.writes (Elt F) f (⟨Rect.unit off₀ s.size inb₀, w⟩ :: L))) off size inb = VecWindow.window w off size inb :=
  congrArg (fun x => VecWindow.window x off size inb) (View.read_writes_full V f inb₀ w L)

theorem columns_inb (j : Fin 4) (r : ℕ) : ∀ a : Fin 2, (![0, 256 * j.val] : Fin 2 → ℕ) a + (![r, 256] : Fin 2 → ℕ) a ≤ (![r, 1024] : Fin 2 → ℕ) a := by
  intro a; have := j.isLt
  fin_cases a <;> simp <;> omega

theorem window_offset {α : Type} {s : Shape} (x : s.Idx → α) {off off' size : Fin s.rank → ℕ} (inb : ∀ a, off a + size a ≤ s.size a) (inb' : ∀ a, off' a + size a ≤ s.size a)
    (h : off = off') : VecWindow.window x off size inb = VecWindow.window x off' size inb' := by
  subst h; rfl

theorem readCov_rows {κ : Kind} {sp : Space} {d : Fin 2 → ℕ} {e : EltTy} (V : View sig κ sp ⟨2, d⟩ e) (o r n : ℕ) (inb : ∀ a, (![0, o] : Fin 2 → ℕ) a + (![144, 256] : Fin 2 → ℕ) a ≤ d a)
    (inb' : ∀ a, (![r, o] : Fin 2 → ℕ) a + (![n, 256] : Fin 2 → ℕ) a ≤ d a) (w : ((a : Fin 2) → Fin ((![144, 256] : Fin 2 → ℕ) a)) → Elt F e)
    (L : List (View.Piece (Elt F) ⟨2, d⟩ e)) (h : ∀ a, (![r, 0] : Fin 2 → ℕ) a + (![n, 256] : Fin 2 → ℕ) a ≤ (![144, 256] : Fin 2 → ℕ) a) :
    V.readCov (⟨Rect.unit (s := ⟨2, d⟩) ![0, o] ![144, 256] inb, w⟩ :: L) (Rect.unit (s := ⟨2, d⟩) ![r, o] ![n, 256] inb').toLoadRect
      = VecWindow.window (s := ⟨2, ![144, 256]⟩) w ![r, 0] ![n, 256] h := by
  have h0 : r + n ≤ 144 := h 0
  refine (readAt_writes_inside (s := ⟨2, d⟩) V V.junk ![0, o] ![144, 256] ![r, o] ![n, 256] inb inb' w L (fun a => by fin_cases a <;> simp <;> omega)).trans ?_
  exact window_offset _ _ _ (funext fun a => by fin_cases a <;> simp)

theorem window_writes_skip3 {κ : Kind} {sp : Space} {d : Fin 3 → ℕ} {e : EltTy} (V : View sig κ sp ⟨3, d⟩ e) (f : V.ty.Contents (Elt F))
    (off size off' size' : Fin 3 → ℕ) (inb : ∀ a, off a + size a ≤ d a) (inb' : ∀ a, off' a + size' a ≤ d a)
    (w : ((a : Fin 3) → Fin (size a)) → Elt F e) (L : List (View.Piece (Elt F) ⟨3, d⟩ e))
    (h : off' 1 + size' 1 ≤ off 1 ∨ off 1 + size 1 ≤ off' 1) :
    VecWindow.window (s := ⟨3, d⟩) (V.read (Elt F) (V.writes (Elt F) f (⟨Rect.unit (s := ⟨3, d⟩) off size inb, w⟩ :: L))) off' size' inb'
      = VecWindow.window (s := ⟨3, d⟩) (V.read (Elt F) (V.writes (Elt F) f L)) off' size' inb' := by
  rw [View.read_writes_cons_put (s := ⟨3, d⟩) V f inb w L rfl, VecWindow.window_put_of_disjoint (s := ⟨3, d⟩) _ _ _ _ _ _ _ 1 h]

theorem off7_word : ∀ (n : Fin 8) (r : Fin 2), (Scalar.indexCast (Scalar.addi (Scalar.muli (Scalar.maxsi (Scalar.subi (Scalar.muli 2#32 (Scalar.muli 1#32 (BitVec.ofNat 32 n.val))) 1#32) 0#32) 2#32)
      (BitVec.ofNat 32 r.val))).toNat = (2 * (2 * n.val - 1) + r.val) % 32 := by
  decide +kernel

theorem off7_closed (i : grid0.Coords) (r : Fin 2) : k0_off7 i (BitVec.ofNat 32 r.val) = ![0, 0, (2 * (2 * (i 2).val - 1) + r.val) % 32, 0, 0] :=
  congrArg (fun n => (![0, 0, n, 0, 0] : Fin 5 → ℕ)) (off7_word (i 2) r)

theorem off8_closed (i : grid0.Coords) (a r : Fin 2) :
    k0_off8 i (BitVec.ofNat 32 a.val) (BitVec.ofNat 32 r.val) = ![0, 0, (4 * (i 2).val + (2 * a.val + r.val)) % 32, 0, 0] := by
  have h : (i 2).val < 8 := (i 2).isLt
  have ha := a.isLt
  have hr := r.isLt
  rw [k0_off8_eq i a r, show (4 * (i 2).val + (2 * a.val + r.val)) % 32 = 4 * (i 2).val + 2 * a.val + r.val by omega]

theorem off9_closed (i : grid0.Coords) : k0_off9 i = ![0, 0, 512 * ((2 * (i 2).val + 1) % 16), 0] := by
  have h : (i 2).val < 8 := (i 2).isLt
  rw [k0_off9_eq i, show 512 * ((2 * (i 2).val + 1) % 16) = 1024 * (i 2).val + 512 by omega]

theorem trips_word : ∀ n : Fin 8, Scf.trips 0#32 (Scalar.addi 0#32 (Scalar.muli (Scalar.divsi (Scalar.subi (Scalar.muli 1#32 (BitVec.ofNat 32 n.val)) 0#32) 1#32) 1#32)) 1#32 = n.val := by
  decide +kernel

theorem trips_eq (i : grid0.Coords) : (k0_t1_loop i).trips = (i 2).val := trips_word (i 2)

section Body

variable (c : Dev nD) (i : grid0.Coords) (arg3 : Memref sig .tc .vmem S1x1x256x1024 .bf16) (harg3 : arg3.IsWhole) (arg4 : Memref sig .tc .vmem S1x1x8192x256 .bf16) (harg4 : arg4.IsWhole) (arg5 : Memref sig .tc .vmem S1x1x32x144x256 .bf16) (harg5 : arg5.IsWhole) (arg6 : Memref sig .tc .vmem S32x4096 .f32) (harg6 : arg6.IsWhole) (arg7 : Memref sig .tc .vmem S16x4096 .f32) (harg7 : arg7.IsWhole) (arg8 : Memref sig .tc .vmem S16x16384 .f32) (harg8 : arg8.IsWhole) (arg9 : Memref sig .tc .vmem S64x4096 .f32) (harg9 : arg9.IsWhole) (arg10 : Memref sig .tc .vmem S1x1024x128 .bf16) (harg10 : arg10.IsWhole) (arg11 : Memref sig .tc .vmem S32x4096 .bf16) (harg11 : arg11.IsWhole) (arg12 : Memref sig .tc .vmem S16x4096 .bf16) (harg12 : arg12.IsWhole) (arg13 : Memref sig .tc .vmem S16x16384 .bf16) (harg13 : arg13.IsWhole) (arg14 : Memref sig .tc .vmem S64x4096 .bf16) (harg14 : arg14.IsWhole) (arg15 : Memref sig .tc .vmem S144x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole)

/-- After the body: the inputs as they came, the output tile and the four cast slabs, the scratch at anything. -/
def finished (f3 : arg3.view.ty.Contents (Elt F)) (f4 : arg4.view.ty.Contents (Elt F)) (f5 : arg5.view.ty.Contents (Elt F))
    (f6 : arg6.view.ty.Contents (Elt F)) (f7 : arg7.view.ty.Contents (Elt F)) (f8 : arg8.view.ty.Contents (Elt F)) (f9 : arg9.view.ty.Contents (Elt F)) : sProp 𝕄 :=
  iprop(held c arg3 f3 ∗ held c arg4 f4 ∗ held c arg5 f5 ∗ held c arg6 f6 ∗ held c arg7 f7 ∗ held c arg8 f8 ∗ held c arg9 f9
    ∗ (∃ f, held c arg10 f ∗ ⌜∀ (j : Fin 4) inb, VecWindow.window (arg10.view.read (Elt F) f) ![0, 256 * j.val, 0] S1x256x128.size inb
        = quotient (closed (arg3.view.read (Elt F) f3) (arg4.view.read (Elt F) f4) (arg5.view.read (Elt F) f5) i
            (fun j => run (arg3.view.read (Elt F) f3) (arg4.view.read (Elt F) f4) (arg5.view.read (Elt F) f5) j (i 2).val) j)⌝)
    ∗ (∃ f, held c arg11 f ∗ ⌜arg11.view.read (Elt F) f = k0_pay153 (arg6.view.read (Elt F) f6)⌝)
    ∗ (∃ f, held c arg12 f ∗ ⌜arg12.view.read (Elt F) f = k0_pay154 (arg7.view.read (Elt F) f7)⌝)
    ∗ (∃ f, held c arg13 f ∗ ⌜arg13.view.read (Elt F) f = k0_pay155 (arg8.view.read (Elt F) f8)⌝)
    ∗ (∃ f, held c arg14 f ∗ ⌜arg14.view.read (Elt F) f = k0_pay156 (arg9.view.read (Elt F) f9)⌝)
    ∗ (∃ f, held c arg15 f) ∗ (∃ f, held c arg16 f) ∗ (∃ f, held c arg17 f) ∗ (∃ f, held c arg18 f) ∗ (∃ f, held c arg19 f)
    ∗ (∃ f, held c arg20 f) ∗ (∃ f, held c arg21 f) ∗ (∃ f, held c arg22 f) ∗ (∃ f, held c arg23 f))

set_option maxHeartbeats 2000000 in
theorem body_run (f3 : arg3.view.ty.Contents (Elt F)) (f4 : arg4.view.ty.Contents (Elt F)) (f5 : arg5.view.ty.Contents (Elt F))
    (f6 : arg6.view.ty.Contents (Elt F)) (f7 : arg7.view.ty.Contents (Elt F)) (f8 : arg8.view.ty.Contents (Elt F)) (f9 : arg9.view.ty.Contents (Elt F))
    (E : Set ℕ) :
    iprop(held c arg3 f3 ∗ held c arg4 f4 ∗ held c arg5 f5 ∗ held c arg6 f6 ∗ held c arg7 f7 ∗ held c arg8 f8 ∗ held c arg9 f9
      ∗ (∃ f, held c arg10 f) ∗ (∃ f, held c arg11 f) ∗ (∃ f, held c arg12 f) ∗ (∃ f, held c arg13 f) ∗ (∃ f, held c arg14 f)
      ∗ (∃ f, held c arg15 f) ∗ (∃ f, held c arg16 f) ∗ (∃ f, held c arg17 f) ∗ (∃ f, held c arg18 f) ∗ (∃ f, held c arg19 f)
      ∗ (∃ f, held c arg20 f) ∗ (∃ f, held c arg21 f) ∗ (∃ f, held c arg22 f) ∗ (∃ f, held c arg23 f))
    ⊢ wp frame (wpE (defs₀ (F := F)) Variants.none c none) E (cc0_mla_flash i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
      (fun _ => finished c i arg3 arg4 arg5 arg6 arg7 arg8 arg9 arg10 arg11 arg12 arg13 arg14 arg15 arg16 arg17 arg18 arg19 arg20 arg21 arg22 arg23 f3 f4 f5 f6 f7 f8 f9) := by
  simp only [cc0_mla_flash_eq_skeleton]
  unfold cc0_mla_flash_skel
  iintro ⟨H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩,
    ⟨%f18, H18⟩, ⟨%f19, H19⟩, ⟨%f20, H20⟩, ⟨%f21, H21⟩, ⟨%f22, H22⟩, ⟨%f23, H23⟩⟩
  sl_exec
  iapply (Scf.wp_for_bind frame (wpE (defs₀ (F := F)) Variants.none c none) E _ _ _ _ _ _ (fun n m => between c arg3 arg4 arg5 arg15 arg16 arg17 arg18 arg19 arg20 arg21 arg22 arg23 f3 f4 f5
    (fun j => run (arg3.view.read (Elt F) f3) (arg4.view.read (Elt F) f4) (arg5.view.read (Elt F) f5) j n) m)
    (fun t m => trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ f3 f4 f5 _ t m E)) $$ [H3 H4 H5 H15 H16 H17 H18 H19 H20 H21 H22 H23]
  · unfold between
    isplitl [H3]
    · iexact H3
    isplitl [H4]
    · iexact H4
    isplitl [H5]
    · iexact H5
    iexists _, _, _, _, _, _, _, _, _
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    ipureintro
    intro j
    refine ⟨fun inb => ?_, fun inb => ?_, fun inb => ?_, fun inb => ?_, fun inb => ?_, ?_⟩
    on_goal 1 => exact window_writes_full _ _ _ _ _ _ _ _
    on_goal 2 => exact window_writes_full _ _ _ _ _ _ _ _
    on_goal 2 => exact window_writes_full _ _ _ _ _ _ _ _
    on_goal 3 => rfl
    all_goals
      fin_cases j
    all_goals
      (repeat refine (window_writes_skip _ _ _ _ _ _ _ _ _ _ (by decide)).trans ?_)
      refine (window_writes_head _ _ _ _ _ _ _ _).trans ?_
    all_goals dsimp only [Nat.reduceMul]
    all_goals dsimp only [run, start]
    all_goals try delta body_run.sl.r
    all_goals try delta body_run.sl.r_1
    all_goals rw [show kBlock (arg4.view.read (Elt F) f4) 0 = arg4.view.readAt (Elt F) (Rect.unit (s := S1x1x8192x256) ![0, 0, 0, 0] S1x1x512x256.size (by decide)).toLoadRect f4 from kBlock_eq _ _ rfl]
    all_goals rfl
  · iintro %m1 HB
    sl_exec
    iapply (Scf.wp_for_bind frame (wpE (defs₀ (F := F)) Variants.none c none) E _ _ _ _ _ _ (fun _ m => between c arg3 arg4 arg5 arg15 arg16 arg17 arg18 arg19 arg20 arg21 arg22 arg23 f3 f4 f5
      (fun j => run (arg3.view.read (Elt F) f3) (arg4.view.read (Elt F) f4) (arg5.view.read (Elt F) f5) j (k0_t1_loop i).trips) m)
      (fun t _ => absurd (Nat.lt_of_lt_of_le t.isLt (k0_t2_abs i).2.1) (Nat.not_lt_zero _))) $$ [HB]
    · iexact HB
    · iintro %m2 HB
      unfold between
      icases HB with ⟨H3, H4, H5, ⟨%g15, %g16, %g17, %g18, %g19, %g20, %g21, %g22, %g23, H15, H16, H17, H18, H19, H20, H21, H22, H23, %hs⟩⟩
      sl_exec
      sl_step
      unfold finished
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexists _
        isplitl [H10]
        · iexact H10
        ipureintro
        intro j inb
        have hk : kBlock (arg4.view.read (Elt F) f4) (2 * (i 2).val + 1)
            = arg4.view.readAt (Elt F) (Rect.unit (s := S1x1x8192x256) (k0_off9 i) S1x1x512x256.size (k0_off9_inb i)).toLoadRect f4 := kBlock_eq _ _ (off9_closed i)
        have hv₀ : vTile (arg5.view.read (Elt F) f5) (2 * (2 * (i 2).val - 1))
            = arg5.view.readAt (Elt F) (Rect.unit (s := S1x1x32x144x256) (k0_off7 i 0#32) S1x1x1x144x256.size (k0_off7_inb i 0)).toLoadRect f5 := vTile_eq _ _ (off7_closed i 0)
        have hv₁ : vTile (arg5.view.read (Elt F) f5) (2 * (2 * (i 2).val - 1) + 1)
            = arg5.view.readAt (Elt F) (Rect.unit (s := S1x1x32x144x256) (k0_off7 i 1#32) S1x1x1x144x256.size (k0_off7_inb i 1)).toLoadRect f5 := vTile_eq _ _ (off7_closed i 1)
        have hv₂ : vTile (arg5.view.read (Elt F) f5) (4 * (i 2).val)
            = arg5.view.readAt (Elt F) (Rect.unit (s := S1x1x32x144x256) (k0_off8 i 0#32 0#32) S1x1x1x144x256.size (k0_off8_inb i 0 0)).toLoadRect f5 := vTile_eq _ _ (off8_closed i 0 0)
        have hv₃ : vTile (arg5.view.read (Elt F) f5) (4 * (i 2).val + 1)
            = arg5.view.readAt (Elt F) (Rect.unit (s := S1x1x32x144x256) (k0_off8 i 0#32 1#32) S1x1x1x144x256.size (k0_off8_inb i 0 1)).toLoadRect f5 := vTile_eq _ _ (off8_closed i 0 1)
        have hv₄ : vTile (arg5.view.read (Elt F) f5) (4 * (i 2).val + 2)
            = arg5.view.readAt (Elt F) (Rect.unit (s := S1x1x32x144x256) (k0_off8 i 1#32 0#32) S1x1x1x144x256.size (k0_off8_inb i 1 0)).toLoadRect f5 := vTile_eq _ _ (off8_closed i 1 0)
        have hv₅ : vTile (arg5.view.read (Elt F) f5) (4 * (i 2).val + 3)
            = arg5.view.readAt (Elt F) (Rect.unit (s := S1x1x32x144x256) (k0_off8 i 1#32 1#32) S1x1x1x144x256.size (k0_off8_inb i 1 1)).toLoadRect f5 := vTile_eq _ _ (off8_closed i 1 1)
        rw [trips_eq i] at hs
        have hacc := fun j => (hs j).acc (columns_inb j 144)
        have hst := fun j => (hs j).st (columns_inb j 512)
        have hp := fun j => (hs j).p (columns_inb j 512)
        have hal := fun j => (hs j).al (columns_inb j 1)
        have hcm := fun j => (hs j).cm (columns_inb j 1)
        have hm := fun j => (hs j).m
        clear hs
        generalize (fun j => run (arg3.view.read (Elt F) f3) (arg4.view.read (Elt F) f4) (arg5.view.read (Elt F) f5) j (i 2).val) = s at hacc hst hp hal hcm hm ⊢
        fin_cases j
        all_goals
          (repeat refine (window_writes_skip3 _ _ _ _ _ _ _ _ _ _ (by decide)).trans ?_)
          refine (window_writes_head _ _ _ _ _ _ _ _).trans ?_
        all_goals simp only [closed, closeLow, closeHigh, ← hacc, ← hst, ← hp, ← hal, ← hcm, ← hm, hk, hv₀, hv₁, hv₂, hv₃, hv₄, hv₅]
        all_goals try dsimp only [Nat.reduceMul]
        all_goals repeat
          delta body_run.sl.H11_1 body_run.sl.H12_1 body_run.sl.H13_1 body_run.sl.H14_1 body_run.sl.H15_10 body_run.sl.H15_1_1 body_run.sl.H15_2 body_run.sl.H15_3 body_run.sl.H15_4 body_run.sl.H15_5 body_run.sl.H15_6 body_run.sl.H15_7 body_run.sl.H15_8 body_run.sl.H15_9 body_run.sl.H16_1 body_run.sl.H16_2 body_run.sl.H17_1 body_run.sl.H17_2 body_run.sl.H18_1 body_run.sl.H18_2 body_run.sl.H18_3 body_run.sl.H18_4 body_run.sl.H19_1_1 body_run.sl.H19_2 body_run.sl.H20_1 body_run.sl.H20_2 body_run.sl.H20_3 body_run.sl.H20_4 body_run.sl.H21_1_1 body_run.sl.H21_2 body_run.sl.H22_1 body_run.sl.H22_2 body_run.sl.H23_1 body_run.sl.H23_2 body_run.sl.r_10 body_run.sl.r_11 body_run.sl.r_12 body_run.sl.r_13 body_run.sl.r_14 body_run.sl.r_15 body_run.sl.r_2 body_run.sl.r_3 body_run.sl.r_4 body_run.sl.r_5 body_run.sl.r_6 body_run.sl.r_7 body_run.sl.r_8 body_run.sl.v0 body_run.sl.v1 body_run.sl.v139 body_run.sl.v141 body_run.sl.v166 body_run.sl.v167 body_run.sl.v170 body_run.sl.v176 body_run.sl.v177 body_run.sl.v185 body_run.sl.v220 body_run.sl.v230 body_run.sl.v232 body_run.sl.v257 body_run.sl.v258 body_run.sl.v261 body_run.sl.v267 body_run.sl.v268 body_run.sl.v276 body_run.sl.v319 body_run.sl.v329 body_run.sl.v331 body_run.sl.v356 body_run.sl.v357 body_run.sl.v360 body_run.sl.v366 body_run.sl.v368 body_run.sl.v393 body_run.sl.v394 body_run.sl.v397 body_run.sl.v403 body_run.sl.v404 body_run.sl.v454 body_run.sl.v455 body_run.sl.v458 body_run.sl.v465 body_run.sl.v467 body_run.sl.v492 body_run.sl.v493 body_run.sl.v496 body_run.sl.v502 body_run.sl.v504 body_run.sl.v529 body_run.sl.v530 body_run.sl.v533 body_run.sl.v539 body_run.sl.v540
        all_goals
          try simp (disch := decide) only [readCov_rows, readAt_writes_head, readAt_writes_skip, readCov_head, readCov_skip2]
          rfl
      isplitl [H11]
      · iexists _
        isplitl [H11]
        · iexact H11
        ipureintro
        delta body_run.sl.H11_1
        exact (View.read_writes_full _ _ _ _ _).trans (congrArg k0_pay153 (View.readAt_full _ _ _))
      isplitl [H12]
      · iexists _
        isplitl [H12]
        · iexact H12
        ipureintro
        delta body_run.sl.H12_1
        exact (View.read_writes_full _ _ _ _ _).trans (congrArg k0_pay154 (View.readAt_full _ _ _))
      isplitl [H13]
      · iexists _
        isplitl [H13]
        · iexact H13
        ipureintro
        delta body_run.sl.H13_1
        exact (View.read_writes_full _ _ _ _ _).trans (congrArg k0_pay155 (View.readAt_full _ _ _))
      isplitl [H14]
      · iexists _
        isplitl [H14]
        · iexact H14
        ipureintro
        delta body_run.sl.H14_1
        exact (View.read_writes_full _ _ _ _ _).trans (congrArg k0_pay156 (View.readAt_full _ _ _))
      isplitl [H15]
      · iexists _; iexact H15
      isplitl [H16]
      · iexists _; iexact H16
      isplitl [H17]
      · iexists _; iexact H17
      isplitl [H18]
      · iexists _; iexact H18
      isplitl [H19]
      · iexists _; iexact H19
      isplitl [H20]
      · iexists _; iexact H20
      isplitl [H21]
      · iexists _; iexact H21
      isplitl [H22]
      · iexists _; iexact H22
      iexists _; iexact H23

end Body

end Cert.FlashIdeal.Val
-- ==== Proof.FlashRun.lean ====
/- The run of the attention kernel: a grid point's body on the pipeline's staging buffers, the whole run with each result
   array block by block, and the frame. The scratch buffers carry nothing from one point to the next. -/
module

public import proofs.«01_k».proof.Proof.FlashBody
public import Idealize.ShloMosaic.Lib.Pointwise.Index
public import Idealize.ShloMosaic.Lib.Claim

@[expose] public section

set_option maxRecDepth 16384

noncomputable section

namespace Cert.FlashIdeal.Val

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The output tile: query row `r` is row `r % 256` of chunk `r / 256`. -/
def tile (q : Vec F S1x1x256x1024 .bf16) (k : Vec F S1x1x8192x256 .bf16) (v : Vec F S1x1x32x144x256 .bf16) (i : grid0.Coords) : Vec F S1x1024x128 .bf16 :=
  fun y => quotient (closed q k v i (fun j => run q k v j (i 2).val) ⟨(y 1).val / 256, by have h : (y 1).val < 1024 := (y 1).isLt; omega⟩)
    (ix3 (0 : Fin 1) (⟨(y 1).val % 256, Nat.mod_lt _ (by omega)⟩ : Fin 256) (y 2 : Fin 128))

/-- An array whose four windows of 256 rows are known is known. -/
theorem eq_of_windows (x : Vec F S1x1024x128 .bf16) (w : Fin 4 → Vec F S1x256x128 .bf16)
    (h : ∀ (j : Fin 4) inb, VecWindow.window x ![0, 256 * j.val, 0] S1x256x128.size inb = w j) (y : S1x1024x128.Idx) :
    x y = w ⟨(y 1).val / 256, by have h : (y 1).val < 1024 := (y 1).isLt; omega⟩ (ix3 (0 : Fin 1) (⟨(y 1).val % 256, Nat.mod_lt _ (by omega)⟩ : Fin 256) (y 2 : Fin 128)) := by
  have hy : (y 1).val < 1024 := (y 1).isLt
  rw [← h _ (by intro a; fin_cases a <;> simp [Shape.size] <;> omega)]
  refine congrArg x (funext fun a => Fin.ext ?_)
  match a with
  | ⟨0, _⟩ => have h0 : (y 0).val < 1 := (y 0).isLt; show (y 0).val = 0 + 1 * 0; omega
  | ⟨1, _⟩ => show (y 1).val = 256 * ((y 1).val / 256) + 1 * ((y 1).val % 256); omega
  | ⟨2, _⟩ => show (y 2).val = 0 + 1 * (y 2).val; omega

/-! ## The scratch -/

abbrev scM0_0 := Memref.whole cc0_scratch0
abbrev scM0_1 := Memref.whole cc0_scratch1
abbrev scM0_2 := Memref.whole cc0_scratch2
abbrev scM0_3 := Memref.whole cc0_scratch3
abbrev scM0_4 := Memref.whole cc0_scratch4
abbrev scM0_5 := Memref.whole cc0_scratch5
abbrev scM0_6 := Memref.whole cc0_scratch6
abbrev scM0_7 := Memref.whole cc0_scratch7
abbrev scM0_8 := Memref.whole cc0_scratch8

theorem PhiA0_eq (c : Dev nD) : (Pipeline.ΦA spec0 c : sProp 𝕄)
    = iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA
  rw [scopedRest0_eq]
  simp only [scM0_0, scM0_1, scM0_2, scM0_3, scM0_4, scM0_5, scM0_6, scM0_7, scM0_8, owns_whole]
  try rfl

section Points

variable (m : (ℓ : Loc nD τ sig) → Buf (Elt F) ℓ) (ρ : Dev nD → PrngReg)

/-- The block of the first result point `t` writes. -/
def outBlk (c : Dev nD) (t : Fin cfg0.N) : Vec F S1x1024x128 .bf16 := tile (iblk m c 0 t) (iblk m c 1 t) (iblk m c 2 t) (grid0.coords t)

/-- Between points the scratch holds anything. -/
def idle (c : Dev nD) : sProp 𝕄 := Pipeline.ΦA spec0 c

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
    | ⟨8, _⟩ => k0_pay153 (iblk m c 3 t)
    | ⟨9, _⟩ => k0_pay154 (iblk m c 4 t)
    | ⟨10, _⟩ => k0_pay155 (iblk m c 5 t)
    | ⟨11, _⟩ => k0_pay156 (iblk m c 6 t)
  Φ _ := idle c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outBlk m c t := by dsimp only [dats]
theorem after8 (c : Dev nD) (t : Fin cfg0.N) : (dats m 0 c).after 8 t = k0_pay153 (iblk m c 3 t) := by dsimp only [dats]
theorem after9 (c : Dev nD) (t : Fin cfg0.N) : (dats m 0 c).after 9 t = k0_pay154 (iblk m c 4 t) := by dsimp only [dats]
theorem after10 (c : Dev nD) (t : Fin cfg0.N) : (dats m 0 c).after 10 t = k0_pay155 (iblk m c 5 t) := by dsimp only [dats]
theorem after11 (c : Dev nD) (t : Fin cfg0.N) : (dats m 0 c).after 11 t = k0_pay156 (iblk m c 6 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

theorem owns_of_held (c : Dev nD) {s : Shape} {e : EltTy} (a : Memref sig .tc .vmem s e) {f : a.view.ty.Contents (Elt F)} {X} (h : a.view.read (Elt F) f = X) :
    (held c a f : sProp 𝕄) ⊢ owns (c : Thread nD τ) a fullShare X := by
  unfold owns
  iintro H
  iexists f
  isplitl []
  · ipureintro; exact h
  iexact H

theorem some_of_held (c : Dev nD) {s : Shape} {e : EltTy} (a : Memref sig .tc .vmem s e) {f : a.view.ty.Contents (Elt F)} :
    (held c a f : sProp 𝕄) ⊢ iprop(∃ d, owns (c : Thread nD τ) a fullShare d) := by
  iintro H
  iexists a.view.read (Elt F) f
  iapply (owns_of_held c a rfl)
  iexact H

/-- What the body starts from and ends with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre
  simp only [before0, before1, before2, before3, before4, before5, before6]
  rw [show (dats m 0 c).Φ t.castSucc = idle c from rfl]
  unfold idle
  rw [PhiA0_eq]
  unfold owns
  iintro ⟨⟨⟨⟨%e0, %g0, -, S0⟩, ⟨%e1, %g1, -, S1⟩, ⟨%e2, %g2, -, S2⟩, ⟨%e3, %g3, -, S3⟩, ⟨%e4, %g4, -, S4⟩, ⟨%e5, %g5, -, S5⟩, ⟨%e6, %g6, -, S6⟩, ⟨%e7, %g7, -, S7⟩, ⟨%e8, %g8, -, S8⟩⟩, Hg⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, -, H7⟩, ⟨%d8, %f8, -, H8⟩, ⟨%d9, %f9, -, H9⟩, ⟨%d10, %f10, -, H10⟩, ⟨%d11, %f11, -, H11⟩⟩
  iapply (wp_wand_r frame (wpE (defs₀ (F := F)) Variants.none c none) Set.univ)
  isplitl [H0 H1 H2 H3 H4 H5 H6 H7 H8 H9 H10 H11 S0 S1 S2 S3 S4 S5 S6 S7 S8]
  · iapply (body_run c (grid0.coords t) _ _ _ _ _ _ _ _ _ _ _ _ _ _ _ _ _ _ _ _ _ _ _ _ _ _ _ _ _ _ _ _ _ _ _ _ _ _ _ _ _ _ f0 f1 f2 f3 f4 f5 f6 Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexists _; iexact S8
  iintro %u
  unfold finished
  iintro ⟨H0, H1, H2, H3, H4, H5, H6, ⟨%f7, H7, %h7⟩, ⟨%f8, H8, %h8⟩, ⟨%f9, H9, %h9⟩, ⟨%f10, H10, %h10⟩, ⟨%f11, H11, %h11⟩, ⟨%g0', S0⟩, ⟨%g1', S1⟩, ⟨%g2', S2⟩, ⟨%g3', S3⟩, ⟨%g4', S4⟩, ⟨%g5', S5⟩, ⟨%g6', S6⟩, ⟨%g7', S7⟩, ⟨%g8', S8⟩⟩
  unfold bodyPost
  rw [show (dats m 0 c).owesAt () t.succ = (dats m 0 c).owesAt () t.castSucc from rfl, after0, after1, after2, after3, after4, after5, after6, after7, after8, after9, after10, after11,
    show (dats m 0 c).Φ t.succ = idle c from rfl]
  unfold idle
  rw [PhiA0_eq]
  rw [h0, h1, h2] at h7
  rw [h3] at h8
  rw [h4] at h9
  rw [h5] at h10
  rw [h6] at h11
  isplitl [Hg S0 S1 S2 S3 S4 S5 S6 S7 S8]
  · isplitl [S0 S1 S2 S3 S4 S5 S6 S7 S8]
    · isplitl [S0]; · iapply (some_of_held c scM0_0); iexact S0
      isplitl [S1]; · iapply (some_of_held c scM0_1); iexact S1
      isplitl [S2]; · iapply (some_of_held c scM0_2); iexact S2
      isplitl [S3]; · iapply (some_of_held c scM0_3); iexact S3
      isplitl [S4]; · iapply (some_of_held c scM0_4); iexact S4
      isplitl [S5]; · iapply (some_of_held c scM0_5); iexact S5
      isplitl [S6]; · iapply (some_of_held c scM0_6); iexact S6
      isplitl [S7]; · iapply (some_of_held c scM0_7); iexact S7
      iapply (some_of_held c scM0_8); iexact S8
    iexact Hg
  isplitl [Ho]; · iexact Ho
  isplitl [H0]; · iapply (owns_of_held c (st0_0 t) (h0)); iexact H0
  isplitl [H1]; · iapply (owns_of_held c (st0_1 t) (h1)); iexact H1
  isplitl [H2]; · iapply (owns_of_held c (st0_2 t) (h2)); iexact H2
  isplitl [H3]; · iapply (owns_of_held c (st0_3 t) (h3)); iexact H3
  isplitl [H4]; · iapply (owns_of_held c (st0_4 t) (h4)); iexact H4
  isplitl [H5]; · iapply (owns_of_held c (st0_5 t) (h5)); iexact H5
  isplitl [H6]; · iapply (owns_of_held c (st0_6 t) (h6)); iexact H6
  isplitl [H7]; · iapply (owns_of_held c (st0_7 t) (funext fun y => eq_of_windows _ _ h7 y)); iexact H7
  isplitl [H8]; · iapply (owns_of_held c (st0_8 t) (h8)); iexact H8
  isplitl [H9]; · iapply (owns_of_held c (st0_9 t) (h9)); iexact H9
  isplitl [H10]; · iapply (owns_of_held c (st0_10 t) (h10)); iexact H10
  iapply (owns_of_held c (st0_11 t) (h11)); iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = idle c from rfl]
  unfold idle
  exact .rfl

theorem hout (c : Dev nD) : (dats m 0 c).Φ (Fin.last cfg0.N) ⊢ Pipeline.ΦA spec0 c := by
  rw [show (dats m 0 c).Φ (Fin.last cfg0.N) = idle c from rfl]
  unfold idle
  exact .rfl

/-! ## The run and the frames -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, leaves the arguments as they were and every semaphore at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (frame_of m ρ (dats m) (A_eq m) (run_main m ρ)) ((θ_run defs _ _).mono (fun _ h => h.2) (run_main_quiescent m ρ))

/-- The result arrays after a run. -/
theorem run_blocks : θ_run defs (onTc (τ := τ) (main (F := F))) ⟨m, fun _ => 0, ρ⟩ fun r => ∀ (c : Dev nD) (w : Fin cfg0.W),
      r.2.mem ((cfg0.win w).arr.view.loc (c : Thread nD τ)) = (dats m 0 c).arrAt w cfg0.N :=
  (θ_run defs _ _).mono (fun _ h c w => (h c).1 w) (run_main m ρ)

end Points

end Cert.FlashIdeal.Val

end
-- ==== Proof.FlashFrame.lean ====
/-
  The frame of the attention kernel at machine floats: the two printed programs are one text, so the run
  proved for any float values is the run of both.
-/
module

public import proofs.«01_k».proof.Proof.FlashRun
public import proofs.«01_k».proof.Proof.Gen.Flash
public import proofs.«01_k».proof.Defs

@[expose] public section

set_option maxRecDepth 65536

noncomputable section

namespace Cert.Flash.Val

open Idealize.ShloMosaic Idealize.ShloMosaic.TcCoe Idealize.SL.Sem

set_option maxHeartbeats 4000000 in
theorem bodies : Cert.Flash.defs₀ (F := Bits) = Cert.FlashIdeal.defs₀ (F := Bits) := by
  unfold Cert.Flash.defs₀ Cert.FlashIdeal.defs₀
  refine congrArg Defs.onTc ?_
  funext l a
  match l, a with
  | ⟨0, _⟩, (t, s) => rfl
  | ⟨_ + 1, h⟩, _ => exact absurd h (Nat.not_lt.2 (Nat.le_add_left _ _))

theorem tables : Cert.Flash.defs (F := Bits) = Cert.FlashIdeal.defs (F := Bits) := by
  unfold Cert.Flash.defs Cert.FlashIdeal.defs
  rw [bodies]
  rfl

set_option maxHeartbeats 4000000 in
theorem frame : Cert.quiescent_Flash := fun m ρ _ => by
  rw [tables]
  exact Cert.FlashIdeal.Val.frame_run (F := Bits) m ρ

end Cert.Flash.Val
-- ==== Proof.FlashMath.lean ====
/-
  Attention's softmax without its kernel: weighted sums over the keys taken one stretch after another under a running
  maximum, and the same sum written plainly. A weighted sum keeps its value under any finite shift of its exponents, which
  is why a change of the maximum is one factor.
-/
module

public import proofs.«01_k».proof.Proof.Algebra
public import Idealize.ShloMosaic.PureOps.Ideal

@[expose] public section

noncomputable section

namespace Cert.Softmax

open Idealize.ShloMosaic

/-- A number that is not infinite. -/
def Fin' (x : EReal) : Prop := ∃ r : ℝ, x = (r : EReal)

theorem Fin'.of_ne {x : EReal} (h1 : x ≠ ⊤) (h2 : x ≠ ⊥) : Fin' x := ⟨x.toReal, (EReal.coe_toReal h1 h2).symm⟩
theorem Fin'.ne_top {x : EReal} (h : Fin' x) : x ≠ ⊤ := by obtain ⟨r, rfl⟩ := h; exact EReal.coe_ne_top r
theorem Fin'.ne_bot {x : EReal} (h : Fin' x) : x ≠ ⊥ := by obtain ⟨r, rfl⟩ := h; exact EReal.coe_ne_bot r
theorem Fin'.mul {x y : EReal} (h : Fin' x) (h' : Fin' y) : Fin' (x * y) := by
  obtain ⟨a, rfl⟩ := h; obtain ⟨b, rfl⟩ := h'; exact ⟨a * b, (EReal.coe_mul a b).symm⟩
theorem Fin'.add {x y : EReal} (h : Fin' x) (h' : Fin' y) : Fin' (x + y) := by
  obtain ⟨a, rfl⟩ := h; obtain ⟨b, rfl⟩ := h'; exact ⟨a + b, (EReal.coe_add a b).symm⟩
theorem Fin'.sum {ι : Type*} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

/-- A maximum with one finite operand and the other not `⊤` is finite. -/
theorem Fin'.max_left {x y : EReal} (h : Fin' x) (h' : y ≠ ⊤) : Fin' (max x y) :=
  .of_ne (by rcases max_choice x y with e | e <;> rw [e]; exacts [h.ne_top, h']) fun e => h.ne_bot (le_bot_iff.1 (e ▸ le_max_left x y))
theorem Fin'.max_right {x y : EReal} (h : x ≠ ⊤) (h' : Fin' y) : Fin' (max x y) := max_comm y x ▸ h'.max_left h

/-- A running maximum from `⊥` over values none of which is `⊤`. -/
theorem fold_ne_top {ι : Type*} (s : Finset ι) (f : ι → EReal) (h : ∀ i, f i ≠ ⊤) : s.fold max ⊥ f ≠ ⊤ :=
  ((Finset.fold_max_lt (b := (⊥ : EReal)) (f := f) (s := s) ⊤).2 ⟨bot_lt_top, fun i _ => lt_top_iff_ne_top.2 (h i)⟩).ne
theorem fold_fin {ι : Type*} (s : Finset ι) (f : ι → EReal) (h : ∀ i, f i ≠ ⊤) (i : ι) (hi : i ∈ s) (hf : Fin' (f i)) : Fin' (s.fold max ⊥ f) :=
  .of_ne (fold_ne_top s f h) fun e => hf.ne_bot (le_bot_iff.1 (e ▸ (Finset.le_fold_max (b := (⊥ : EReal)) (f := f) (s := s) (f i)).2 (.inr ⟨i, hi, le_rfl⟩)))

theorem exp2_nonneg {s a : EReal} (hs : s ≠ ⊤) (ha : Fin' a) : 0 ≤ Ideal.exp2 (s - a) ∧ Ideal.exp2 (s - a) ≠ ⊤ := by
  obtain ⟨a, rfl⟩ := ha
  induction s with
  | top => exact absurd rfl hs
  | bot => rw [EReal.bot_sub, Ideal.exp2_bot]; exact ⟨le_rfl, EReal.zero_ne_top⟩
  | coe s =>
    rw [← EReal.coe_sub, Ideal.exp2_coe]
    exact ⟨by exact_mod_cast Real.rpow_nonneg (by norm_num) _, EReal.coe_ne_top _⟩

theorem exp2_shift {s a b : EReal} (hs : s ≠ ⊤) (ha : Fin' a) (hb : Fin' b) :
    Ideal.exp2 (a - b) * Ideal.exp2 (s - a) = Ideal.exp2 (s - b) := by
  obtain ⟨a, rfl⟩ := ha
  obtain ⟨b, rfl⟩ := hb
  induction s with
  | top => exact absurd rfl hs
  | bot => rw [EReal.bot_sub, EReal.bot_sub, Ideal.exp2_bot, mul_zero]
  | coe s =>
    rw [← EReal.coe_sub, ← EReal.coe_sub, ← EReal.coe_sub, Ideal.exp2_coe, Ideal.exp2_coe, Ideal.exp2_coe, ← EReal.coe_mul]
    congr 1
    show (2 : ℝ) ^ (a - b) * (2 : ℝ) ^ (s - a) = (2 : ℝ) ^ (s - b)
    rw [← Real.rpow_add (by norm_num)]
    congr 1; ring

/-- The first `n` keys' values, each with the weight its score has under the shift `M`. -/
def part (v s : ℕ → EReal) (n : ℕ) (M : EReal) : EReal := ∑ r ∈ Finset.range n, v r * Ideal.exp2 (s r - M)

/-- A change of shift is one factor. -/
theorem part_shift (v s : ℕ → EReal) (n : ℕ) {M M' : EReal} (hs : ∀ r, s r ≠ ⊤) (hM : Fin' M) (hM' : Fin' M') :
    Ideal.exp2 (M - M') * part v s n M = part v s n M' := by
  unfold part
  obtain ⟨h0, ht⟩ := exp2_nonneg hM.ne_top hM'
  rw [Algebra.mul_sum _ _ h0 ht]
  exact Finset.sum_congr rfl fun r _ => by rw [mul_left_comm, exp2_shift (hs r) hM hM']

/-- … also before the first key, when there is no shift yet. -/
theorem part_rescale (v s : ℕ → EReal) (n : ℕ) {M M' : EReal} (hs : ∀ r, s r ≠ ⊤) (hM : Fin' M ∨ n = 0) (hM' : Fin' M') :
    Ideal.exp2 (M - M') * part v s n M = part v s n M' := by
  rcases hM with hM | rfl
  · exact part_shift v s n hs hM hM'
  · simp [part]

/-- One more stretch of keys. -/
theorem part_add (v s : ℕ → EReal) (n k : ℕ) (M : EReal) :
    part v s n M + ∑ r : Fin k, v (n + r.val) * Ideal.exp2 (s (n + r.val) - M) = part v s (n + k) M := by
  unfold part
  rw [Finset.sum_range_add, Finset.sum_range (n := k)]

/-- Only the scores up to `n` matter. -/
theorem part_congr (v s s' : ℕ → EReal) (n : ℕ) (M : EReal) (h : ∀ r < n, s r = s' r) : part v s n M = part v s' n M :=
  Finset.sum_congr rfl fun r hr => by rw [h r (Finset.mem_range.1 hr)]

/-- The scores a query at position `g` sees: those of the keys up to it. -/
def seen (g : ℕ) (s : ℕ → EReal) (r : ℕ) : EReal := if r ≤ g then s r else ⊥

theorem seen_ne_top {g : ℕ} {s : ℕ → EReal} (hs : ∀ r, s r ≠ ⊤) (r : ℕ) : seen g s r ≠ ⊤ := by
  unfold seen
  split
  · exact hs r
  · exact bot_ne_top

/-- Keys that are not seen weigh nothing. -/
theorem part_seen (v s : ℕ → EReal) (g n k : ℕ) {M : EReal} (hM : Fin' M) (hg : g < n) : part v (seen g s) (n + k) M = part v (seen g s) n M := by
  obtain ⟨M, rfl⟩ := hM
  rw [← part_add, Finset.sum_eq_zero, add_zero]
  intro r _
  rw [seen, if_neg (by omega), EReal.bot_sub, Ideal.exp2_bot, mul_zero]

/-- The natural exponential in a base-2 one. -/
theorem exp2_eq (x mx M : ℝ) : (2 : ℝ) ^ (x * (Real.log 2)⁻¹ - M) = Real.exp (mx - M * Real.log 2) * Real.exp (x - mx) := by
  have h2 : Real.log 2 ≠ 0 := (Real.log_pos (by norm_num)).ne'
  rw [← Real.exp_add, Real.rpow_def_of_pos (by norm_num)]
  congr 1
  field_simp
  ring

/-- The plain softmax average: exponentials less the maximum, divided by their sum, times the values. -/
def plain (v s : ℕ → EReal) (n : ℕ) (mx : EReal) : EReal :=
  ∑ r ∈ Finset.range n, Ideal.div (Ideal.exp (s r - mx)) (∑ r' ∈ Finset.range n, Ideal.exp (s r' - mx)) * v r

/-- A quotient of two weighted sums under one shift is the plain softmax average. -/
theorem quotient_eq (v x : ℕ → EReal) (g n : ℕ) {mx M : EReal} (hx : ∀ r, Fin' (x r)) (hmx : Fin' mx) (hM : Fin' M) (hg : g < n) :
    Ideal.div (part v (seen g fun r => x r * (((Real.log 2)⁻¹ : ℝ) : EReal)) n M) (part (fun _ => 1) (seen g fun r => x r * (((Real.log 2)⁻¹ : ℝ) : EReal)) n M)
      = plain v (seen g x) n mx := by
  obtain ⟨mx, rfl⟩ := hmx
  obtain ⟨M, rfl⟩ := hM
  choose y hy using hx
  let e : ℕ → ℝ := fun r => if r ≤ g then Real.exp (y r - mx) else 0
  let C : ℝ := Real.exp (mx - M * Real.log 2)
  have he0 : ∀ r, 0 ≤ e r := fun r => by simp only [e]; split; exacts [(Real.exp_pos _).le, le_rfl]
  have h1 : ∀ r, Ideal.exp (seen g x r - (mx : EReal)) = (e r : EReal) := fun r => by
    simp only [e, seen]
    split
    · rw [hy, ← EReal.coe_sub, Ideal.exp_coe]
    · rw [EReal.bot_sub, Ideal.exp_bot]; rfl
  have h2 : ∀ r, Ideal.exp2 (seen g (fun r => x r * (((Real.log 2)⁻¹ : ℝ) : EReal)) r - (M : EReal)) = (C : EReal) * (e r : EReal) := fun r => by
    simp only [e, seen]
    split
    · rw [hy, ← EReal.coe_mul, ← EReal.coe_sub, Ideal.exp2_coe, ← EReal.coe_mul]
      exact congrArg _ (exp2_eq (y r) mx M)
    · rw [EReal.bot_sub, Ideal.exp2_bot, EReal.coe_zero, mul_zero]
  have hL : ∑ r ∈ Finset.range n, (e r : EReal) = ((∑ r ∈ Finset.range n, e r : ℝ) : EReal) := by
    clear hg
    induction n with
    | zero => simp
    | succ k ih => rw [Finset.sum_range_succ, Finset.sum_range_succ, ih, EReal.coe_add]
  have hLpos : 0 < ∑ r ∈ Finset.range n, e r :=
    lt_of_lt_of_le (by simp only [e, if_pos le_rfl]; exact Real.exp_pos _) (Finset.single_le_sum (fun r _ => he0 r) (Finset.mem_range.2 hg))
  have hC : 0 < C := Real.exp_pos _
  generalize hLd : ∑ r ∈ Finset.range n, e r = L at hL hLpos
  have hC0 : (0 : EReal) ≤ (C : EReal) := by exact_mod_cast hC.le
  have hi0 : (0 : EReal) ≤ ((1 / L : ℝ) : EReal) := by exact_mod_cast (one_div_pos.2 hLpos).le
  unfold plain part
  simp only [h1, h2, one_mul]
  rw [hL, ← Algebra.mul_sum _ _ hC0 (EReal.coe_ne_top _), hL, ← EReal.coe_mul, Ideal.div_coe (mul_pos hC hLpos).ne']
  simp only [Ideal.div_coe hLpos.ne']
  rw [show (∑ r ∈ Finset.range n, v r * ((C : EReal) * (e r : EReal))) = (C : EReal) * ∑ r ∈ Finset.range n, v r * (e r : EReal) from by
    rw [Algebra.mul_sum _ _ hC0 (EReal.coe_ne_top _)]; exact Finset.sum_congr rfl fun r _ => mul_left_comm _ _ _]
  rw [show (∑ r ∈ Finset.range n, (e r : EReal) * ((1 / L : ℝ) : EReal) * v r) = ((1 / L : ℝ) : EReal) * ∑ r ∈ Finset.range n, v r * (e r : EReal) from by
    rw [Algebra.mul_sum _ _ hi0 (EReal.coe_ne_top _)]; exact Finset.sum_congr rfl fun r _ => by rw [mul_comm (e r : EReal) ((1 / L : ℝ) : EReal), mul_assoc, mul_comm (e r : EReal) (v r)]]
  rw [mul_comm (C : EReal), mul_assoc, ← EReal.coe_mul, mul_comm, show C * (1 / (C * L)) = 1 / L from by field_simp]

end Cert.Softmax

end
-- ==== Proof.FlashSlabs.lean ====
/-
  The four weights the attention kernel casts while it works: each grid point casts one slab of rows of each, and the slabs
  make up the whole arrays.
-/
module

public import proofs.«01_k».proof.Proof.FlashRun
public import proofs.«01_k».proof.Proof.FlashMath

@[expose] public section

set_option maxRecDepth 16384

noncomputable section

namespace Cert.FlashIdeal.Val

open Cert.FlashIdeal Cert.FlashIdeal.Gen Idealize.ShloMosaic Idealize.ShloMosaic.TcCoe Idealize.SL.Sem

variable (m : (ℓ : Loc nD τ sig) → Buf (Elt Ideal) ℓ)

/-- Slab `t` of each weight, read and written, is its rows at `t`. -/
theorem idx_slabs : ∀ t : Fin grid0.N,
    ((win0_3.index t 0 = t.val ∧ win0_3.index t 1 = 0) ∧ (win0_8.index t 0 = t.val ∧ win0_8.index t 1 = 0))
    ∧ ((win0_4.index t 0 = t.val ∧ win0_4.index t 1 = 0) ∧ (win0_9.index t 0 = t.val ∧ win0_9.index t 1 = 0))
    ∧ ((win0_5.index t 0 = t.val ∧ win0_5.index t 1 = 0) ∧ (win0_10.index t 0 = t.val ∧ win0_10.index t 1 = 0))
    ∧ ((win0_6.index t 0 = t.val ∧ win0_6.index t 1 = 0) ∧ (win0_11.index t 0 = t.val ∧ win0_11.index t 1 = 0)) := by decide +kernel

theorem two {n0 n1 : ℕ} (i : (⟨2, ![n0, n1]⟩ : Shape).Idx) : i = ix2 (i 0 : Fin n0) (i 1 : Fin n1) := by
  funext a; fin_cases a <;> rfl

/-- The point that handles slab `n`. -/
def slabPoint (n : ℕ) (h : n < 256) : Fin cfg0.N := ⟨n, by show _ < grid0.N; rw [Gen.N_0]; exact h⟩

/-- An index lies in the slab of `R` rows its row number divides to. -/
theorem rows_mem {N C R : ℕ} (hR : 0 < R) (i : (⟨2, ![N, C]⟩ : Shape).Idx) (k : Fin 2 → ℕ) (h0 : k 0 = (i 0).val / R) (h1 : k 1 = 0) :
    ∀ a : Fin 2, k a * (![R, C] : Fin 2 → ℕ) a ≤ (i a).val ∧ (i a).val < k a * (![R, C] : Fin 2 → ℕ) a + (![R, C] : Fin 2 → ℕ) a
  | ⟨0, _⟩ => by
    show k 0 * R ≤ (i 0).val ∧ (i 0).val < k 0 * R + R
    rw [h0]
    exact ⟨Nat.div_mul_le_self _ _, Nat.lt_div_mul_add hR⟩
  | ⟨1, _⟩ => by
    have h : (i 1).val < C := (i 1).isLt
    show k 1 * C ≤ (i 1).val ∧ (i 1).val < k 1 * C + C
    rw [h1]
    omega

/-! ## The first weight -/

abbrev res8 (c : Dev nD) : Buf (Elt Ideal) ((c : Thread nD τ).loc main_v29_1) :=
  fun i => m ((c : Thread nD τ).loc main_arg3) (ix2 (n0 := 9536) (n1 := 4096) ⟨(i 0).val, by have h : (i 0).val < 8192 := (i 0).isLt; omega⟩ (i 1))

theorem read_slab3 (c : Dev nD) (W : (b : Ref sig .tc) → Buf (Elt Ideal) ((c : Thread nD τ).loc b)) (t : Fin cfg0.N) (y : S32x4096.Idx) :
    ((cfg0.win 3).blk t).view.read (Elt Ideal) (W (Pipeline.arrRef spec0 3)) y = W main_arg3 (((cfg0.win 3).blk t).view.emb y) := by
  rw [View.read_apply]
  rfl

theorem slab3 (c : Dev nD) (t : Fin cfg0.N) (y : S32x4096.Idx) :
    iblk m c 3 t y = m ((c : Thread nD τ).loc main_arg3) (((cfg0.win 3).blk t).view.emb y) :=
  (read_slab3 c (V m c) t y).trans (congrFun (V_main_arg3 m c) _)

theorem flushed8 (c : Dev nD) (t : Fin cfg0.N) :
    (dats m 0 c).flushed 8 t = ((cfg0.win 8).blk t).view.read (Elt Ideal) (res8 m c) := by
  obtain ⟨⟨⟨h0, h1⟩, ⟨g0, g1⟩⟩, -⟩ := idx_slabs t
  show (cfg0.win 8).cut (grid0.coords t) ((dats m 0 c).after 8 t) = _
  rw [after8]
  funext j
  obtain ⟨r, s, rfl⟩ : ∃ (r : Fin 32) (s : Fin 4096), j = ix2 r s := ⟨j 0, j 1, two j⟩
  refine Eq.trans (b := iblk m c 3 t (ix2 r s)) rfl ((slab3 m c t _).trans ?_)
  rw [View.read_apply]
  show m ((c : Thread nD τ).loc main_arg3) _ = m ((c : Thread nD τ).loc main_arg3) _
  congr 1
  funext a
  apply Fin.ext
  match a with
  | ⟨0, _⟩ => show win0_3.index t 0 * 32 + 1 * r.val = win0_8.index t 0 * 32 + 1 * r.val; rw [h0, g0]
  | ⟨1, _⟩ => show win0_3.index t 1 * 4096 + 1 * s.val = win0_8.index t 1 * 4096 + 1 * s.val; rw [h1, g1]

theorem cover8 (i : S8192x4096.Idx) : ∃ t : Fin cfg0.N, (cfg0.win 8).flush t = true ∧ i ∈ ((cfg0.win 8).blk t).view.set := by
  have h0 : (i 0).val < 8192 := (i 0).isLt
  let t := slabPoint ((i 0).val / 32) (by omega)
  obtain ⟨⟨-, ⟨g0, g1⟩⟩, -⟩ := idx_slabs t
  refine ⟨t, flush0_8 t, ?_⟩
  show i ∈ ((View.whole main_v29_1).slice (win0_8.rect t)).set
  rw [View.set_slice_whole, Rect.mem_set_unit]
  exact rows_mem (by decide) i _ g0 g1

theorem final8 (c : Dev nD) : (dats m 0 c).arrAt 8 cfg0.N = res8 m c :=
  (dats m 0 c).arrAt_eq_of_cover 8 (res8 m c) (fun t _ => flushed8 m c t) cover8

/-! ## The second weight -/

abbrev res9 (c : Dev nD) : Buf (Elt Ideal) ((c : Thread nD τ).loc main_v29_2) :=
  fun i => m ((c : Thread nD τ).loc main_arg4) (ix2 (n0 := 4096) (n1 := 4096) (i 0) (i 1))

theorem read_slab4 (c : Dev nD) (W : (b : Ref sig .tc) → Buf (Elt Ideal) ((c : Thread nD τ).loc b)) (t : Fin cfg0.N) (y : S16x4096.Idx) :
    ((cfg0.win 4).blk t).view.read (Elt Ideal) (W (Pipeline.arrRef spec0 4)) y = W main_arg4 (((cfg0.win 4).blk t).view.emb y) := by
  rw [View.read_apply]
  rfl

theorem slab4 (c : Dev nD) (t : Fin cfg0.N) (y : S16x4096.Idx) :
    iblk m c 4 t y = m ((c : Thread nD τ).loc main_arg4) (((cfg0.win 4).blk t).view.emb y) :=
  (read_slab4 c (V m c) t y).trans (congrFun (V_main_arg4 m c) _)

theorem flushed9 (c : Dev nD) (t : Fin cfg0.N) :
    (dats m 0 c).flushed 9 t = ((cfg0.win 9).blk t).view.read (Elt Ideal) (res9 m c) := by
  obtain ⟨-, ⟨⟨h0, h1⟩, ⟨g0, g1⟩⟩, -⟩ := idx_slabs t
  show (cfg0.win 9).cut (grid0.coords t) ((dats m 0 c).after 9 t) = _
  rw [after9]
  funext j
  obtain ⟨r, s, rfl⟩ : ∃ (r : Fin 16) (s : Fin 4096), j = ix2 r s := ⟨j 0, j 1, two j⟩
  refine Eq.trans (b := iblk m c 4 t (ix2 r s)) rfl ((slab4 m c t _).trans ?_)
  rw [View.read_apply]
  show m ((c : Thread nD τ).loc main_arg4) _ = m ((c : Thread nD τ).loc main_arg4) _
  congr 1
  funext a
  apply Fin.ext
  match a with
  | ⟨0, _⟩ => show win0_4.index t 0 * 16 + 1 * r.val = win0_9.index t 0 * 16 + 1 * r.val; rw [h0, g0]
  | ⟨1, _⟩ => show win0_4.index t 1 * 4096 + 1 * s.val = win0_9.index t 1 * 4096 + 1 * s.val; rw [h1, g1]

theorem cover9 (i : S4096x4096.Idx) : ∃ t : Fin cfg0.N, (cfg0.win 9).flush t = true ∧ i ∈ ((cfg0.win 9).blk t).view.set := by
  have h0 : (i 0).val < 4096 := (i 0).isLt
  let t := slabPoint ((i 0).val / 16) (by omega)
  obtain ⟨-, ⟨-, ⟨g0, g1⟩⟩, -⟩ := idx_slabs t
  refine ⟨t, flush0_9 t, ?_⟩
  show i ∈ ((View.whole main_v29_2).slice (win0_9.rect t)).set
  rw [View.set_slice_whole, Rect.mem_set_unit]
  exact rows_mem (by decide) i _ g0 g1

theorem final9 (c : Dev nD) : (dats m 0 c).arrAt 9 cfg0.N = res9 m c :=
  (dats m 0 c).arrAt_eq_of_cover 9 (res9 m c) (fun t _ => flushed9 m c t) cover9

/-! ## The third weight -/

abbrev res10 (c : Dev nD) : Buf (Elt Ideal) ((c : Thread nD τ).loc main_v29_3) :=
  fun i => m ((c : Thread nD τ).loc main_arg5) (ix2 (n0 := 4096) (n1 := 16384) (i 0) (i 1))

theorem read_slab5 (c : Dev nD) (W : (b : Ref sig .tc) → Buf (Elt Ideal) ((c : Thread nD τ).loc b)) (t : Fin cfg0.N) (y : S16x16384.Idx) :
    ((cfg0.win 5).blk t).view.read (Elt Ideal) (W (Pipeline.arrRef spec0 5)) y = W main_arg5 (((cfg0.win 5).blk t).view.emb y) := by
  rw [View.read_apply]
  rfl

theorem slab5 (c : Dev nD) (t : Fin cfg0.N) (y : S16x16384.Idx) :
    iblk m c 5 t y = m ((c : Thread nD τ).loc main_arg5) (((cfg0.win 5).blk t).view.emb y) :=
  (read_slab5 c (V m c) t y).trans (congrFun (V_main_arg5 m c) _)

theorem flushed10 (c : Dev nD) (t : Fin cfg0.N) :
    (dats m 0 c).flushed 10 t = ((cfg0.win 10).blk t).view.read (Elt Ideal) (res10 m c) := by
  obtain ⟨-, -, ⟨⟨h0, h1⟩, ⟨g0, g1⟩⟩, -⟩ := idx_slabs t
  show (cfg0.win 10).cut (grid0.coords t) ((dats m 0 c).after 10 t) = _
  rw [after10]
  funext j
  obtain ⟨r, s, rfl⟩ : ∃ (r : Fin 16) (s : Fin 16384), j = ix2 r s := ⟨j 0, j 1, two j⟩
  refine Eq.trans (b := iblk m c 5 t (ix2 r s)) rfl ((slab5 m c t _).trans ?_)
  rw [View.read_apply]
  show m ((c : Thread nD τ).loc main_arg5) _ = m ((c : Thread nD τ).loc main_arg5) _
  congr 1
  funext a
  apply Fin.ext
  match a with
  | ⟨0, _⟩ => show win0_5.index t 0 * 16 + 1 * r.val = win0_10.index t 0 * 16 + 1 * r.val; rw [h0, g0]
  | ⟨1, _⟩ => show win0_5.index t 1 * 16384 + 1 * s.val = win0_10.index t 1 * 16384 + 1 * s.val; rw [h1, g1]

theorem cover10 (i : S4096x16384.Idx) : ∃ t : Fin cfg0.N, (cfg0.win 10).flush t = true ∧ i ∈ ((cfg0.win 10).blk t).view.set := by
  have h0 : (i 0).val < 4096 := (i 0).isLt
  let t := slabPoint ((i 0).val / 16) (by omega)
  obtain ⟨-, -, ⟨-, ⟨g0, g1⟩⟩, -⟩ := idx_slabs t
  refine ⟨t, flush0_10 t, ?_⟩
  show i ∈ ((View.whole main_v29_3).slice (win0_10.rect t)).set
  rw [View.set_slice_whole, Rect.mem_set_unit]
  exact rows_mem (by decide) i _ g0 g1

theorem final10 (c : Dev nD) : (dats m 0 c).arrAt 10 cfg0.N = res10 m c :=
  (dats m 0 c).arrAt_eq_of_cover 10 (res10 m c) (fun t _ => flushed10 m c t) cover10

/-! ## The fourth weight -/

abbrev res11 (c : Dev nD) : Buf (Elt Ideal) ((c : Thread nD τ).loc main_v29_4) :=
  fun i => m ((c : Thread nD τ).loc main_arg6) (ix2 (n0 := 16384) (n1 := 4096) (i 0) (i 1))

theorem read_slab6 (c : Dev nD) (W : (b : Ref sig .tc) → Buf (Elt Ideal) ((c : Thread nD τ).loc b)) (t : Fin cfg0.N) (y : S64x4096.Idx) :
    ((cfg0.win 6).blk t).view.read (Elt Ideal) (W (Pipeline.arrRef spec0 6)) y = W main_arg6 (((cfg0.win 6).blk t).view.emb y) := by
  rw [View.read_apply]
  rfl

theorem slab6 (c : Dev nD) (t : Fin cfg0.N) (y : S64x4096.Idx) :
    iblk m c 6 t y = m ((c : Thread nD τ).loc main_arg6) (((cfg0.win 6).blk t).view.emb y) :=
  (read_slab6 c (V m c) t y).trans (congrFun (V_main_arg6 m c) _)

theorem flushed11 (c : Dev nD) (t : Fin cfg0.N) :
    (dats m 0 c).flushed 11 t = ((cfg0.win 11).blk t).view.read (Elt Ideal) (res11 m c) := by
  obtain ⟨-, -, -, ⟨⟨h0, h1⟩, ⟨g0, g1⟩⟩⟩ := idx_slabs t
  show (cfg0.win 11).cut (grid0.coords t) ((dats m 0 c).after 11 t) = _
  rw [after11]
  funext j
  obtain ⟨r, s, rfl⟩ : ∃ (r : Fin 64) (s : Fin 4096), j = ix2 r s := ⟨j 0, j 1, two j⟩
  refine Eq.trans (b := iblk m c 6 t (ix2 r s)) rfl ((slab6 m c t _).trans ?_)
  rw [View.read_apply]
  show m ((c : Thread nD τ).loc main_arg6) _ = m ((c : Thread nD τ).loc main_arg6) _
  congr 1
  funext a
  apply Fin.ext
  match a with
  | ⟨0, _⟩ => show win0_6.index t 0 * 64 + 1 * r.val = win0_11.index t 0 * 64 + 1 * r.val; rw [h0, g0]
  | ⟨1, _⟩ => show win0_6.index t 1 * 4096 + 1 * s.val = win0_11.index t 1 * 4096 + 1 * s.val; rw [h1, g1]

theorem cover11 (i : S16384x4096.Idx) : ∃ t : Fin cfg0.N, (cfg0.win 11).flush t = true ∧ i ∈ ((cfg0.win 11).blk t).view.set := by
  have h0 : (i 0).val < 16384 := (i 0).isLt
  let t := slabPoint ((i 0).val / 64) (by omega)
  obtain ⟨-, -, -, ⟨-, ⟨g0, g1⟩⟩⟩ := idx_slabs t
  refine ⟨t, flush0_11 t, ?_⟩
  show i ∈ ((View.whole main_v29_4).slice (win0_11.rect t)).set
  rw [View.set_slice_whole, Rect.mem_set_unit]
  exact rows_mem (by decide) i _ g0 g1

theorem final11 (c : Dev nD) : (dats m 0 c).arrAt 11 cfg0.N = res11 m c :=
  (dats m 0 c).arrAt_eq_of_cover 11 (res11 m c) (fun t _ => flushed11 m c t) cover11

end Cert.FlashIdeal.Val
-- ==== Proof.FlashCol.lean ====
/-
  The attention kernel's steps at the extended reals, read at one entry: a score is a product of a key with a query, a
  step of the accumulator adds 512 keys' values with their weights, and the factors are exponentials of differences.
-/
module

public import proofs.«01_k».proof.Proof.FlashBody
public import proofs.«01_k».proof.Proof.FlashMath
public import Idealize.ShloMosaic.Lib.Pointwise
public import Idealize.ShloMosaic.Lib.Pipeline.Value
public import Idealize.ShloMosaic.PureOps.Ideal.Laws

@[expose] public section

set_option maxRecDepth 16384

noncomputable section

namespace Cert.FlashIdeal.Val

open Cert.FlashIdeal Cert.FlashIdeal.Gen Cert.Softmax Idealize.ShloMosaic Idealize.ShloMosaic.TcCoe

variable (q : Vec Ideal S1x1x256x1024 .bf16) (k : Vec Ideal S1x1x8192x256 .bf16) (v : Vec Ideal S1x1x32x144x256 .bf16)

/-- Query `256 j + c` of a tile. -/
def qcol (j : Fin 4) (c : Fin 256) : Fin 1024 := ⟨256 * j.val + c.val, by have := j.isLt; have := c.isLt; omega⟩

/-- The score of key `r` against query `c` of chunk `j`. -/
def keyScore (j : Fin 4) (c : Fin 256) (r : ℕ) : EReal :=
  ∑ e : Fin 256, (show EReal from k (ix4 0 0 (⟨r % 8192, Nat.mod_lt _ (by omega)⟩ : Fin 8192) e)) * (show EReal from q (ix4 0 0 e (qcol j c)))

/-- Row `d` of the values at position `r`. -/
def valueRow (d : Fin 144) (r : ℕ) : EReal :=
  v (ix5 0 0 (⟨r / 256 % 32, Nat.mod_lt _ (by omega)⟩ : Fin 32) d (⟨r % 256, Nat.mod_lt _ (by omega)⟩ : Fin 256))

theorem kBlock_apply (b : ℕ) (r : Fin 512) (e : Fin 256) :
    kBlock k b (ix4 0 0 r e) = k (ix4 0 0 (⟨512 * (b % 16) + r.val, by have := Nat.mod_lt b (show 16 > 0 by omega); have := r.isLt; omega⟩ : Fin 8192) e) := by
  unfold kBlock VecWindow.window
  congr 1
  funext x
  apply Fin.ext
  match x with
  | ⟨0, _⟩ => rfl
  | ⟨1, _⟩ => rfl
  | ⟨2, _⟩ => show 512 * (b % 16) + 1 * r.val = 512 * (b % 16) + r.val; omega
  | ⟨3, _⟩ => show 0 + 1 * e.val = e.val; omega

theorem qChunk_apply (j : Fin 4) (e c : Fin 256) : qChunk q j (ix4 0 0 e c) = q (ix4 0 0 e (qcol j c)) := by
  unfold qChunk VecWindow.window
  congr 1
  funext x
  apply Fin.ext
  match x with
  | ⟨0, _⟩ => rfl
  | ⟨1, _⟩ => rfl
  | ⟨2, _⟩ => show 0 + 1 * e.val = e.val; omega
  | ⟨3, _⟩ => show 256 * j.val + 1 * c.val = 256 * j.val + c.val; omega

theorem vTile_apply (b : ℕ) (d : Fin 144) (r : Fin 256) :
    vTile v b (ix5 0 0 0 d r) = v (ix5 0 0 (⟨b % 32, Nat.mod_lt _ (by omega)⟩ : Fin 32) d r) := by
  unfold vTile VecWindow.window
  congr 1
  funext x
  apply Fin.ext
  match x with
  | ⟨0, _⟩ => rfl
  | ⟨1, _⟩ => rfl
  | ⟨2, _⟩ => show b % 32 + 1 * 0 = b % 32; omega
  | ⟨3, _⟩ => show 0 + 1 * d.val = d.val; omega
  | ⟨4, _⟩ => show 0 + 1 * r.val = r.val; omega

theorem product_apply (b : ℕ) (hb : b < 16) (j : Fin 4) (r : Fin 512) (c : Fin 256) :
    (k0_pay3 (kBlock k b) (qChunk q j) : FVec Ideal S512x256 .f32) (ix2 r c) = keyScore q k j c (512 * b + r.val) := by
  pointwise [k0_pay3]
  unfold keyScore
  refine Finset.sum_congr rfl fun e _ => ?_
  rw [kBlock_apply, qChunk_apply]
  have hr := r.isLt
  rw [show (⟨512 * (b % 16) + r.val, by omega⟩ : Fin 8192) = ⟨(512 * b + r.val) % 8192, Nat.mod_lt _ (by omega)⟩ from Fin.ext (by
    show 512 * (b % 16) + r.val = (512 * b + r.val) % 8192; omega)]

theorem scores_apply (b : ℕ) (hb : b < 16) (j : Fin 4) (r : Fin 512) (c : Fin 256) :
    scores (kBlock k b) (qChunk q j) (ix2 r c) = keyScore q k j c (512 * b + r.val) := by
  rw [← product_apply q k b hb]
  pointwise [scores, k0_pay4]

theorem expo_apply (st : Vec Ideal S512x256 .f32) (m : Vec Ideal S1x256 .f32) (r : Fin 512) (c : Fin 256) :
    expo st m (ix2 r c) = Ideal.exp2 (st (ix2 r c) - m (ix2 0 c)) := by
  unfold expo
  pointwise []
  rfl

theorem stored_apply (st : Vec Ideal S512x256 .f32) (r : Fin 512) (c : Fin 256) : stored st (ix2 r c) = st (ix2 r c) := by
  unfold stored
  pointwise []

theorem rescale_apply (m m' : Vec Ideal S1x256 .f32) (c : Fin 256) : rescale m m' (ix2 0 c) = Ideal.exp2 (m (ix2 0 c) - m' (ix2 0 c)) := by
  unfold rescale
  pointwise []
  rfl

theorem newMax_apply (m cm : Vec Ideal S1x256 .f32) (c : Fin 256) : newMax m cm (ix2 0 c) = max (m (ix2 0 c) : EReal) (cm (ix2 0 c)) := by
  unfold newMax
  pointwise []

theorem bot_bits : Ideal.ofBits FTy.f32 0xFF800000#32 = ⊥ := by simp [Ideal.ofBits, Ideal.ieee]

theorem colMax_apply (st : Vec Ideal S512x256 .f32) (c : Fin 256) :
    colMax st (ix2 0 c) = (Finset.univ : Finset (Fin 512)).fold max ⊥ (fun r => (st (ix2 r c) : EReal)) := by
  unfold colMax
  pointwise []
  rw [bot_bits]

theorem scoreMax_eq (kb : Vec Ideal S1x1x512x256 .bf16) (qc : Vec Ideal S1x1x256x256 .bf16) : scoreMax kb qc = colMax (k0_pay3 kb qc) := rfl

theorem accum_apply (b : ℕ) (hb : b < 16) (al : Vec Ideal S1x256 .f32) (acc : Vec Ideal S144x256 .f32) (p : Vec Ideal S512x256 .bf16) (d : Fin 144) (c : Fin 256) :
    accum (vTile v (2 * b)) (vTile v (2 * b + 1)) al acc p (ix2 d c)
      = (al (ix2 0 c) : EReal) * acc (ix2 d c) + ∑ r : Fin 512, valueRow v d (512 * b + r.val) * (p (ix2 r c) : EReal) := by
  unfold accum
  pointwise [k0_pay7, k0_pay6]
  refine congrArg _ (Eq.trans ?_ (Fin.sum_univ_add (a := 256) (b := 256) fun r : Fin 512 => valueRow v d (512 * b + r.val) * (p (ix2 r c) : EReal)).symm)
  unfold valueRow
  refine congrArg₂ _ (Finset.sum_congr rfl fun x _ => ?_) (Finset.sum_congr rfl fun x _ => ?_)
  · rw [vTile_apply]
    have hx := x.isLt
    refine congrArg₂ _ (congrArg₂ (fun (a : Fin 32) (e : Fin 256) => v (ix5 0 0 a d e)) (Fin.ext ?_) (Fin.ext ?_)) rfl
    · show 2 * b % 32 = (512 * b + x.val) / 256 % 32; omega
    · show x.val = (512 * b + x.val) % 256; omega
  · rw [vTile_apply]
    have hx := x.isLt
    refine congrArg₂ _ (congrArg₂ (fun (a : Fin 32) (e : Fin 256) => v (ix5 0 0 a d e)) (Fin.ext ?_) (Fin.ext ?_)) rfl
    · show (2 * b + 1) % 32 = (512 * b + (256 + x.val)) / 256 % 32; omega
    · show x.val = (512 * b + (256 + x.val)) % 256; omega

theorem quotient_apply (acc : Vec Ideal S144x256 .f32) (c : Fin 256) (d : Fin 128) :
    quotient acc (ix3 0 c d) = Ideal.div (acc (ix2 (⟨d.val, by have := d.isLt; omega⟩ : Fin 144) c)) (acc (ix2 (128 : Fin 144) c)) := by
  unfold quotient
  pointwise [k0_pay2]
  unfold VecWindow.window
  congr 2 <;> funext x <;> apply Fin.ext
  · match x with
    | ⟨0, _⟩ => show 0 + 1 * d.val = d.val; omega
    | ⟨1, _⟩ => show 0 + 1 * c.val = c.val; omega
  · match x with
    | ⟨0, _⟩ => rfl
    | ⟨1, _⟩ => show 0 + 1 * c.val = c.val; omega

/-- Words below 2³¹ compare as their numbers. -/
theorem sle_apply (x y : ℕ) (hx : x < 2 ^ 31) (hy : y < 2 ^ 31) :
    IntOp.cmpi .sle (BitVec.ofNat 32 x) (BitVec.ofNat 32 y) = if x ≤ y then 1#1 else 0#1 := by
  have e : ∀ z : ℕ, z < 2 ^ 31 → (BitVec.ofNat 32 z).toInt = (z : ℤ) := fun z hz => by
    rw [BitVec.toInt_eq_toNat_of_lt (by rw [BitVec.toNat_ofNat]; omega), BitVec.toNat_ofNat]
    omega
  have h : (BitVec.ofNat 32 x).sle (BitVec.ofNat 32 y) = decide (x ≤ y) := by
    rw [BitVec.sle_eq_decide, e x hx, e y hy]
    simp
  show BitVec.ofBool ((BitVec.ofNat 32 x).sle (BitVec.ofNat 32 y)) = _
  rw [h]
  by_cases hxy : x ≤ y <;> simp [hxy]

theorem masked_apply (i : grid0.Coords) (b o : BitVec 32) (st : Vec Ideal S512x256 .f32) (r : Fin 512) (c : Fin 256) (B O : ℕ)
    (hB : b = BitVec.ofNat 32 B) (hO : o = BitVec.ofNat 32 O) (hb : B < 16) (ho : O < 1024) :
    masked i b o st (ix2 r c) = if 512 * B + r.val ≤ 1024 * (i 2).val + O + c.val then (st (ix2 r c) : EReal) else ⊥ := by
  unfold masked
  pointwise []
  rw [bot_bits]
  have hi : (i 2).val < 8 := (i 2).isLt
  have hr := r.isLt
  have hc := c.isLt
  subst hB hO
  rw [show IntOp.addi (Scalar.muli (BitVec.ofNat 32 B) 512#32) (BitVec.ofNat 32 r.val) = BitVec.ofNat 32 (512 * B + r.val) from by
      show BitVec.ofNat 32 B * BitVec.ofNat 32 512 + BitVec.ofNat 32 r.val = _
      rw [← BitVec.ofNat_mul, ← BitVec.ofNat_add, mul_comm],
    show IntOp.addi (Scalar.addi (Scalar.muli (BitVec.ofNat 32 (i 2).val) 1024#32) (BitVec.ofNat 32 O)) (BitVec.ofNat 32 c.val)
        = BitVec.ofNat 32 (1024 * (i 2).val + O + c.val) from by
      show BitVec.ofNat 32 (i 2).val * BitVec.ofNat 32 1024 + BitVec.ofNat 32 O + BitVec.ofNat 32 c.val = _
      rw [← BitVec.ofNat_mul, ← BitVec.ofNat_add, ← BitVec.ofNat_add, mul_comm],
    sle_apply _ _ (by omega) (by omega)]
  split <;> rfl

end Cert.FlashIdeal.Val

end
-- ==== Proof.FlashInv.lean ====
/-
  What the attention kernel's running state means. After `t` trips, folding in the block still outstanding gives the values of
  the first `1024 t` keys, weighted under the running maximum; after the last blocks the accumulator is the weighted sum over
  the keys a query sees, and the tile written is its quotient by the sum of the weights.
-/
module

public import proofs.«01_k».proof.Proof.FlashCol
public import proofs.«01_k».proof.Proof.FlashRun

@[expose] public section

set_option maxRecDepth 16384

noncomputable section

namespace Cert.FlashIdeal.Val

open Cert.FlashIdeal Cert.FlashIdeal.Gen Cert.Softmax Idealize.ShloMosaic Idealize.ShloMosaic.TcCoe

variable (q : Vec Ideal S1x1x256x1024 .bf16) (k : Vec Ideal S1x1x8192x256 .bf16) (v : Vec Ideal S1x1x32x144x256 .bf16)

/-- Fold in block `b` under a new maximum. -/
theorem accum_step (b : ℕ) (hb : b < 16) (j : Fin 4) (c : Fin 256) (d : Fin 144) (S : ℕ → EReal) (m m' : Vec Ideal S1x256 .f32)
    (acc : Vec Ideal S144x256 .f32) (st : Vec Ideal S512x256 .f32) (hS : ∀ r, S r ≠ ⊤) (hm : Fin' (m (ix2 0 c)) ∨ b = 0) (hm' : Fin' (m' (ix2 0 c)))
    (hst : ∀ r : Fin 512, st (ix2 r c) = S (512 * b + r.val)) (hacc : acc (ix2 d c) = part (valueRow v d) S (512 * b) (m (ix2 0 c))) :
    accum (vTile v (2 * b)) (vTile v (2 * b + 1)) (rescale m m') acc (expo st m') (ix2 d c) = part (valueRow v d) S (512 * (b + 1)) (m' (ix2 0 c)) := by
  rw [accum_apply v b hb, rescale_apply, hacc, part_rescale _ _ _ hS (hm.imp id fun h => by rw [h]) hm']
  simp only [expo_apply, hst]
  exact part_add _ _ _ 512 _

/-- What holds of chunk `j` after `t` trips, at query column `c`. -/
structure Good (j : Fin 4) (c : Fin 256) (t : ℕ) (s : Chunk Ideal) : Prop where
  st : ∀ r : Fin 512, s.st (ix2 r c) = keyScore q k j c (512 * (2 * t) + r.val)
  cm : Fin' (s.cm (ix2 0 c))
  m : s.m (ix2 0 c) ≠ (⊤ : EReal) ∧ (Fin' (s.m (ix2 0 c)) ∨ 2 * t = 0)
  acc : ∀ d : Fin 144, accum (vTile v (2 * (2 * t - 1))) (vTile v (2 * (2 * t - 1) + 1)) s.al s.acc s.p (ix2 d c)
    = part (valueRow v d) (keyScore q k j c) (512 * (2 * t)) (s.m (ix2 0 c))

variable (j : Fin 4) (c : Fin 256) (hk : ∀ r, Fin' (keyScore q k j c r))

include hk

theorem scoreMax_fin (b : ℕ) (hb : b < 16) : Fin' (scoreMax (kBlock k b) (qChunk q j) (ix2 0 c)) := by
  rw [scoreMax_eq, colMax_apply]
  refine fold_fin _ _ (fun r => ?_) 0 (Finset.mem_univ _) ?_
  · rw [product_apply q k b hb]; exact (hk _).ne_top
  · rw [product_apply q k b hb]; exact hk _

theorem start_st (r : Fin 512) : (start q k j).st (ix2 r c) = keyScore q k j c (512 * (2 * 0) + r.val) :=
  (scores_apply q k 0 (by omega) j r c).trans (by rw [Nat.mul_zero 2])

omit hk in
theorem start_cm : (start q k j).cm = scoreMax (kBlock k 0) (qChunk q j) := by dsimp only [start]

omit hk in
theorem next_cm (t : ℕ) (s : Chunk Ideal) : (next q k v j t s).cm = scoreMax (kBlock k (2 * t + 2)) (qChunk q j) := by dsimp only [next]

omit hk in
theorem start_m : (start q k j).m (ix2 0 c) = (⊥ : EReal) := bot_bits

omit hk in
theorem start_acc (d : Fin 144) : accum (vTile v (2 * 0)) (vTile v (2 * 0 + 1)) (start q k j).al (start q k j).acc (start q k j).p (ix2 d c) = 0 := by
  have hb : Ideal.ofBits FTy.bf16 0x0000#16 = 0 := by simp [Ideal.ofBits, Ideal.ieee]
  have ha : (start q k j).acc (ix2 d c) = (0 : EReal) := Ideal.ofBits_zero_f32
  have hp : ∀ r : Fin 512, (start q k j).p (ix2 r c) = (0 : EReal) := fun r => hb
  rw [accum_apply v 0 (by omega) _ _ _ d c, ha, mul_zero, zero_add]
  exact Finset.sum_eq_zero fun r _ => by rw [hp, mul_zero]

theorem good_start : Good q k v j c 0 (start q k j) where
  st r := start_st q k j c hk r
  cm := by rw [start_cm]; exact scoreMax_fin q k j c hk 0 (by omega)
  m := ⟨by rw [start_m]; exact bot_ne_top, .inr rfl⟩
  acc d := by
    have e : 2 * (2 * 0 - 1) = 2 * 0 := rfl
    rw [e, start_acc, Nat.mul_zero 2, part, Finset.sum_range_zero]

theorem good_next (t : ℕ) (ht : 2 * t + 2 < 16) (s : Chunk Ideal) (h : Good q k v j c t s) : Good q k v j c (t + 1) (next q k v j t s) := by
  have hS : ∀ r, keyScore q k j c r ≠ ⊤ := fun r => (hk r).ne_top
  have hm1 : Fin' (newMax s.m s.cm (ix2 0 c)) := by rw [newMax_apply]; exact h.cm.max_right h.m.1
  have hm2 : Fin' (newMax (newMax s.m s.cm) (scoreMax (kBlock k (2 * t + 1)) (qChunk q j)) (ix2 0 c)) := by
    rw [newMax_apply]; exact hm1.max_left (scoreMax_fin q k j c hk _ (by omega)).ne_top
  refine ⟨fun r => ?_, by rw [next_cm]; exact scoreMax_fin q k j c hk _ (by omega), ⟨hm2.ne_top, .inl hm2⟩, fun d => ?_⟩
  · refine (scores_apply q k (2 * t + 2) ht j r c).trans ?_
    rw [show 2 * (t + 1) = 2 * t + 2 from by omega]
  · have e1 := accum_step v (2 * t) (by omega) j c d (keyScore q k j c) s.m (newMax s.m s.cm) _ s.st hS h.m.2 hm1 h.st (h.acc d)
    have e2 := accum_step v (2 * t + 1) (by omega) j c d (keyScore q k j c) (newMax s.m s.cm) _ _
      (scores (kBlock k (2 * t + 1)) (qChunk q j)) hS (.inl hm1) hm2 (fun r => scores_apply q k (2 * t + 1) (by omega) j r c) e1
    rw [show 2 * (2 * t) = 4 * t from by omega] at e2
    exact e2

theorem good_run : ∀ t, 2 * t < 16 → Good q k v j c t (run q k v j t)
  | 0, _ => good_start q k v j c hk
  | t + 1, h => good_next q k v j c hk t (by omega) _ (good_run t (by omega))

/-- The first half's last block. -/
theorem closeLow_apply (i : grid0.Coords) (O : ℕ) (o : BitVec 32) (hO : o = BitVec.ofNat 32 O) (ho : O < 512) (s : Chunk Ideal)
    (h : Good q k v j c (i 2).val s) (hj : O = 256 * j.val) :
    ∃ M, Fin' M ∧ ∀ d : Fin 144, closeLow k v i o s (ix2 d c) = part (valueRow v d) (seen (1024 * (i 2).val + 256 * j.val + c.val) (keyScore q k j c)) 8192 M := by
  have hi : (i 2).val < 8 := (i 2).isLt
  have hc := c.isLt
  have hS := seen_ne_top (g := 1024 * (i 2).val + 256 * j.val + c.val) fun r => (hk r).ne_top
  have hn : nFull i = BitVec.ofNat 32 (2 * (i 2).val) := by
    show BitVec.ofNat 32 2 * (BitVec.ofNat 32 1 * BitVec.ofNat 32 (i 2).val) = _
    rw [← BitVec.ofNat_mul, ← BitVec.ofNat_mul, one_mul]
  have hst : ∀ r : Fin 512, (masked i (nFull i) o s.st) (ix2 r c) = seen (1024 * (i 2).val + 256 * j.val + c.val) (keyScore q k j c) (512 * (2 * (i 2).val) + r.val) := fun r => by
    rw [masked_apply i _ o s.st r c (2 * (i 2).val) O hn hO (by omega) (by omega), h.st, ← hj]
    rfl
  have hm1 : Fin' (newMax s.m (colMax (masked i (nFull i) o s.st)) (ix2 0 c)) := by
    rw [newMax_apply, colMax_apply]
    refine Fin'.max_right h.m.1 (fold_fin _ _ (fun r => ?_) 0 (Finset.mem_univ _) ?_)
    · rw [hst]; exact hS _
    · rw [hst, seen, if_pos (by show 512 * (2 * (i 2).val) + 0 ≤ _; omega)]; exact hk _
  refine ⟨_, hm1, fun d => ?_⟩
  have e0 := (h.acc d).trans (part_congr (valueRow v d) _ (seen (1024 * (i 2).val + 256 * j.val + c.val) (keyScore q k j c)) _ _ fun r hr => by
    rw [seen, if_pos (by omega)])
  have e1 := accum_step v (2 * (i 2).val) (by omega) j c d _ s.m (newMax s.m (colMax (masked i (nFull i) o s.st))) _ _ hS h.m.2 hm1 (fun r => (stored_apply _ r c).trans (hst r)) e0
  rw [show 2 * (2 * (i 2).val) = 4 * (i 2).val from by omega] at e1
  have e2 := part_seen (valueRow v d) (keyScore q k j c) (1024 * (i 2).val + 256 * j.val + c.val) (512 * (2 * (i 2).val + 1)) (8192 - 512 * (2 * (i 2).val + 1)) hm1 (by omega)
  rw [show 512 * (2 * (i 2).val + 1) + (8192 - 512 * (2 * (i 2).val + 1)) = 8192 from by omega] at e2
  exact e1.trans e2.symm

set_option maxHeartbeats 400000 in
/-- The second half's last blocks. -/
theorem closeHigh_apply (i : grid0.Coords) (O : ℕ) (o : BitVec 32) (hO : o = BitVec.ofNat 32 O) (ho : O < 1024) (s : Chunk Ideal)
    (h : Good q k v j c (i 2).val s) (hj : O = 256 * j.val) (h2 : 512 ≤ O) :
    ∃ M, Fin' M ∧ ∀ d : Fin 144, closeHigh q k v i j o s (ix2 d c) = part (valueRow v d) (seen (1024 * (i 2).val + 256 * j.val + c.val) (keyScore q k j c)) 8192 M := by
  have hi : (i 2).val < 8 := (i 2).isLt
  have hc := c.isLt
  have hS := seen_ne_top (g := 1024 * (i 2).val + 256 * j.val + c.val) fun r => (hk r).ne_top
  have hn : Scalar.addi (nFull i) 1#32 = BitVec.ofNat 32 (2 * (i 2).val + 1) := by
    show BitVec.ofNat 32 2 * (BitVec.ofNat 32 1 * BitVec.ofNat 32 (i 2).val) + BitVec.ofNat 32 1 = _
    rw [← BitVec.ofNat_mul, ← BitVec.ofNat_mul, ← BitVec.ofNat_add, one_mul]
  have hm1 : Fin' (newMax s.m s.cm (ix2 0 c)) := by rw [newMax_apply]; exact h.cm.max_right h.m.1
  have hst : ∀ r : Fin 512, (masked i (Scalar.addi (nFull i) 1#32) o (k0_pay3 (kBlock k (2 * (i 2).val + 1)) (qChunk q j))) (ix2 r c)
      = seen (1024 * (i 2).val + 256 * j.val + c.val) (keyScore q k j c) (512 * (2 * (i 2).val + 1) + r.val) := fun r => by
    rw [masked_apply i _ o _ r c (2 * (i 2).val + 1) O hn hO (by omega) (by omega), product_apply q k _ (by omega), ← hj]
    rfl
  have hm2 : Fin' (newMax (newMax s.m s.cm) (colMax (masked i (Scalar.addi (nFull i) 1#32) o (k0_pay3 (kBlock k (2 * (i 2).val + 1)) (qChunk q j)))) (ix2 0 c)) := by
    rw [newMax_apply, colMax_apply]
    refine hm1.max_left (fold_ne_top _ _ fun r => ?_)
    rw [hst]; exact hS _
  refine ⟨_, hm2, fun d => ?_⟩
  have hfull : ∀ r < 512 * (2 * (i 2).val + 1), keyScore q k j c r = seen (1024 * (i 2).val + 256 * j.val + c.val) (keyScore q k j c) r := fun r hr => by
    rw [seen, if_pos (by omega)]
  have e0 := accum_step v (2 * (i 2).val) (by omega) j c d _ s.m (newMax s.m s.cm) _ s.st (fun r => (hk r).ne_top) h.m.2 hm1 h.st (h.acc d)
  have e1 := accum_step v (2 * (i 2).val + 1) (by omega) j c d _ (newMax s.m s.cm) _ _ _ hS (.inl hm1) hm2 (fun r => (stored_apply _ r c).trans (hst r)) (e0.trans (part_congr _ _ _ _ _ hfull))
  rw [show 2 * (2 * (i 2).val) = 4 * (i 2).val from by omega, show 2 * (2 * (i 2).val + 1) = 4 * (i 2).val + 2 from by omega] at e1
  have e2 := part_seen (valueRow v d) (keyScore q k j c) (1024 * (i 2).val + 256 * j.val + c.val) (512 * (2 * (i 2).val + 1 + 1)) (8192 - 512 * (2 * (i 2).val + 1 + 1)) hm2 (by have := j.isLt; omega)
  rw [show 512 * (2 * (i 2).val + 1 + 1) + (8192 - 512 * (2 * (i 2).val + 1 + 1)) = 8192 from by omega] at e2
  have e3 := e1.trans e2.symm
  dsimp only [closeHigh]
  exact e3

theorem closed_apply (i : grid0.Coords) :
    ∃ M, Fin' M ∧ ∀ d : Fin 144, closed q k v i (fun j => run q k v j (i 2).val) j (ix2 d c)
      = part (valueRow v d) (seen (1024 * (i 2).val + 256 * j.val + c.val) (keyScore q k j c)) 8192 M := by
  have hi : (i 2).val < 8 := (i 2).isLt
  have h := good_run q k v j c hk (i 2).val (by omega)
  match j with
  | 0 => exact closeLow_apply q k v 0 c hk i 0 _ rfl (by omega) _ h rfl
  | 1 => exact closeLow_apply q k v 1 c hk i 256 _ rfl (by omega) _ h rfl
  | 2 => exact closeHigh_apply q k v 2 c hk i 512 _ rfl (by omega) _ h rfl (by omega)
  | 3 => exact closeHigh_apply q k v 3 c hk i 768 _ rfl (by omega) _ h rfl (by omega)

/-- An entry of the tile written: the quotient of a weighted sum by the sum of its weights. -/
theorem tile_apply (i : grid0.Coords) (d : Fin 128) :
    ∃ M, Fin' M ∧ tile q k v i (ix3 0 (qcol j c) d)
      = Ideal.div (part (valueRow v (⟨d.val, by have := d.isLt; omega⟩ : Fin 144)) (seen (1024 * (i 2).val + 256 * j.val + c.val) (keyScore q k j c)) 8192 M)
          (part (valueRow v (128 : Fin 144)) (seen (1024 * (i 2).val + 256 * j.val + c.val) (keyScore q k j c)) 8192 M) := by
  obtain ⟨M, hM, h⟩ := closed_apply q k v j c hk i
  refine ⟨M, hM, ?_⟩
  have hj := j.isLt
  have hc := c.isLt
  unfold tile
  have e1 : (⟨(qcol j c).val / 256, by have := (qcol j c).isLt; omega⟩ : Fin 4) = j := Fin.ext (by show (256 * j.val + c.val) / 256 = j.val; omega)
  have e2 : (⟨(qcol j c).val % 256, Nat.mod_lt _ (by omega)⟩ : Fin 256) = c := Fin.ext (by show (256 * j.val + c.val) % 256 = c.val; omega)
  refine Eq.trans (congrArg₂ (fun (a : Fin 4) (b : Fin 256) => quotient (closed q k v i (fun j => run q k v j (i 2).val) a) (ix3 0 b d)) e1 e2) ?_
  rw [← h, ← h, quotient_apply]

end Cert.FlashIdeal.Val

end
-- ==== Proof.FlashPad.lean ====
/-
  Causal attention as plain formulas of its arguments, and the padding of a head's 192 columns to 256: it leaves every
  product of a query with a key as it was, since the columns put in hold zeros.
-/
module

public import proofs.«01_k».proof.Proof.FlashMath

@[expose] public section

noncomputable section

namespace Cert.Softmax

open Idealize.ShloMosaic

/-- A head's columns with zeros put in: 32 after the first 160 and 32 at the end. -/
def pad (f : Fin 192 → EReal) (e : Fin 256) : EReal :=
  if h : e.val < 160 then f ⟨e.val, by omega⟩ else if h' : 192 ≤ e.val ∧ e.val < 224 then f ⟨e.val - 32, by omega⟩ else 0

theorem pad_dot (f g : Fin 192 → EReal) : ∑ e, pad f e * pad g e = ∑ d, f d * g d := by
  let P : ℕ → EReal := fun e => if h : e < 256 then pad f ⟨e, h⟩ * pad g ⟨e, h⟩ else 0
  let D : ℕ → EReal := fun d => if h : d < 192 then f ⟨d, h⟩ * g ⟨d, h⟩ else 0
  have hP : ∑ e, pad f e * pad g e = ∑ e ∈ Finset.range (160 + 32 + 32 + 32), P e := by
    rw [Finset.sum_range (n := 256)]
    exact Finset.sum_congr rfl fun e _ => by simp only [P, dif_pos e.isLt]
  have hD : ∑ d, f d * g d = ∑ d ∈ Finset.range (160 + 32), D d := by
    rw [Finset.sum_range (n := 192)]
    exact Finset.sum_congr rfl fun d _ => by simp only [D, dif_pos d.isLt]
  rw [hP, hD, Finset.sum_range_add, Finset.sum_range_add, Finset.sum_range_add, Finset.sum_range_add]
  have h1 : ∑ x ∈ Finset.range 160, P x = ∑ x ∈ Finset.range 160, D x := Finset.sum_congr rfl fun x hx => by
    have hx := Finset.mem_range.1 hx
    simp only [P, D, pad, dif_pos (show x < 256 by omega), dif_pos (show x < 192 by omega), dif_pos hx]
  have h2 : ∑ x ∈ Finset.range 32, P (160 + x) = 0 := Finset.sum_eq_zero fun x hx => by
    have hx := Finset.mem_range.1 hx
    simp only [P, pad, dif_pos (show 160 + x < 256 by omega), dif_neg (show ¬ 160 + x < 160 by omega),
      dif_neg (show ¬ (192 ≤ 160 + x ∧ 160 + x < 224) by omega), mul_zero]
  have h3 : ∑ x ∈ Finset.range 32, P (160 + 32 + x) = ∑ x ∈ Finset.range 32, D (160 + x) := Finset.sum_congr rfl fun x hx => by
    have hx := Finset.mem_range.1 hx
    simp only [P, D, pad, dif_pos (show 160 + 32 + x < 256 by omega), dif_neg (show ¬ 160 + 32 + x < 160 by omega),
      dif_pos (show 192 ≤ 160 + 32 + x ∧ 160 + 32 + x < 224 by omega), dif_pos (show 160 + x < 192 by omega)]
    have e : 160 + 32 + x - 32 = 160 + x := by omega
    simp only [e]
  have h4 : ∑ x ∈ Finset.range 32, P (160 + 32 + 32 + x) = 0 := Finset.sum_eq_zero fun x hx => by
    have hx := Finset.mem_range.1 hx
    simp only [P, pad, dif_pos (show 160 + 32 + 32 + x < 256 by omega), dif_neg (show ¬ 160 + 32 + 32 + x < 160 by omega),
      dif_neg (show ¬ (192 ≤ 160 + 32 + 32 + x ∧ 160 + 32 + 32 + x < 224) by omega), mul_zero]
  rw [h1, h2, h3, h4, add_zero, add_zero]

/-- A constant factor in a product of padded columns comes out of the sum. -/
theorem pad_scaled (f g : Fin 192 → EReal) (s t : ℝ) (hs : 0 ≤ s) (ht : 0 ≤ t) :
    ∑ e, pad g e * (pad f e * ((s * t : ℝ) : EReal)) = ((∑ d, f d * g d) * (s : EReal)) * (t : EReal) := by
  rw [← pad_dot, mul_assoc, ← EReal.coe_mul, mul_comm (∑ e, pad f e * pad g e), Algebra.mul_sum _ _ (by exact_mod_cast mul_nonneg hs ht) (EReal.coe_ne_top _)]
  refine Finset.sum_congr rfl fun e _ => ?_
  rw [← mul_assoc, mul_comm (pad g e), mul_comm _ ((s * t : ℝ) : EReal)]

section Attention

variable (q k : Fin 2 → Fin 8192 → Fin 16 → Fin 192 → EReal) (v : Fin 2 → Fin 8192 → Fin 16 → Fin 128 → EReal)

/-- The score of the query at `t` against the key at `r`. -/
def logit (b : Fin 2) (h : Fin 16) (t : Fin 8192) (r : ℕ) : EReal :=
  (∑ d, q b t h d * k b ⟨r % 8192, Nat.mod_lt _ (by omega)⟩ h d) * (((1 / Real.sqrt 192 : ℝ)) : EReal)

/-- A column of the values. -/
def column (b : Fin 2) (h : Fin 16) (d : Fin 128) (r : ℕ) : EReal := v b ⟨r % 8192, Nat.mod_lt _ (by omega)⟩ h d

/-- The greatest score the query at `t` sees. -/
def top (b : Fin 2) (h : Fin 16) (t : Fin 8192) : EReal :=
  (Finset.univ : Finset (Fin 8192)).fold max ⊥ fun r => seen t.val (logit q k b h t) r.val

/-- Causal attention. -/
def attention (b : Fin 2) (h : Fin 16) (t : Fin 8192) (d : Fin 128) : EReal :=
  plain (column v b h d) (seen t.val (logit q k b h t)) 8192 (top q k b h t)

variable {q k} (hq : ∀ b t h d, Fin' (q b t h d)) (hk : ∀ b t h d, Fin' (k b t h d))
include hq hk

theorem logit_fin (b : Fin 2) (h : Fin 16) (t : Fin 8192) (r : ℕ) : Fin' (logit q k b h t r) :=
  (Fin'.sum _ _ fun d => (hq _ _ _ d).mul (hk _ _ _ d)).mul ⟨_, rfl⟩

theorem top_fin (b : Fin 2) (h : Fin 16) (t : Fin 8192) : Fin' (top q k b h t) :=
  fold_fin _ _ (fun r => seen_ne_top (fun r => (logit_fin hq hk b h t r).ne_top) r.val) (⟨0, by omega⟩ : Fin 8192) (Finset.mem_univ _)
    (by show Fin' (seen t.val _ 0); rw [seen, if_pos (Nat.zero_le _)]; exact logit_fin hq hk b h t 0)

end Attention

end Cert.Softmax
-- ==== Proof.FlashPrep.lean ====
/-
  What the host hands the attention kernel: the queries over `log 2 · √192` and the keys, each head's columns padded, and
  the values with rows of ones; and from them the scores and the values a grid point works with.
-/
module

public import proofs.«01_k».proof.Proof.FlashRun
public import proofs.«01_k».proof.Proof.FlashInv
public import proofs.«01_k».proof.Proof.FlashPad
public import Idealize.ShloMosaic.Lib.StableHlo.RunRead

@[expose] public section

set_option maxRecDepth 16384

noncomputable section

namespace Cert.FlashIdeal.Val

open Cert.FlashIdeal Cert.FlashIdeal.Gen Cert.Softmax Idealize.ShloMosaic Idealize.ShloMosaic.TcCoe Idealize.SL.Sem
open Idealize.ShloMosaic.StableHlo (after)

variable (m : (ℓ : Loc nD τ sig) → Buf (Elt Ideal) ℓ)

/-- The arguments: queries, keys and values by batch, position, head and column. -/
def inQ (c : Dev nD) (b : Fin 2) (t : Fin 8192) (h : Fin 16) (d : Fin 192) : EReal := m ((c : Thread nD τ).loc main_arg0) (ix4 b t h d)
def inK (c : Dev nD) (b : Fin 2) (t : Fin 8192) (h : Fin 16) (d : Fin 192) : EReal := m ((c : Thread nD τ).loc main_arg1) (ix4 b t h d)
def inV (c : Dev nD) (b : Fin 2) (t : Fin 8192) (h : Fin 16) (d : Fin 128) : EReal := m ((c : Thread nD τ).loc main_arg2) (ix4 b t h d)

/-! ## The padding -/

/-- The host's padding of the last axis. -/
def padCols (x : FVec Ideal S2x8192x16x192 .f32) : FVec Ideal S2x8192x16x256 .f32 :=
  concatenate S2x8192x16x256 3 [⟨S2x8192x16x128, extractStridedSlice S2x8192x16x128 ![0, 0, 0, 0] x slices_S2x8192x16x192_S2x8192x16x128_0_0_0_0⟩,
    ⟨S2x8192x16x128, concatenate S2x8192x16x128 3
      [⟨S2x8192x16x32, extractStridedSlice S2x8192x16x32 ![0, 0, 0, 0] (extractStridedSlice S2x8192x16x64 ![0, 0, 0, 128] x slices_S2x8192x16x192_S2x8192x16x64_0_0_0_128) slices_S2x8192x16x64_S2x8192x16x32_0_0_0_0⟩,
       ⟨S2x8192x16x32, broadcastInDim S2x8192x16x32 ![] bcast_S_S2x8192x16x32 (constant S_ .f32 0x00000000#32)⟩,
       ⟨S2x8192x16x32, extractStridedSlice S2x8192x16x32 ![0, 0, 0, 32] (extractStridedSlice S2x8192x16x64 ![0, 0, 0, 128] x slices_S2x8192x16x192_S2x8192x16x64_0_0_0_128) slices_S2x8192x16x64_S2x8192x16x32_0_0_0_32⟩,
       ⟨S2x8192x16x32, broadcastInDim S2x8192x16x32 ![] bcast_S_S2x8192x16x32 (constant S_ .f32 0x00000000#32)⟩]
      concatenates_S2x8192x16x32_S2x8192x16x32_S2x8192x16x32_S2x8192x16x32_S2x8192x16x128_d3⟩] concatenates_S2x8192x16x128_S2x8192x16x128_S2x8192x16x256_d3

theorem padCols_apply (x : FVec Ideal S2x8192x16x192 .f32) (b : Fin 2) (h : Fin 16) (g : Fin 8192) (e : Fin 256) :
    padCols x (ix4 b g h e) = Softmax.pad (fun d => x (ix4 b g h d)) e := by
  have he := e.isLt
  pointwise [padCols]
  unfold Softmax.pad
  by_cases h1 : e.val < 128
  · rw [dif_pos h1, dif_pos (by omega)]
  · rw [dif_neg h1]
    by_cases h2 : e.val < 160
    · rw [dif_pos (by omega), dif_pos h2]
      exact congrArg (fun d => x (ix4 b g h d)) (Fin.ext (show 128 + (e.val - 128) = e.val by omega))
    · rw [dif_neg (by omega), dif_neg h2]
      by_cases h3 : e.val < 192
      · rw [dif_pos (by omega), dif_neg (by omega)]
      · rw [dif_neg (by omega)]
        by_cases h4 : e.val < 224
        · rw [dif_pos (by omega), dif_pos (by omega)]
          exact congrArg (fun d => x (ix4 b g h d)) (Fin.ext (show 128 + (32 + (e.val - 128 - 32 - 32)) = e.val - 32 by omega))
        · rw [dif_neg (by omega), dif_neg (by omega)]

/-- The padded queries over the factor. -/
def hostQ (x : FVec Ideal S2x8192x16x192 .f32) : FVec Ideal S2x16x256x8192 .bf16 :=
  truncf .bf16 (transpose S2x16x256x8192 [0, 2, 3, 1] (Host.divf (padCols x) (broadcastInDim S2x8192x16x256 ![] bcast_S_S2x8192x16x256
    (mulf (Host.log (constant S_ .f32 0x40000000#32)) (Host.sqrt (constant S_ .f32 0x43400000#32))))) transposes_S2x8192x16x256_S2x16x256x8192_0_2_3_1) bitsLt_bf16_f32

/-- The padded keys. -/
def hostK (x : FVec Ideal S2x8192x16x192 .f32) : FVec Ideal S2x16x8192x256 .bf16 :=
  truncf .bf16 (transpose S2x16x8192x256 [0, 2, 1, 3] (padCols x) transposes_S2x8192x16x256_S2x16x8192x256_0_2_1_3) bitsLt_bf16_f32

theorem hostK_apply (x : FVec Ideal S2x8192x16x192 .f32) (b : Fin 2) (h : Fin 16) (g : Fin 8192) (e : Fin 256) :
    hostK x (ix4 b h g e) = Softmax.pad (fun d => x (ix4 b g h d)) e := by
  pointwise [hostK]
  exact padCols_apply x b h g e

theorem hostQ_apply (x : FVec Ideal S2x8192x16x192 .f32) (b : Fin 2) (h : Fin 16) (g : Fin 8192) (e : Fin 256) :
    hostQ x (ix4 b h e g) = Softmax.pad (fun d => x (ix4 b g h d)) e * (((1 / Real.sqrt 192) * (Real.log 2)⁻¹ : ℝ) : EReal) := by
  have e1 : Ideal.ofBits FTy.f32 0x43400000#32 = ((192 : ℝ) : EReal) := by simp [Ideal.ofBits, Ideal.ieee, -EReal.coe_mul]; norm_num
  have e2 : Ideal.ofBits FTy.f32 0x40000000#32 = ((2 : ℝ) : EReal) := by simp [Ideal.ofBits, Ideal.ieee, -EReal.coe_mul]; norm_num
  have h0 : Real.sqrt 192 ≠ 0 := (Real.sqrt_pos.2 (by norm_num)).ne'
  have h2 : Real.log 2 ≠ 0 := (Real.log_pos (by norm_num)).ne'
  pointwise [hostQ]
  rw [padCols_apply]
  rw [e1, e2, Ideal.sqrt_coe, Ideal.log_coe, if_neg (by norm_num), if_neg (by norm_num), ← EReal.coe_mul, Ideal.div_coe (mul_ne_zero h2 h0)]
  congr 2
  field_simp

set_option maxHeartbeats 4000000 in
theorem V_k (c : Dev nD) : V m c main_v22 = hostK (m ((c : Thread nD τ).loc main_arg1)) := by
  unfold V hostK padCols
  after_reads_simp
  all_goals rfl

set_option maxHeartbeats 4000000 in
theorem V_q (c : Dev nD) : V m c main_v13 = hostQ (m ((c : Thread nD τ).loc main_arg0)) := by
  unfold V hostQ padCols
  after_reads_simp
  all_goals rfl

theorem V_v (c : Dev nD) (b : Fin 2) (h : Fin 16) (d : Fin 144) (n : Fin 32) (r : Fin 256) :
    V m c main_v28 (ix5 b h n d r) = if hd : d.val < 128 then inV m c b ⟨n.val * 256 + r.val, by omega⟩ h ⟨d.val, hd⟩ else (1 : EReal) := by
  entry_read
  pointwise
  rfl

end Cert.FlashIdeal.Val
-- ==== Proof.FlashPoint.lean ====
/-
  What a point of the attention kernel's grid reads, and the scores and values it works with: the tile it writes is causal
  attention at its positions.
-/
module

public import proofs.«01_k».proof.Proof.FlashPrep

@[expose] public section

set_option maxRecDepth 16384

noncomputable section

namespace Cert.FlashIdeal.Val

open Cert.FlashIdeal Cert.FlashIdeal.Gen Cert.Softmax Idealize.ShloMosaic Idealize.ShloMosaic.TcCoe Idealize.SL.Sem

variable (m : (ℓ : Loc nD τ sig) → Buf (Elt Ideal) ℓ)

/-! ## The blocks a point reads -/

theorem idx_in : ∀ t : Fin grid0.N,
    (win0_0.index t 0 = t.val / 128 ∧ win0_0.index t 1 = t.val / 8 % 16 ∧ win0_0.index t 2 = 0 ∧ win0_0.index t 3 = t.val % 8)
    ∧ (win0_1.index t 0 = t.val / 128 ∧ win0_1.index t 1 = t.val / 8 % 16 ∧ win0_1.index t 2 = 0 ∧ win0_1.index t 3 = 0)
    ∧ (win0_2.index t 0 = t.val / 128 ∧ win0_2.index t 1 = t.val / 8 % 16 ∧ win0_2.index t 2 = 0 ∧ win0_2.index t 3 = 0 ∧ win0_2.index t 4 = 0)
    ∧ (win0_7.index t 0 = t.val / 128 ∧ win0_7.index t 1 = t.val % 8 ∧ win0_7.index t 2 = t.val / 8 % 16)
    ∧ (grid0.coords t 2).val = t.val % 8 := by decide +kernel

theorem t_lt (t : Fin cfg0.N) : t.val < 256 := lt_of_lt_of_eq t.isLt Gen.N_0

/-- A point's batch and head, and the position of a row of its tile. -/
def bOf (t : Fin cfg0.N) : Fin 2 := ⟨t.val / 128, by have := t_lt t; omega⟩
def hOf (t : Fin cfg0.N) : Fin 16 := ⟨t.val / 8 % 16, Nat.mod_lt _ (by omega)⟩
def pos (t : Fin cfg0.N) (g : Fin 1024) : Fin 8192 := ⟨t.val % 8 * 1024 + g.val, by omega⟩

theorem iblk0_apply (c : Dev nD) (t : Fin cfg0.N) (e : Fin 256) (g : Fin 1024) :
    iblk m c 0 t (ix4 (0 : Fin 1) (0 : Fin 1) e g) = Softmax.pad (inQ m c (bOf t) (pos t g) (hOf t)) e * (((1 / Real.sqrt 192) * (Real.log 2)⁻¹ : ℝ) : EReal) := by
  obtain ⟨⟨e0, e1, e2, e3⟩, -⟩ := idx_in t
  unfold iblk
  rw [View.read_apply]
  refine Eq.trans ?_ ((congrFun (V_q m c) (ix4 (bOf t) (hOf t) e (pos t g))).trans (hostQ_apply _ (bOf t) (hOf t) (pos t g) e))
  show V m c main_v13 _ = V m c main_v13 _
  congr 1
  funext a
  apply Fin.ext
  match a with
  | ⟨0, _⟩ => show win0_0.index t 0 * 1 + 1 * 0 = t.val / 128; rw [e0]; omega
  | ⟨1, _⟩ => show win0_0.index t 1 * 1 + 1 * 0 = t.val / 8 % 16; rw [e1]; omega
  | ⟨2, _⟩ => show win0_0.index t 2 * 256 + 1 * e.val = e.val; rw [e2]; omega
  | ⟨3, _⟩ => show win0_0.index t 3 * 1024 + 1 * g.val = t.val % 8 * 1024 + g.val; rw [e3]; omega

theorem iblk1_apply (c : Dev nD) (t : Fin cfg0.N) (r : Fin 8192) (e : Fin 256) :
    iblk m c 1 t (ix4 (0 : Fin 1) (0 : Fin 1) r e) = Softmax.pad (inK m c (bOf t) r (hOf t)) e := by
  obtain ⟨-, ⟨e0, e1, e2, e3⟩, -⟩ := idx_in t
  unfold iblk
  rw [View.read_apply]
  refine Eq.trans ?_ ((congrFun (V_k m c) (ix4 (bOf t) (hOf t) r e)).trans (hostK_apply _ (bOf t) (hOf t) r e))
  show V m c main_v22 _ = V m c main_v22 _
  congr 1
  funext a
  apply Fin.ext
  match a with
  | ⟨0, _⟩ => show win0_1.index t 0 * 1 + 1 * 0 = t.val / 128; rw [e0]; omega
  | ⟨1, _⟩ => show win0_1.index t 1 * 1 + 1 * 0 = t.val / 8 % 16; rw [e1]; omega
  | ⟨2, _⟩ => show win0_1.index t 2 * 8192 + 1 * r.val = r.val; rw [e2]; omega
  | ⟨3, _⟩ => show win0_1.index t 3 * 256 + 1 * e.val = e.val; rw [e3]; omega

/-- The place of an entry of the values' block. -/
theorem emb2 (t : Fin cfg0.N) (n : Fin 32) (d : Fin 144) (r : Fin 256) :
    ((cfg0.win 2).blk t).view.emb (ix5 (0 : Fin 1) (0 : Fin 1) n d r) = ix5 (bOf t) (hOf t) n d r := by
  obtain ⟨-, -, ⟨e0, e1, e2, e3, e4⟩, -⟩ := idx_in t
  funext a
  apply Fin.ext
  match a with
  | ⟨0, _⟩ => show win0_2.index t 0 * 1 + 1 * 0 = t.val / 128; rw [e0]; omega
  | ⟨1, _⟩ => show win0_2.index t 1 * 1 + 1 * 0 = t.val / 8 % 16; rw [e1]; omega
  | ⟨2, _⟩ => show win0_2.index t 2 * 32 + 1 * n.val = n.val; rw [e2]; omega
  | ⟨3, _⟩ => show win0_2.index t 3 * 144 + 1 * d.val = d.val; rw [e3]; omega
  | ⟨4, _⟩ => show win0_2.index t 4 * 256 + 1 * r.val = r.val; rw [e4]; omega

/-- A block of the values, read at an index, over any contents of the array. -/
theorem read_values (c : Dev nD) (W : (b : Ref sig .tc) → Buf (Elt Ideal) ((c : Thread nD τ).loc b)) (t : Fin cfg0.N) (y : S1x1x32x144x256.Idx) :
    ((cfg0.win 2).blk t).view.read (Elt Ideal) (W (Pipeline.arrRef spec0 2)) y = W main_v28 (((cfg0.win 2).blk t).view.emb y) := by
  rw [View.read_apply]
  rfl

theorem iblk2_read (c : Dev nD) (t : Fin cfg0.N) (y : S1x1x32x144x256.Idx) :
    iblk m c 2 t y = V m c main_v28 (((cfg0.win 2).blk t).view.emb y) := read_values c (V m c) t y

theorem iblk2_apply (c : Dev nD) (t : Fin cfg0.N) (n : Fin 32) (d : Fin 144) (r : Fin 256) :
    iblk m c 2 t (ix5 (0 : Fin 1) (0 : Fin 1) n d r)
      = if hd : d.val < 128 then inV m c (bOf t) ⟨n.val * 256 + r.val, by omega⟩ (hOf t) ⟨d.val, hd⟩ else (1 : EReal) :=
  (iblk2_read m c t _).trans ((congrArg (V m c main_v28) (emb2 t n d r)).trans (V_v m c (bOf t) (hOf t) d n r))

/-! ## A point's scores and values -/

/-- A key's score is the plain one over `log 2`. -/
theorem score_eq (c : Dev nD) (t : Fin cfg0.N) (j : Fin 4) (x : Fin 256) (r : ℕ) :
    keyScore (iblk m c 0 t) (iblk m c 1 t) j x r
      = logit (inQ m c) (inK m c) (bOf t) (hOf t) (pos t (qcol j x)) r * (((Real.log 2)⁻¹ : ℝ) : EReal) := by
  have h2 : 0 ≤ (Real.log 2)⁻¹ := inv_nonneg.2 (Real.log_nonneg (by norm_num))
  have h0 : 0 ≤ 1 / Real.sqrt 192 := by positivity
  unfold keyScore logit
  refine Eq.trans ?_ (pad_scaled (inQ m c (bOf t) (pos t (qcol j x)) (hOf t)) (inK m c (bOf t) ⟨r % 8192, Nat.mod_lt _ (by omega)⟩ (hOf t)) _ _ h0 h2)
  refine Finset.sum_congr rfl fun e _ => ?_
  exact congrArg₂ (fun y z : EReal => y * z) (iblk1_apply m c t _ e) (iblk0_apply m c t e _)

theorem value_eq (c : Dev nD) (t : Fin cfg0.N) (d : Fin 128) :
    valueRow (iblk m c 2 t) (⟨d.val, by omega⟩ : Fin 144) = column (inV m c) (bOf t) (hOf t) d := by
  funext r
  unfold valueRow column
  refine (iblk2_apply m c t _ _ _).trans ((dif_pos d.isLt).trans ?_)
  exact congrArg (fun z => inV m c (bOf t) z (hOf t) d) (Fin.ext (show r / 256 % 32 * 256 + r % 256 = r % 8192 by omega))

theorem one_eq (c : Dev nD) (t : Fin cfg0.N) : valueRow (iblk m c 2 t) (128 : Fin 144) = fun _ => 1 := by
  funext r
  unfold valueRow
  exact (iblk2_apply m c t _ _ _).trans (dif_neg (by decide))

/-- What a point writes is causal attention at the positions of its tile. -/
theorem outBlk_apply (c : Dev nD) (hq : ∀ b t h d, Fin' (inQ m c b t h d)) (hk : ∀ b t h d, Fin' (inK m c b t h d))
    (t : Fin cfg0.N) (g : Fin 1024) (d : Fin 128) :
    outBlk m c t (ix3 (0 : Fin 1) g d) = attention (inQ m c) (inK m c) (inV m c) (bOf t) (hOf t) (pos t g) d := by
  obtain ⟨j, x, rfl⟩ : ∃ (j : Fin 4) (x : Fin 256), g = qcol j x :=
    ⟨⟨g.val / 256, by omega⟩, ⟨g.val % 256, by omega⟩, Fin.ext (show g.val = 256 * (g.val / 256) + g.val % 256 by omega)⟩
  have hs : ∀ r, keyScore (iblk m c 0 t) (iblk m c 1 t) j x r = _ := score_eq m c t j x
  have hl := logit_fin hq hk (bOf t) (hOf t) (pos t (qcol j x))
  obtain ⟨M, hM, e⟩ := tile_apply (iblk m c 0 t) (iblk m c 1 t) (iblk m c 2 t) j x (fun r => by rw [hs r]; exact (hl r).mul ⟨_, rfl⟩) (grid0.coords t) d
  have hp : 1024 * (grid0.coords t 2).val + 256 * j.val + x.val = (pos t (qcol j x)).val := by
    rw [(idx_in t).2.2.2.2]
    show 1024 * (t.val % 8) + 256 * j.val + x.val = t.val % 8 * 1024 + (256 * j.val + x.val)
    omega
  rw [hp, one_eq, value_eq, funext hs] at e
  exact e.trans (quotient_eq _ _ _ _ hl (top_fin hq hk _ _ _) hM (pos t (qcol j x)).isLt)

end Cert.FlashIdeal.Val
-- ==== Proof.FlashRef.lean ====
/-
  The attention reference read at an index: its stages, each over any values of the stage before, and their chain, which is
  causal attention as `FlashPad` writes it.
-/
module

public import proofs.«01_k».proof.Proof.Gen.FlashRefIdeal.Run
public import proofs.«01_k».proof.Proof.FlashPad
public import proofs.«01_k».proof.Proof.FlashCol

@[expose] public section

set_option maxRecDepth 16384

noncomputable section

namespace Cert.FlashRefIdeal.Val

open Cert.FlashRefIdeal Cert.FlashRefIdeal.Gen Cert.FlashRefIdeal.Value Cert.Softmax Idealize.ShloMosaic Idealize.ShloMosaic.TcCoe

/-! ## The stages -/

/-- The scores, over the square root of a head's width. -/
def scores (q k : FVec Ideal S2x8192x16x192 .f32) : FVec Ideal S2x16x8192x8192 .f32 :=
  Host.divf (Host.dotGeneral dot_S2x16x8192x192_S2x16x8192x192_S2x16x8192x8192_3_3_2_2_01_01 none
      (transpose S2x16x8192x192 [0, 2, 1, 3] q transposes_S2x8192x16x192_S2x16x8192x192_0_2_1_3)
      (transpose S2x16x8192x192 [0, 2, 1, 3] k transposes_S2x8192x16x192_S2x16x8192x192_0_2_1_3))
    (broadcastInDim S2x16x8192x8192 ![] bcast_S_S2x16x8192x8192 (Host.sqrt (constant S_ .f32 0x43400000#32)))

/-- Keys after the query masked out. -/
def causal (s : FVec Ideal S2x16x8192x8192 .f32) : FVec Ideal S2x16x8192x8192 .f32 :=
  select (broadcastInDim S2x16x8192x8192 ![2, 3] bcast_S8192x8192_S2x16x8192x8192_2_3
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    s (broadcastInDim S2x16x8192x8192 ![] bcast_S_S2x16x8192x8192 (id (constant S_ .f32 0xFF800000#32)))

/-- A query's greatest score. -/
def most (s : FVec Ideal S2x16x8192x8192 .f32) : FVec Ideal S2x16x8192 .f32 :=
  maximumf (broadcastInDim S2x16x8192 ![] bcast_S_S2x16x8192 (constant S_ .f32 0xFF800000#32))
    (Host.reduce FloatOps.maximumf s (constant S_ .f32 0xFF800000#32) reducesTo_S2x16x8192x8192_S2x16x8192_d3 h_S_)

/-- The exponentials of the scores below it. -/
def expos (s : FVec Ideal S2x16x8192x8192 .f32) (x : FVec Ideal S2x16x8192 .f32) : FVec Ideal S2x16x8192x8192 .f32 :=
  Host.exp (subf s (broadcastInDim S2x16x8192x8192 ![0, 1, 2, 3] bcast_S2x16x8192x1_S2x16x8192x8192_0_1_2_3
    (broadcastInDim S2x16x8192x1 ![0, 1, 2] bcast_S2x16x8192_S2x16x8192x1_0_1_2 x)))

/-- Their sum. -/
def totals (p : FVec Ideal S2x16x8192x8192 .f32) : FVec Ideal S2x16x8192 .f32 :=
  Host.reduceAdd p (constant S_ .f32 0x00000000#32) reducesTo_S2x16x8192x8192_S2x16x8192_d3 h_S_

/-- The values averaged by the exponentials over their sum. -/
def averages (p : FVec Ideal S2x16x8192x8192 .f32) (z : FVec Ideal S2x16x8192 .f32) (v : FVec Ideal S2x8192x16x128 .f32) : FVec Ideal S2x16x8192x128 .f32 :=
  Host.dotGeneral dot_S2x16x8192x8192_S2x16x8192x128_S2x16x8192x128_3_2_2_3_01_01 none
    (Host.divf p (broadcastInDim S2x16x8192x8192 ![0, 1, 2, 3] bcast_S2x16x8192x1_S2x16x8192x8192_0_1_2_3
      (broadcastInDim S2x16x8192x1 ![0, 1, 2] bcast_S2x16x8192_S2x16x8192x1_0_1_2 z)))
    (transpose S2x16x8192x128 [0, 2, 1, 3] v transposes_S2x8192x16x128_S2x16x8192x128_0_2_1_3)

/-- The heads side by side. -/
def heads (y : FVec Ideal S2x16x8192x128 .f32) : FVec Ideal S2x8192x2048 .bf16 :=
  truncf .bf16 (shapeCast _ (transpose S2x8192x16x128 [0, 2, 1, 3] y transposes_S2x16x8192x128_S2x8192x16x128_0_2_1_3) shapeCasts_S2x8192x16x128_S2x8192x2048) bitsLt_bf16_f32

/-- The whole reference. -/
def whole (q k : FVec Ideal S2x8192x16x192 .f32) (v : FVec Ideal S2x8192x16x128 .f32) : FVec Ideal S2x8192x2048 .bf16 :=
  heads (averages (expos (causal (scores q k)) (most (causal (scores q k))))
    (totals (expos (causal (scores q k)) (most (causal (scores q k))))) v)

/-! ## The stages at an index -/

theorem scores_apply (q k : FVec Ideal S2x8192x16x192 .f32) (b : Fin 2) (h : Fin 16) (t r : Fin 8192) :
    scores q k (ix4 b h t r) = (∑ d : Fin 192, (show EReal from q (ix4 b t h d)) * (show EReal from k (ix4 b r h d))) * (((1 / Real.sqrt 192 : ℝ)) : EReal) := by
  have e : Ideal.ofBits FTy.f32 0x43400000#32 = ((192 : ℝ) : EReal) := by simp [Ideal.ofBits, Ideal.ieee, -EReal.coe_mul]; norm_num
  have h0 : Real.sqrt 192 ≠ 0 := (Real.sqrt_pos.2 (by norm_num)).ne'
  pointwise [scores]
  rw [e, Ideal.sqrt_coe, if_neg (by norm_num), Ideal.div_coe h0]

theorem causal_apply (s : FVec Ideal S2x16x8192x8192 .f32) (b : Fin 2) (h : Fin 16) (t r : Fin 8192) :
    causal s (ix4 b h t r) = if r.val ≤ t.val then (s (ix4 b h t r) : EReal) else ⊥ := by
  pointwise [causal]
  rw [Cert.FlashIdeal.Val.sle_apply _ _ (by omega) (by omega)]
  by_cases h0 : r.val ≤ t.val
  · rw [if_pos h0, if_pos h0]
    rfl
  · rw [if_neg h0, if_neg h0]
    exact Cert.FlashIdeal.Val.bot_bits

/-- A maximum over the last of four axes, of any lengths. -/
theorem reduce_max {n0 n1 n2 n3 : ℕ} (x : FVec Ideal (⟨4, ![n0, n1, n2, n3]⟩ : Shape) .f32) (z : FVec Ideal (⟨0, ![]⟩ : Shape) .f32)
    (hr : (⟨4, ![n0, n1, n2, n3]⟩ : Shape).ReducesTo [3] (⟨3, ![n0, n1, n2]⟩ : Shape)) (hu : 0 < (⟨0, ![]⟩ : Shape).numel) (a : Fin n0) (b : Fin n1) (d : Fin n2) :
    Host.reduce FloatOps.maximumf x z hr hu (ix3 a b d)
      = (Finset.univ : Finset (Fin n3)).fold max (show EReal from z (Shape.Idx.first hu)) fun k => (x (ix4 a b d k) : EReal) := by
  pointwise []

/-- A maximum with `⊥` everywhere. -/
theorem max_bot (y : FVec Ideal S2x16x8192 .f32) (i : S2x16x8192.Idx) :
    maximumf (broadcastInDim S2x16x8192 ![] bcast_S_S2x16x8192 (constant S_ .f32 0xFF800000#32)) y i = y i := by
  pointwise []
  rw [Cert.FlashIdeal.Val.bot_bits, max_eq_right bot_le]

theorem most_apply (s : FVec Ideal S2x16x8192x8192 .f32) (b : Fin 2) (h : Fin 16) (t : Fin 8192) :
    most s (ix3 b h t) = (Finset.univ : Finset (Fin 8192)).fold max ⊥ fun r => (s (ix4 b h t r) : EReal) := by
  unfold most
  rw [max_bot, reduce_max]
  exact congrArg (fun z : EReal => (Finset.univ : Finset (Fin 8192)).fold max z fun r => (s (ix4 b h t r) : EReal)) Cert.FlashIdeal.Val.bot_bits

theorem expos_apply (s : FVec Ideal S2x16x8192x8192 .f32) (x : FVec Ideal S2x16x8192 .f32) (b : Fin 2) (h : Fin 16) (t r : Fin 8192) :
    expos s x (ix4 b h t r) = Ideal.exp ((show EReal from s (ix4 b h t r)) - (show EReal from x (ix3 b h t))) := by
  pointwise [expos]

theorem totals_apply (p : FVec Ideal S2x16x8192x8192 .f32) (b : Fin 2) (h : Fin 16) (t : Fin 8192) :
    totals p (ix3 b h t) = ∑ r : Fin 8192, (show EReal from p (ix4 b h t r)) := by
  pointwise [totals]

theorem averages_apply (p : FVec Ideal S2x16x8192x8192 .f32) (z : FVec Ideal S2x16x8192 .f32) (v : FVec Ideal S2x8192x16x128 .f32)
    (b : Fin 2) (h : Fin 16) (t : Fin 8192) (d : Fin 128) :
    averages p z v (ix4 b h t d)
      = ∑ r : Fin 8192, Ideal.div (show EReal from p (ix4 b h t r)) (show EReal from z (ix3 b h t)) * (show EReal from v (ix4 b r h d)) := by
  pointwise [averages]

theorem heads_apply (y : FVec Ideal S2x16x8192x128 .f32) (b : Fin 2) (t : Fin 8192) (x : Fin 2048) :
    heads y (ix3 b t x) = y (ix4 b (⟨x.val / 128, by omega⟩ : Fin 16) t (⟨x.val % 128, by omega⟩ : Fin 128)) := by
  pointwise [heads]

end Cert.FlashRefIdeal.Val
-- ==== Proof.FlashChain.lean ====
/-
  The chain of the attention reference's stages: causal attention.
-/
module

public import proofs.«01_k».proof.Proof.Gen.FlashRefIdeal.Run
public import proofs.«01_k».proof.Proof.FlashRef

@[expose] public section

set_option maxRecDepth 16384

noncomputable section

namespace Cert.FlashRefIdeal.Val

open Cert.FlashRefIdeal Cert.FlashRefIdeal.Gen Cert.FlashRefIdeal.Value Cert.Softmax Idealize.ShloMosaic Idealize.ShloMosaic.TcCoe

/-! ## Their chain -/

section Chain

variable (q k : FVec Ideal S2x8192x16x192 .f32) (v : FVec Ideal S2x8192x16x128 .f32) (b : Fin 2) (h : Fin 16) (t : Fin 8192)

/-- An argument by its four indices. -/
def four {n3 : ℕ} (x : FVec Ideal (⟨4, ![2, 8192, 16, n3]⟩ : Shape) .f32) (b : Fin 2) (t : Fin 8192) (h : Fin 16) (d : Fin n3) : EReal := x (ix4 b t h d)

theorem scored (r : Fin 8192) : causal (scores q k) (ix4 b h t r) = seen t.val (logit (four q) (four k) b h t) r.val := by
  rw [causal_apply, scores_apply]
  have e : (⟨r.val % 8192, Nat.mod_lt _ (by omega)⟩ : Fin 8192) = r := Fin.ext (Nat.mod_eq_of_lt r.isLt)
  unfold seen logit four
  rw [e]

theorem most_eq : most (causal (scores q k)) (ix3 b h t) = top (four q) (four k) b h t := by
  rw [most_apply]
  simp only [scored]
  rfl

theorem expos_eq (r : Fin 8192) : expos (causal (scores q k)) (most (causal (scores q k))) (ix4 b h t r)
    = Ideal.exp (seen t.val (logit (four q) (four k) b h t) r.val - top (four q) (four k) b h t) := by
  rw [expos_apply, scored, most_eq]

theorem totals_eq : totals (expos (causal (scores q k)) (most (causal (scores q k)))) (ix3 b h t)
    = ∑ r ∈ Finset.range 8192, Ideal.exp (seen t.val (logit (four q) (four k) b h t) r - top (four q) (four k) b h t) := by
  rw [totals_apply, Finset.sum_range]
  exact Finset.sum_congr rfl fun r _ => expos_eq q k b h t r

theorem column_eq (h : Fin 16) (d : Fin 128) (r : Fin 8192) : column (four v) b h d r.val = v (ix4 b r h d) := by
  have e : (⟨r.val % 8192, Nat.mod_lt _ (by omega)⟩ : Fin 8192) = r := Fin.ext (Nat.mod_eq_of_lt r.isLt)
  show four v b (⟨r.val % 8192, Nat.mod_lt _ (by omega)⟩ : Fin 8192) h d = _
  rw [e]
  rfl

theorem averages_eq (h : Fin 16) (t : Fin 8192) (d : Fin 128) :
    averages (expos (causal (scores q k)) (most (causal (scores q k)))) (totals (expos (causal (scores q k)) (most (causal (scores q k))))) v (ix4 b h t d)
      = attention (four q) (four k) (four v) b h t d := by
  rw [averages_apply, totals_eq]
  refine Eq.trans ?_ (Finset.sum_range _).symm
  refine Finset.sum_congr rfl fun r _ => ?_
  rw [expos_eq, column_eq]

/-- The reference is causal attention. -/
theorem whole_apply (x : Fin 2048) : whole q k v (ix3 b t x)
    = attention (four q) (four k) (four v) b (⟨x.val / 128, by omega⟩ : Fin 16) t (⟨x.val % 128, by omega⟩ : Fin 128) :=
  (heads_apply _ b t x).trans (averages_eq q k v b _ t _)

end Chain

/-- The reference's first result is the whole chain at its arguments. -/
theorem whole_eq (m : (ℓ : Loc nD τ sig) → Buf (Elt Ideal) ℓ) (c : Dev nD) :
    res_main_v28 m c = whole (m ((c.tc : Thread nD τ).loc main_arg0)) (m ((c.tc : Thread nD τ).loc main_arg1)) (m ((c.tc : Thread nD τ).loc main_arg2)) := by
  unfold res_main_v28 whole heads averages totals expos most causal scores
  rfl

end Cert.FlashRefIdeal.Val
-- ==== Proof.FlashValue.lean ====
/-
  The attention call's value: at finite queries and keys the kernel's first result is causal attention and so is the
  reference's; the four others are the weights cast.
-/
module

public import proofs.«01_k».proof.Proof.FlashSlabs
public import proofs.«01_k».proof.Proof.FlashPoint
public import proofs.«01_k».proof.Proof.FlashChain
public import proofs.«01_k».proof.Proof.Gen.Pre_qk_finite
public import proofs.«01_k».proof.Defs

@[expose] public section

set_option maxRecDepth 16384

noncomputable section

namespace Cert.FlashIdeal.Val

open Cert.FlashIdeal Cert.FlashIdeal.Gen Cert.Softmax Idealize.ShloMosaic Idealize.ShloMosaic.TcCoe Idealize.SL.Sem

variable (m : (ℓ : Loc nD τ sig) → Buf (Elt Ideal) ℓ)

/-! ## The first result array -/

/-- Causal attention, the heads side by side. -/
abbrev res7 (c : Dev nD) : Buf (Elt Ideal) ((c : Thread nD τ).loc main_v29_0) := fun i =>
  attention (inQ m c) (inK m c) (inV m c) (i 0 : Fin 2) (⟨(i 2).val / 128, by have h : (i 2).val < 2048 := (i 2).isLt; omega⟩ : Fin 16)
    (i 1 : Fin 8192) (⟨(i 2).val % 128, Nat.mod_lt _ (by omega)⟩ : Fin 128)

theorem attention_congr (q k : Fin 2 → Fin 8192 → Fin 16 → Fin 192 → EReal) (v : Fin 2 → Fin 8192 → Fin 16 → Fin 128 → EReal)
    {b b' : Fin 2} {h h' : Fin 16} {t t' : Fin 8192} {d d' : Fin 128} (eb : b.val = b'.val) (eh : h.val = h'.val) (et : t.val = t'.val)
    (ed : d.val = d'.val) : attention q k v b h t d = attention q k v b' h' t' d' := by
  rw [Fin.ext eb, Fin.ext eh, Fin.ext et, Fin.ext ed]

/-- A grid point writes its tile of it. -/
theorem flushed7 (c : Dev nD) (hq : ∀ b t h d, Fin' (inQ m c b t h d)) (hk : ∀ b t h d, Fin' (inK m c b t h d)) (t : Fin cfg0.N) :
    (dats m 0 c).flushed 7 t = ((cfg0.win 7).blk t).view.read (Elt Ideal) (res7 m c) := by
  obtain ⟨-, -, -, ⟨g0, g1, g2⟩, -⟩ := idx_in t
  show (cfg0.win 7).cut (grid0.coords t) ((dats m 0 c).after 7 t) = _
  rw [after7]
  funext j
  obtain ⟨g, d, rfl⟩ : ∃ (g : Fin 1024) (d : Fin 128), j = ix3 (0 : Fin 1) g d :=
    ⟨j 1, j 2, by funext a; fin_cases a <;> first | rfl | exact Fin.ext (Nat.lt_one_iff.mp (j 0).isLt)⟩
  refine Eq.trans (b := outBlk m c t (ix3 (0 : Fin 1) g d)) rfl ((outBlk_apply m c hq hk t g d).trans ?_)
  rw [View.read_apply]
  refine attention_congr _ _ _ ?_ ?_ ?_ ?_
  · show t.val / 128 = win0_7.index t 0 * 1 + 1 * 0; rw [g0]; omega
  · show t.val / 8 % 16 = (win0_7.index t 2 * 128 + 1 * d.val) / 128; rw [g2]; omega
  · show t.val % 8 * 1024 + g.val = win0_7.index t 1 * 1024 + 1 * g.val; rw [g1]; omega
  · show d.val = (win0_7.index t 2 * 128 + 1 * d.val) % 128; rw [g2]; omega

theorem cover7 (i : S2x8192x2048.Idx) : ∃ t : Fin cfg0.N, (cfg0.win 7).flush t = true ∧ i ∈ ((cfg0.win 7).blk t).view.set := by
  have h0 : (i 0).val < 2 := (i 0).isLt
  have h1 : (i 1).val < 8192 := (i 1).isLt
  have h2 : (i 2).val < 2048 := (i 2).isLt
  let t : Fin grid0.N := ⟨(i 0).val * 128 + (i 2).val / 128 * 8 + (i 1).val / 1024, by show _ < grid0.N; rw [Gen.N_0]; omega⟩
  obtain ⟨-, -, -, ⟨g0, g1, g2⟩, -⟩ := idx_in t
  have ht : t.val = (i 0).val * 128 + (i 2).val / 128 * 8 + (i 1).val / 1024 := rfl
  refine ⟨t, flush0_7 t, ?_⟩
  show i ∈ ((View.whole main_v29_0).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1
              rw [g0]; omega
  | ⟨1, _⟩ => show win0_7.index t 1 * 1024 ≤ (i 1 : Nat) ∧ (i 1 : Nat) < win0_7.index t 1 * 1024 + 1024
              rw [g1]; omega
  | ⟨2, _⟩ => show win0_7.index t 2 * 128 ≤ (i 2 : Nat) ∧ (i 2 : Nat) < win0_7.index t 2 * 128 + 128
              rw [g2]; omega

theorem final7 (c : Dev nD) (hq : ∀ b t h d, Fin' (inQ m c b t h d)) (hk : ∀ b t h d, Fin' (inK m c b t h d)) :
    (dats m 0 c).arrAt 7 cfg0.N = res7 m c :=
  (dats m 0 c).arrAt_eq_of_cover 7 (res7 m c) (fun t _ => flushed7 m c hq hk t) cover7

/-- The kernel's run: the five result arrays, and the arguments as they were. -/
theorem run_values (ρ : Dev nD → PrngReg) (hq : ∀ c b t h d, Fin' (inQ m c b t h d)) (hk : ∀ c b t h d, Fin' (inK m c b t h d)) :
    θ_run defs (onTc (τ := τ) (main (F := Ideal))) ⟨m, fun _ => 0, ρ⟩ (fun r => (∀ c : Dev nD,
      r.2.mem ((c.tc : Thread nD τ).loc main_v29_0) = res7 m c
      ∧ r.2.mem ((c.tc : Thread nD τ).loc main_v29_1) = res8 m c
      ∧ r.2.mem ((c.tc : Thread nD τ).loc main_v29_2) = res9 m c
      ∧ r.2.mem ((c.tc : Thread nD τ).loc main_v29_3) = res10 m c
      ∧ r.2.mem ((c.tc : Thread nD τ).loc main_v29_4) = res11 m c)) :=
  (θ_run defs _ _).mono (fun _ h c => ⟨(h c 7).trans (final7 m c (hq c) (hk c)), (h c 8).trans (final8 m c), (h c 9).trans (final9 m c),
    (h c 10).trans (final10 m c), (h c 11).trans (final11 m c)⟩) (run_blocks m ρ)

/-! ## The precondition -/

theorem fin_of_abs {x : EReal} (h : max x (-x) < ⊤) : Fin' x := by
  refine Fin'.of_ne (fun e => ?_) (fun e => ?_)
  · rw [e] at h; exact absurd h (by simp)
  · rw [e] at h; exact absurd h (by simp)

theorem top_bits : Ideal.ofBits FTy.f32 0x7F800000#32 = ⊤ := by simp [Ideal.ofBits, Ideal.ieee]

/-- Two conditions whose bits' conjunction is one both hold. -/
theorem both {p q : Prop} [Decidable p] [Decidable q]
    (h : IntOp.andi (BitVec.ofBool (decide p)) (BitVec.ofBool (decide q)) = 1#1) : p ∧ q := by
  by_cases hp : p <;> by_cases hq : q
  · exact ⟨hp, hq⟩
  all_goals simp only [hp, hq, decide_true, decide_false] at h; exact absurd h (by decide)

/-- The precondition, read at an index: query and key are finite. -/
theorem pre_apply (q k : FVec Ideal Cert.Pre_qk_finite.S2x8192x16x192 .f32) (v : FVec Ideal Cert.Pre_qk_finite.S2x8192x16x128 .f32)
    (a3 : FVec Ideal Cert.Pre_qk_finite.S9536x4096 .f32) (a4 : FVec Ideal Cert.Pre_qk_finite.S4096x4096 .f32)
    (a5 : FVec Ideal Cert.Pre_qk_finite.S4096x16384 .f32) (a6 : FVec Ideal Cert.Pre_qk_finite.S16384x4096 .f32)
    (h : Cert.Pre_qk_finite.fn q k v a3 a4 a5 a6 = fun _ => 1#1) (i : Cert.Pre_qk_finite.S2x8192x16x192.Idx) :
    Fin' (q i) ∧ Fin' (k i) := by
  have h1 := congrFun h i
  pointwise [Cert.Pre_qk_finite.fn] at h1
  rw [top_bits] at h1
  have h2 := both h1
  exact ⟨fin_of_abs h2.1, fin_of_abs h2.2⟩

/-! ## The claims -/

theorem queries_fin (h : Cert.Pre_FlashIdeal_qk_finite m) (c : Dev nD) (b : Fin 2) (t : Fin 8192) (n : Fin 16) (d : Fin 192) :
    Fin' (inQ m c b t n d) := (pre_apply _ _ _ _ _ _ _ (h c) (ix4 b t n d)).1

theorem keys_fin (h : Cert.Pre_FlashIdeal_qk_finite m) (c : Dev nD) (b : Fin 2) (t : Fin 8192) (n : Fin 16) (d : Fin 192) :
    Fin' (inK m c b t n d) := (pre_apply _ _ _ _ _ _ _ (h c) (ix4 b t n d)).2

/-- The reference's first result, from the kernel's arguments. -/
theorem ref_whole (c : Dev nD) : Cert.FlashRefIdeal.Val.whole (m ((c.tc : Thread nD τ).loc main_arg0)) (m ((c.tc : Thread nD τ).loc main_arg1))
    (m ((c.tc : Thread nD τ).loc main_arg2)) = res7 m c := by
  funext i
  obtain ⟨b, t, x, rfl⟩ : ∃ (b : Fin 2) (t : Fin 8192) (x : Fin 2048), i = ix3 b t x :=
    ⟨i 0, i 1, i 2, by funext a; fin_cases a <;> rfl⟩
  exact Cert.FlashRefIdeal.Val.whole_apply _ _ _ b t x

section Reference

open Cert.FlashRefIdeal.Facts₀ hiding bitsLt_bf16_f32

/-- The rows of the first weight. -/
theorem ref_rows (c : Dev nD) : truncf (F := Ideal) .bf16 (extractStridedSlice Cert.FlashRefIdeal.S8192x4096 ![0, 0]
    (show FVec Ideal Cert.FlashRefIdeal.S9536x4096 .f32 from m ((c.tc : Thread nD τ).loc main_arg3)) slices_S9536x4096_S8192x4096_0_0)
      bitsLt_bf16_f32 = res8 m c := by
  funext i
  obtain ⟨r, s, rfl⟩ : ∃ (r : Fin 8192) (s : Fin 4096), i = ix2 r s := ⟨i 0, i 1, two i⟩
  pointwise
  rfl

end Reference

/-- A weight cast is the weight. -/
theorem ref_cast {n0 n1 : ℕ} (x : FVec Ideal (⟨2, ![n0, n1]⟩ : Shape) .f32) (h : FTy.bf16.bits < FTy.f32.bits) :
    truncf (F := Ideal) .bf16 x h = fun i => x (ix2 (i 0 : Fin n0) (i 1 : Fin n1)) := by
  funext i
  exact congrArg x (two i)

/-- The reference's arguments end unchanged and its counters at zero: it declares no semaphore. -/
theorem frame_ref : Cert.quiescent_FlashRefIdeal := fun m ρ _ =>
  (θ_run _ _ _).mono (fun r h => ⟨fun c => (h c).2.2.2.2.2, sem_eq_zero_of_no_sems (by decide) r.2⟩) (Cert.FlashRefIdeal.Value.run m ρ)

/-- Kernel and reference end with the same five arrays. -/
theorem algebraic : Cert.algebraic_FlashIdeal_FlashRefIdeal_pre_qk_finite := fun m ρ m' ρ' hp hag =>
  ⟨fun c => res7 m c, fun c => res8 m c, fun c => res9 m c, fun c => res10 m c, fun c => res11 m c,
   (θ_run _ _ _).mono (fun _ h c => by
      obtain ⟨h7, h8, h9, h10, h11⟩ := h.1 c
      exact ⟨h7, h8, h9, h10, h11, h.2.1 c⟩)
     (θ_run_and (run_values m ρ (queries_fin m hp) (keys_fin m hp)) (frame_run m ρ)),
   (θ_run _ _ _).mono (fun _ h c => by
      obtain ⟨h7, h8, h9, h10, h11, hk⟩ := h c
      obtain ⟨a0, a1, a2, a3, a4, a5, a6⟩ := hag c
      rw [Cert.FlashRefIdeal.Val.whole_eq, a0, a1, a2] at h7
      rw [a3] at h8
      rw [a4] at h9
      rw [a5] at h10
      rw [a6] at h11
      exact ⟨h7.trans (ref_whole m c), h8.trans (ref_rows m c), h9.trans (ref_cast _ _), h10.trans (ref_cast _ _),
        h11.trans (ref_cast _ _), hk⟩)
     (Cert.FlashRefIdeal.Value.run m' ρ')⟩

end Cert.FlashIdeal.Val
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pre_ssq_nonneg
public import proofs.«01_k».proof.Proof.Gen.InProjIdeal.Value
public import proofs.«01_k».proof.Proof.Gen.UpIdeal.Value
public import proofs.«01_k».proof.Proof.Gen.DownIdeal.Value
public import proofs.«01_k».proof.Proof.Gen.InProjRefIdeal.Run
public import proofs.«01_k».proof.Proof.Gen.UpRefIdeal.Run
public import proofs.«01_k».proof.Proof.Gen.DownRefIdeal.Run
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Loops
public import proofs.«01_k».proof.Proof.Gen.Hgrn.Frame.Runs
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Loops
public import proofs.«01_k».proof.Proof.Gen.HgrnIdeal.Frame.Runs
public import proofs.«01_k».proof.Proof.Gen.HgrnRefIdeal
public import proofs.«01_k».proof.Proof.Gen.HgrnRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Flash
public import proofs.«01_k».proof.Proof.Gen.Flash.Skeleton
public import proofs.«01_k».proof.Proof.Gen.Flash.Launch
public import proofs.«01_k».proof.Proof.Gen.Flash.Points
public import proofs.«01_k».proof.Proof.Gen.Flash.Loops
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Loops
public import proofs.«01_k».proof.Proof.Gen.FlashIdeal.Frame
public import proofs.«01_k».proof.Proof.Gen.FlashRefIdeal
public import proofs.«01_k».proof.Proof.Gen.FlashRefIdeal.Run
public import proofs.«01_k».proof.Proof.Gen.Pre_qk_finite
public import proofs.«01_k».proof.Proof.InProjValue
public import proofs.«01_k».proof.Proof.UpValue
public import proofs.«01_k».proof.Proof.DownValue
public import proofs.«01_k».proof.Proof.OutValue
public import proofs.«01_k».proof.Proof.NormValue
public import proofs.«01_k».proof.Proof.HgrnFrame
public import proofs.«01_k».proof.Proof.HgrnValue
public import proofs.«01_k».proof.Proof.FlashFrame
public import proofs.«01_k».proof.Proof.FlashValue
public import Idealize.ShloMosaic.Adequacy
public import Idealize.ShloMosaic.Init

@[expose] public section

noncomputable section

namespace Cert.Proof

open Idealize.ShloMosaic Idealize.SL.Sem

theorem claim : Cert.Claim :=
  ⟨Cert.InProj.Gen.facts, Cert.InProjIdeal.Gen.facts, Cert.InProjRefIdeal.Gen.facts, Cert.Up.Gen.facts, Cert.UpIdeal.Gen.facts,
    Cert.UpRefIdeal.Gen.facts, Cert.Down.Gen.facts, Cert.DownIdeal.Gen.facts, Cert.DownRefIdeal.Gen.facts,
    Cert.Hgrn.Gen.facts, Cert.HgrnIdeal.Gen.facts, Cert.HgrnRefIdeal.Gen.facts,
    Cert.Out.Gen.facts, Cert.OutIdeal.Gen.facts, Cert.OutRefIdeal.Gen.facts,
    Cert.Norm.Gen.facts, Cert.NormIdeal.Gen.facts, Cert.NormRefIdeal.Gen.facts,
    Cert.Flash.Gen.facts, Cert.FlashIdeal.Gen.facts, Cert.FlashRefIdeal.Gen.facts, Cert.Pre_ssq_nonneg.Gen.facts, Cert.Pre_qk_finite.Gen.facts,
    fun m ρ _ => Cert.InProj.Gen.frame m ρ, fun m ρ _ => Cert.InProjIdeal.Gen.frame m ρ, Cert.InProjIdeal.Val.frame_ref,
    fun m ρ _ => Cert.Up.Gen.frame m ρ, fun m ρ _ => Cert.UpIdeal.Gen.frame m ρ, fun m ρ _ => Cert.UpIdeal.Gen.frame m ρ,
    Cert.UpIdeal.Val.frame_ref, fun m ρ _ => Cert.UpIdeal.Val.frame_ref m ρ trivial,
    fun m ρ _ => Cert.Down.Gen.frame m ρ, fun m ρ _ => Cert.DownIdeal.Gen.frame m ρ, Cert.DownIdeal.Val.frame_ref,
    Cert.Hgrn.Val.frame, fun m ρ _ => Cert.HgrnIdeal.Val.frame_run m ρ, Cert.HgrnIdeal.Val.frame_ref,
    fun m ρ _ => Cert.Out.Gen.frame m ρ, fun m ρ _ => Cert.OutIdeal.Gen.frame m ρ, Cert.OutIdeal.Val.frame_ref,
    fun m ρ _ => Cert.Norm.Gen.frame m ρ, fun m ρ _ => Cert.NormIdeal.Gen.frame m ρ, Cert.NormIdeal.Val.frame_ref,
    Cert.Flash.Val.frame, fun m ρ _ => Cert.FlashIdeal.Val.frame_run m ρ, fun m ρ _ => Cert.FlashIdeal.Val.frame_run m ρ,
    Cert.FlashIdeal.Val.frame_ref, fun m ρ _ => Cert.FlashIdeal.Val.frame_ref m ρ trivial,
    trivial, Cert.InProjIdeal.Val.algebraic, trivial, Cert.UpIdeal.Val.algebraic, trivial, Cert.DownIdeal.Val.algebraic,
    trivial, Cert.HgrnIdeal.Val.algebraic, trivial, Cert.OutIdeal.Val.algebraic,
    trivial, Cert.NormIdeal.Val.algebraic, trivial, Cert.FlashIdeal.Val.algebraic⟩

end Cert.Proof

end
